-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v20)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v20) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v31) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  IdealRules.named_const.Statement Cert.Kernel9Ideal.κ "width" .f32 0x3BAAAAAB#32 ((1 / 192 : ℝ) : EReal)
  ∧ IdealRules.named_const.Statement Cert.Kernel9Ideal.κ "root" .f32 0x3D93CD3A#32 (((Real.sqrt 192)⁻¹ : ℝ) : EReal)

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)) →
    ∃ (v0 : (c : Dev Cert.Kernel9Ideal.nD) → Buf (Elt Ideal) ((c.tc : Thread Cert.Kernel9Ideal.nD Cert.Kernel9Ideal.τ).loc Cert.Kernel9Ideal.main_v81_0)) (v1 : (c : Dev Cert.Kernel9Ideal.nD) → Buf (Elt Ideal) ((c.tc : Thread Cert.Kernel9Ideal.nD Cert.Kernel9Ideal.τ).loc Cert.Kernel9Ideal.main_v81_1)) (v2 : (c : Dev Cert.Kernel9Ideal.nD) → Buf (Elt Ideal) ((c.tc : Thread Cert.Kernel9Ideal.nD Cert.Kernel9Ideal.τ).loc Cert.Kernel9Ideal.main_v81_2)) (v3 : (c : Dev Cert.Kernel9Ideal.nD) → Buf (Elt Ideal) ((c.tc : Thread Cert.Kernel9Ideal.nD Cert.Kernel9Ideal.τ).loc Cert.Kernel9Ideal.main_v81_3)) (v4 : (c : Dev Cert.Kernel9Ideal.nD) → Buf (Elt Ideal) ((c.tc : Thread Cert.Kernel9Ideal.nD Cert.Kernel9Ideal.τ).loc Cert.Kernel9Ideal.main_v81_4)) (v5 : (c : Dev Cert.Kernel9Ideal.nD) → Buf (Elt Ideal) ((c.tc : Thread Cert.Kernel9Ideal.nD Cert.Kernel9Ideal.τ).loc Cert.Kernel9Ideal.main_v81_5)) (v6 : (c : Dev Cert.Kernel9Ideal.nD) → Buf (Elt Ideal) ((c.tc : Thread Cert.Kernel9Ideal.nD Cert.Kernel9Ideal.τ).loc Cert.Kernel9Ideal.main_v81_6)) (v7 : (c : Dev Cert.Kernel9Ideal.nD) → Buf (Elt Ideal) ((c.tc : Thread Cert.Kernel9Ideal.nD Cert.Kernel9Ideal.τ).loc Cert.Kernel9Ideal.main_v81_7)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v81_0) = v0 c
          ∧ r.2.mem ((c.tc : Thread Cert.Kernel9Ideal.nD Cert.Kernel9Ideal.τ).loc Cert.Kernel9Ideal.main_v81_1) = v1 c
          ∧ r.2.mem ((c.tc : Thread Cert.Kernel9Ideal.nD Cert.Kernel9Ideal.τ).loc Cert.Kernel9Ideal.main_v81_2) = v2 c
          ∧ r.2.mem ((c.tc : Thread Cert.Kernel9Ideal.nD Cert.Kernel9Ideal.τ).loc Cert.Kernel9Ideal.main_v81_3) = v3 c
          ∧ r.2.mem ((c.tc : Thread Cert.Kernel9Ideal.nD Cert.Kernel9Ideal.τ).loc Cert.Kernel9Ideal.main_v81_4) = v4 c
          ∧ r.2.mem ((c.tc : Thread Cert.Kernel9Ideal.nD Cert.Kernel9Ideal.τ).loc Cert.Kernel9Ideal.main_v81_5) = v5 c
          ∧ r.2.mem ((c.tc : Thread Cert.Kernel9Ideal.nD Cert.Kernel9Ideal.τ).loc Cert.Kernel9Ideal.main_v81_6) = v6 c
          ∧ r.2.mem ((c.tc : Thread Cert.Kernel9Ideal.nD Cert.Kernel9Ideal.τ).loc Cert.Kernel9Ideal.main_v81_7) = v7 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v95) = v0 c
          ∧ r.2.mem ((c.tc : Thread Cert.Reference9Ideal.nD Cert.Reference9Ideal.τ).loc Cert.Reference9Ideal.main_v159) = v1 c
          ∧ r.2.mem ((c.tc : Thread Cert.Reference9Ideal.nD Cert.Reference9Ideal.τ).loc Cert.Reference9Ideal.main_v157) = v2 c
          ∧ r.2.mem ((c.tc : Thread Cert.Reference9Ideal.nD Cert.Reference9Ideal.τ).loc Cert.Reference9Ideal.main_v169) = v3 c
          ∧ r.2.mem ((c.tc : Thread Cert.Reference9Ideal.nD Cert.Reference9Ideal.τ).loc Cert.Reference9Ideal.main_v170) = v4 c
          ∧ r.2.mem ((c.tc : Thread Cert.Reference9Ideal.nD Cert.Reference9Ideal.τ).loc Cert.Reference9Ideal.main_v171) = v5 c
          ∧ r.2.mem ((c.tc : Thread Cert.Reference9Ideal.nD Cert.Reference9Ideal.τ).loc Cert.Reference9Ideal.main_v173) = v6 c
          ∧ r.2.mem ((c.tc : Thread Cert.Reference9Ideal.nD Cert.Reference9Ideal.τ).loc Cert.Reference9Ideal.main_v177) = v7 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v6)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v6) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v33) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S8320x4096 : Shape := ⟨2, ![8320, 4096]⟩
abbrev S4096 : Shape := ⟨1, ![4096]⟩
abbrev S4096x8 : Shape := ⟨2, ![4096, 8]⟩
abbrev S_ : Shape := ⟨0, ![]⟩

class Facts : Prop where
  bcast_S_S8320x4096 : S_.BroadcastsInDim S8320x4096 (![] : Fin 0 → Fin S8320x4096.rank)
  bcast_S_S4096 : S_.BroadcastsInDim S4096 (![] : Fin 0 → Fin S4096.rank)
  bcast_S_S4096x8 : S_.BroadcastsInDim S4096x8 (![] : Fin 0 → Fin S4096x8.rank)

variable [Facts]

def fn {F : FTy → Type} [FloatOps F] (main_arg0 : FVec F S8320x4096 .f32) (main_arg1 : FVec F S4096 .f32) (main_arg2 : FVec F S4096x8 .f32) : IVec S8320x4096 1 × IVec S4096 1 × IVec S4096x8 1 :=
  let main_v0 : FVec F S8320x4096 .f32 := Host.absf main_arg0
  let main_cst : FVec F S_ .f32 := constant S_ .f32 0x7F800000#32
  let main_v1 : FVec F S8320x4096 .f32 := broadcastInDim S8320x4096 ![] bcast_S_S8320x4096 main_cst
  let main_v2 : IVec S8320x4096 1 := cmpf .olt main_v0 main_v1
  let main_v3 : FVec F S4096 .f32 := Host.absf main_arg1
  let main_cst_0 : FVec F S_ .f32 := constant S_ .f32 0x7F800000#32
  let main_v4 : FVec F S4096 .f32 := broadcastInDim S4096 ![] bcast_S_S4096 main_cst_0
  let main_v5 : IVec S4096 1 := cmpf .olt main_v3 main_v4
  let main_v6 : FVec F S4096x8 .f32 := Host.absf main_arg2
  let main_cst_1 : FVec F S_ .f32 := constant S_ .f32 0x7F800000#32
  let main_v7 : FVec F S4096x8 .f32 := broadcastInDim S4096x8 ![] bcast_S_S4096x8 main_cst_1
  let main_v8 : IVec S4096x8 1 := cmpf .olt main_v6 main_v7
  (main_v2, main_v5, main_v8)
-- ==== Kernel.lean ====
abbrev S8320x4096 : Shape := ⟨2, ![8320, 4096]⟩
abbrev S4096 : Shape := ⟨1, ![4096]⟩
abbrev S4096x8 : Shape := ⟨2, ![4096, 8]⟩
abbrev S_ : Shape := ⟨0, ![]⟩
abbrev S4096x128 : Shape := ⟨2, ![4096, 128]⟩
abbrev S1x4096 : Shape := ⟨2, ![1, 4096]⟩
abbrev S8320x128 : Shape := ⟨2, ![8320, 128]⟩
abbrev S320x4096 : Shape := ⟨2, ![320, 4096]⟩
abbrev S320x128 : Shape := ⟨2, ![320, 128]⟩
abbrev S320 : Shape := ⟨1, ![320]⟩
abbrev S320x1 : Shape := ⟨2, ![320, 1]⟩

abbrev nBuf : Space → Nat
  | .hbm => 8
  | .vmem => 6
  | .smem => 0
  | _ => 0

abbrev bufTy : (tb : Table) → Fin (tcTables nBuf tb) → BufTy
  | .hbm, ⟨0, _⟩ => ⟨S8320x4096, .f32⟩
  | .hbm, ⟨1, _⟩ => ⟨S4096, .f32⟩
  | .hbm, ⟨2, _⟩ => ⟨S4096x8, .f32⟩
  | .hbm, ⟨3, _⟩ => ⟨S_, .i32⟩
  | .hbm, ⟨4, _⟩ => ⟨S_, .f32⟩
  | .hbm, ⟨5, _⟩ => ⟨S4096x128, .f32⟩
  | .hbm, ⟨6, _⟩ => ⟨S1x4096, .f32⟩
  | .hbm, ⟨7, _⟩ => ⟨S8320x128, .f32⟩
  | .local _ .vmem, ⟨0, _⟩ => ⟨S320x4096, .f32⟩
  | .local _ .vmem, ⟨1, _⟩ => ⟨S320x4096, .f32⟩
  | .local _ .vmem, ⟨2, _⟩ => ⟨S1x4096, .f32⟩
  | .local _ .vmem, ⟨3, _⟩ => ⟨S4096x128, .f32⟩
  | .local _ .vmem, ⟨4, _⟩ => ⟨S320x128, .f32⟩
  | .local _ .vmem, ⟨5, _⟩ => ⟨S320x128, .f32⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S320x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8320x4096 : Shape := ⟨2, ![8320, 4096]⟩
abbrev S4096 : Shape := ⟨1, ![4096]⟩
abbrev S4096x8 : Shape := ⟨2, ![4096, 8]⟩
abbrev S_ : Shape := ⟨0, ![]⟩
abbrev S8320 : Shape := ⟨1, ![8320]⟩
abbrev S8320x1 : Shape := ⟨2, ![8320, 1]⟩
abbrev S1x4096 : Shape := ⟨2, ![1, 4096]⟩
abbrev S8320x8 : Shape := ⟨2, ![8320, 8]⟩
abbrev S8320x2 : Shape := ⟨2, ![8320, 2]⟩
abbrev S8320x2x1 : Shape := ⟨3, ![8320, 2, 1]⟩
abbrev S1x1x8 : Shape := ⟨3, ![1, 1, 8]⟩
abbrev S8320x2x8 : Shape := ⟨3, ![8320, 2, 8]⟩
abbrev S8320x128 : Shape := ⟨2, ![8320, 128]⟩

abbrev nBuf : Space → Nat
  | .hbm => 50
  | .vmem => 0
  | .smem => 0
  | _ => 0

abbrev bufTy : (tb : Table) → Fin (tcTables nBuf tb) → BufTy
  | .hbm, ⟨0, _⟩ => ⟨S8320x4096, .f32⟩
  | .hbm, ⟨1, _⟩ => ⟨S4096, .f32⟩
  | .hbm, ⟨2, _⟩ => ⟨S4096x8, .f32⟩
  | .hbm, ⟨3, _⟩ => ⟨S8320x4096, .f32⟩
  | .hbm, ⟨4, _⟩ => ⟨S_, .f32⟩
  | .hbm, ⟨5, _⟩ => ⟨S8320, .f32⟩
  | .hbm, ⟨6, _⟩ => ⟨S8320x1, .f32⟩
  | .hbm, ⟨7, _⟩ => ⟨S_, .f32⟩
  | .hbm, ⟨8, _⟩ => ⟨S8320x1, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S8320x1, .f32⟩
  | .hbm, ⟨14, _⟩ => ⟨S8320x4096, .f32⟩
  | .hbm, ⟨15, _⟩ => ⟨S8320x4096, .f32⟩
  | .hbm, ⟨16, _⟩ => ⟨S1x4096, .f32⟩
  | .hbm, ⟨17, _⟩ => ⟨S8320x4096, .f32⟩
  | .hbm, ⟨18, _⟩ => ⟨S8320x4096, .f32⟩
  | .hbm, ⟨19, _⟩ => ⟨S8320x8, .f32⟩
  | .hbm, ⟨20, _⟩ => ⟨S8320x2, .f32⟩
  | .hbm, ⟨21, _⟩ => ⟨S8320x2, .i32⟩
  | .hbm, ⟨22, _⟩ => ⟨S_, .f32⟩
  | .hbm, ⟨23, _⟩ => ⟨S8320, .f32⟩
  | .hbm, ⟨24, _⟩ => ⟨S_, .f32⟩
  | .hbm, ⟨25, _⟩ => ⟨S8320, .f32⟩
  | .hbm, ⟨26, _⟩ => ⟨S8320, .f32⟩
  | .hbm, ⟨27, _⟩ => ⟨S8320x1, .f32⟩
  | .hbm, ⟨28, _⟩ => ⟨S8320x2, .f32⟩
  | .hbm, ⟨29, _⟩ => ⟨S8320x2, .f32⟩
  | .hbm, ⟨30, _⟩ => ⟨S8320x2, .f32⟩
  | .hbm, ⟨31, _⟩ => ⟨S_, .f32⟩
  | .hbm, ⟨32, _⟩ => ⟨S8320, .f32⟩
  | .hbm, ⟨33, _⟩ => ⟨S8320x1, .f32⟩
  | .hbm, ⟨34, _⟩ => ⟨S8320x2, .f32⟩
  | .hbm, ⟨35, _⟩ => ⟨S8320x2, .f32⟩
  | .hbm, ⟨36, _⟩ => ⟨S8320x2x1, .i32⟩
  | .hbm, ⟨37, _⟩ => ⟨S1x1x8, .i32⟩
  | .hbm, ⟨38, _⟩ => ⟨S8320x2x8, .i32⟩
  | .hbm, ⟨39, _⟩ => ⟨S8320x2x8, .i32⟩
  | .hbm, ⟨40, _⟩ => ⟨S8320x2x8, .i1⟩
  | .hbm, ⟨41, _⟩ => ⟨S8320x2x8, .f32⟩
  | .hbm, ⟨42, _⟩ => ⟨S8320x2x1, .f32⟩
  | .hbm, ⟨43, _⟩ => ⟨S8320x2x8, .f32⟩
  | .hbm, ⟨44, _⟩ => ⟨S8320x2x8, .f32⟩
  | .hbm, ⟨45, _⟩ => ⟨S_, .f32⟩
  | .hbm, ⟨46, _⟩ => ⟨S8320x8, .f32⟩
  | .hbm, ⟨47, _⟩ => ⟨S_, .i32⟩
  | .hbm, ⟨48, _⟩ => ⟨S_, .f32⟩
  | .hbm, ⟨49, _⟩ => ⟨S8320x128, .f32⟩
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_values : Ref sig .tc := ⟨.hbm, 20, rfl⟩
abbrev main_indices : Ref sig .tc := ⟨.hbm, 21, rfl⟩
abbrev main_cst_2 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_c : Ref sig .tc := ⟨.hbm, 47, rfl⟩
abbrev main_call1_v0 : Ref sig .tc := ⟨.hbm, 48, rfl⟩
abbrev main_v30 : Ref sig .tc := ⟨.hbm, 49, rfl⟩

abbrev nD : Nat := 1
abbrev τ : Topo := Topo.v7x

variable {F : FTy → Type} [FloatOps F]
-- ==== Kernel2.lean ====
abbrev S8320x4096 : Shape := ⟨2, ![8320, 4096]⟩
abbrev S8x4096x2048 : Shape := ⟨3, ![8, 4096, 2048]⟩
abbrev S8320x128 : Shape := ⟨2, ![8320, 128]⟩
abbrev S8320x16384 : Shape := ⟨2, ![8320, 16384]⟩
abbrev S1664x4096 : Shape := ⟨2, ![1664, 4096]⟩
abbrev S1x4096x256 : Shape := ⟨3, ![1, 4096, 256]⟩
abbrev S1664x128 : Shape := ⟨2, ![1664, 128]⟩
abbrev S1664x256 : Shape := ⟨2, ![1664, 256]⟩
abbrev S4096x256 : Shape := ⟨2, ![4096, 256]⟩
abbrev S1664 : Shape := ⟨1, ![1664]⟩
abbrev S1664x1 : Shape := ⟨2, ![1664, 1]⟩

abbrev nBuf : Space → Nat
  | .hbm => 5
  | .vmem => 10
  | .smem => 0
  | _ => 0

abbrev bufTy : (tb : Table) → Fin (tcTables nBuf tb) → BufTy
  | .hbm, ⟨0, _⟩ => ⟨S8320x4096, .bf16⟩
  | .hbm, ⟨1, _⟩ => ⟨S8x4096x2048, .f32⟩
  | .hbm, ⟨2, _⟩ => ⟨S8x4096x2048, .f32⟩
  | .hbm, ⟨3, _⟩ => ⟨S8320x128, .f32⟩
  | .hbm, ⟨4, _⟩ => ⟨S8320x16384, .bf16⟩
  | .local _ .vmem, ⟨0, _⟩ => ⟨S1664x4096, .bf16⟩
  | .local _ .vmem, ⟨1, _⟩ => ⟨S1664x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1664x128, .f32⟩
  | .local _ .vmem, ⟨7, _⟩ => ⟨S1664x128, .f32⟩
  | .local _ .vmem, ⟨8, _⟩ => ⟨S1664x256, .bf16⟩
  | .local _ .vmem, ⟨9, _⟩ => ⟨S1664x256, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![5, 8, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  ![arg0.toNat, v1.toNat]

abbrev stage0_0 : Fin 2 → Memref sig .tc .vmem S1664x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1664x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1664x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference2Ideal.lean ====
abbrev S8320x4096 : Shape := ⟨2, ![8320, 4096]⟩
abbrev S8x4096x2048 : Shape := ⟨3, ![8, 4096, 2048]⟩
abbrev S8320x128 : Shape := ⟨2, ![8320, 128]⟩
abbrev S8320x8x2048 : Shape := ⟨3, ![8320, 8, 2048]⟩
abbrev S8320x8 : Shape := ⟨2, ![8320, 8]⟩
abbrev S8320x8x1 : Shape := ⟨3, ![8320, 8, 1]⟩
abbrev S_ : Shape := ⟨0, ![]⟩
abbrev S8320x16384 : Shape := ⟨2, ![8320, 16384]⟩

abbrev nBuf : Space → Nat
  | .hbm => 23
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S8x4096x2048, .f32⟩
  | .hbm, ⟨2, _⟩ => ⟨S8x4096x2048, .f32⟩
  | .hbm, ⟨3, _⟩ => ⟨S8320x128, .f32⟩
  | .hbm, ⟨4, _⟩ => ⟨S8320x4096, .f32⟩
  | .hbm, ⟨5, _⟩ => ⟨S8320x8x2048, .f32⟩
  | .hbm, ⟨6, _⟩ => ⟨S8320x8x2048, .f32⟩
  | .hbm, ⟨7, _⟩ => ⟨S8320x8, .f32⟩
  | .hbm, ⟨8, _⟩ => ⟨S8320x8x1, .f32⟩
  | .hbm, ⟨9, _⟩ => ⟨S8320x8x2048, .f32⟩
  | .hbm, ⟨10, _⟩ => ⟨S8320x8x2048, .f32⟩
  | .hbm, ⟨11, _⟩ => ⟨S_, .f32⟩
  | .hbm, ⟨12, _⟩ => ⟨S8320x8x2048, .f32⟩
  | .hbm, ⟨13, _⟩ => ⟨S8320x8x2048, .f32⟩
  | .hbm, ⟨14, _⟩ => ⟨S_, .f32⟩
  | .hbm, ⟨15, _⟩ => ⟨S8320x8x2048, .f32⟩
  | .hbm, ⟨16, _⟩ => ⟨S8320x8x2048, .f32⟩
  | .hbm, ⟨17, _⟩ => ⟨S8320x8x2048, .f32⟩
  | .hbm, ⟨18, _⟩ => ⟨S8320x8x2048, .f32⟩
  | .hbm, ⟨19, _⟩ => ⟨S8320x8x2048, .f32⟩
  | .hbm, ⟨20, _⟩ => ⟨S8320x8x2048, .f32⟩
  | .hbm, ⟨21, _⟩ => ⟨S8320x8x2048, .bf16⟩
  | .hbm, ⟨22, _⟩ => ⟨S8320x16384, .bf16⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Kernel3.lean ====
abbrev S8320x16384 : Shape := ⟨2, ![8320, 16384]⟩
abbrev S1x8x2048x4096 : Shape := ⟨4, ![1, 8, 2048, 4096]⟩
abbrev S8320x4096 : Shape := ⟨2, ![8320, 4096]⟩
abbrev S1x16384x4096 : Shape := ⟨3, ![1, 16384, 4096]⟩
abbrev S1664x2048 : Shape := ⟨2, ![1664, 2048]⟩
abbrev S1x2048x512 : Shape := ⟨3, ![1, 2048, 512]⟩
abbrev S1664x512 : Shape := ⟨2, ![1664, 512]⟩
abbrev S2048x512 : Shape := ⟨2, ![2048, 512]⟩

abbrev nBuf : Space → Nat
  | .hbm => 5
  | .vmem => 9
  | .smem => 0
  | _ => 0

abbrev bufTy : (tb : Table) → Fin (tcTables nBuf tb) → BufTy
  | .hbm, ⟨0, _⟩ => ⟨S8320x16384, .bf16⟩
  | .hbm, ⟨1, _⟩ => ⟨S1x8x2048x4096, .f32⟩
  | .hbm, ⟨2, _⟩ => ⟨S8320x4096, .f32⟩
  | .hbm, ⟨3, _⟩ => ⟨S1x16384x4096, .f32⟩
  | .hbm, ⟨4, _⟩ => ⟨S8320x4096, .f32⟩
  | .local _ .vmem, ⟨0, _⟩ => ⟨S1664x2048, .bf16⟩
  | .local _ .vmem, ⟨1, _⟩ => ⟨S1664x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1664x512, .f32⟩
  | .local _ .vmem, ⟨5, _⟩ => ⟨S1664x512, .f32⟩
  | .local _ .vmem, ⟨6, _⟩ => ⟨S1664x512, .f32⟩
  | .local _ .vmem, ⟨7, _⟩ => ⟨S1664x512, .f32⟩
  | .local _ .vmem, ⟨8, _⟩ => ⟨S1664x512, .f32⟩
  | _, _ => ⟨S8320x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![5, 8, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1664x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S8320x16384 : Shape := ⟨2, ![8320, 16384]⟩
abbrev S1x8x2048x4096 : Shape := ⟨4, ![1, 8, 2048, 4096]⟩
abbrev S8320x4096 : Shape := ⟨2, ![8320, 4096]⟩
abbrev S8320x8x2048 : Shape := ⟨3, ![8320, 8, 2048]⟩
abbrev S8x2048x4096 : Shape := ⟨3, ![8, 2048, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8320x16384, .bf16⟩
  | .hbm, ⟨1, _⟩ => ⟨S1x8x2048x4096, .f32⟩
  | .hbm, ⟨2, _⟩ => ⟨S8320x4096, .f32⟩
  | .hbm, ⟨3, _⟩ => ⟨S8320x16384, .f32⟩
  | .hbm, ⟨4, _⟩ => ⟨S8320x8x2048, .f32⟩
  | .hbm, ⟨5, _⟩ => ⟨S8x2048x4096, .f32⟩
  | .hbm, ⟨6, _⟩ => ⟨S8320x4096, .f32⟩
  | .hbm, ⟨7, _⟩ => ⟨S8320x4096, .f32⟩
  | _, _ => ⟨S8320x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S8320x4096 : Shape := ⟨2, ![8320, 4096]⟩
abbrev S2x4096x21840 : Shape := ⟨3, ![2, 4096, 21840]⟩
abbrev S1x4096x21840 : Shape := ⟨3, ![1, 4096, 21840]⟩
abbrev S4096x21840 : Shape := ⟨2, ![4096, 21840]⟩
abbrev S4096x12288 : Shape := ⟨2, ![4096, 12288]⟩
abbrev S4096x1024 : Shape := ⟨2, ![4096, 1024]⟩
abbrev S4096x2048 : Shape := ⟨2, ![4096, 2048]⟩
abbrev S4096x768 : Shape := ⟨2, ![4096, 768]⟩
abbrev S4096x256 : Shape := ⟨2, ![4096, 256]⟩
abbrev S4096x128 : Shape := ⟨2, ![4096, 128]⟩
abbrev S4096x64 : Shape := ⟨2, ![4096, 64]⟩
abbrev S_ : Shape := ⟨0, ![]⟩
abbrev S4096x8 : Shape := ⟨2, ![4096, 8]⟩
abbrev S4096x112 : Shape := ⟨2, ![4096, 112]⟩
abbrev S4096x22016 : Shape := ⟨2, ![4096, 22016]⟩
abbrev S1x4096x22016 : Shape := ⟨3, ![1, 4096, 22016]⟩
abbrev S8320x22016 : Shape := ⟨2, ![8320, 22016]⟩
abbrev S1664x4096 : Shape := ⟨2, ![1664, 4096]⟩
abbrev S1x4096x512 : Shape := ⟨3, ![1, 4096, 512]⟩
abbrev S1664x512 : Shape := ⟨2, ![1664, 512]⟩
abbrev S4096x512 : Shape := ⟨2, ![4096, 512]⟩

abbrev nBuf : Space → Nat
  | .hbm => 25
  | .vmem => 6
  | .smem => 0
  | _ => 0

abbrev bufTy : (tb : Table) → Fin (tcTables nBuf tb) → BufTy
  | .hbm, ⟨0, _⟩ => ⟨S8320x4096, .bf16⟩
  | .hbm, ⟨1, _⟩ => ⟨S2x4096x21840, .f32⟩
  | .hbm, ⟨2, _⟩ => ⟨S1x4096x21840, .f32⟩
  | .hbm, ⟨3, _⟩ => ⟨S4096x21840, .f32⟩
  | .hbm, ⟨4, _⟩ => ⟨S4096x12288, .f32⟩
  | .hbm, ⟨5, _⟩ => ⟨S4096x1024, .f32⟩
  | .hbm, ⟨6, _⟩ => ⟨S4096x1024, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x768, .f32⟩
  | .hbm, ⟨11, _⟩ => ⟨S4096x256, .f32⟩
  | .hbm, ⟨12, _⟩ => ⟨S4096x128, .f32⟩
  | .hbm, ⟨13, _⟩ => ⟨S4096x128, .f32⟩
  | .hbm, ⟨14, _⟩ => ⟨S4096x64, .f32⟩
  | .hbm, ⟨15, _⟩ => ⟨S_, .f32⟩
  | .hbm, ⟨16, _⟩ => ⟨S4096x64, .f32⟩
  | .hbm, ⟨17, _⟩ => ⟨S4096x8, .f32⟩
  | .hbm, ⟨18, _⟩ => ⟨S4096x8, .f32⟩
  | .hbm, ⟨19, _⟩ => ⟨S_, .f32⟩
  | .hbm, ⟨20, _⟩ => ⟨S4096x112, .f32⟩
  | .hbm, ⟨21, _⟩ => ⟨S4096x22016, .f32⟩
  | .hbm, ⟨22, _⟩ => ⟨S4096x22016, .bf16⟩
  | .hbm, ⟨23, _⟩ => ⟨S1x4096x22016, .bf16⟩
  | .hbm, ⟨24, _⟩ => ⟨S8320x22016, .f32⟩
  | .local _ .vmem, ⟨0, _⟩ => ⟨S1664x4096, .bf16⟩
  | .local _ .vmem, ⟨1, _⟩ => ⟨S1664x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1664x512, .f32⟩
  | .local _ .vmem, ⟨5, _⟩ => ⟨S1664x512, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 43, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8320x4096 : Shape := ⟨2, ![8320, 4096]⟩
abbrev S2x4096x21840 : Shape := ⟨3, ![2, 4096, 21840]⟩
abbrev S1x4096x21840 : Shape := ⟨3, ![1, 4096, 21840]⟩
abbrev S4096x21840 : Shape := ⟨2, ![4096, 21840]⟩
abbrev S8320x21840 : Shape := ⟨2, ![8320, 21840]⟩
abbrev S8320x1024 : Shape := ⟨2, ![8320, 1024]⟩
abbrev S8320x2048 : Shape := ⟨2, ![8320, 2048]⟩
abbrev S8320x8 : Shape := ⟨2, ![8320, 8]⟩
abbrev S8320x768 : Shape := ⟨2, ![8320, 768]⟩
abbrev S8320x256 : Shape := ⟨2, ![8320, 256]⟩
abbrev S8320x64 : Shape := ⟨2, ![8320, 64]⟩
abbrev S8320x128 : Shape := ⟨2, ![8320, 128]⟩
abbrev S8320x12288 : Shape := ⟨2, ![8320, 12288]⟩
abbrev S_ : Shape := ⟨0, ![]⟩
abbrev S8320x112 : Shape := ⟨2, ![8320, 112]⟩
abbrev S8320x22016 : Shape := ⟨2, ![8320, 22016]⟩

abbrev nBuf : Space → Nat
  | .hbm => 24
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S2x4096x21840, .f32⟩
  | .hbm, ⟨2, _⟩ => ⟨S8320x4096, .f32⟩
  | .hbm, ⟨3, _⟩ => ⟨S1x4096x21840, .f32⟩
  | .hbm, ⟨4, _⟩ => ⟨S4096x21840, .f32⟩
  | .hbm, ⟨5, _⟩ => ⟨S8320x21840, .f32⟩
  | .hbm, ⟨6, _⟩ => ⟨S8320x1024, .f32⟩
  | .hbm, ⟨7, _⟩ => ⟨S8320x1024, .f32⟩
  | .hbm, ⟨8, _⟩ => ⟨S8320x2048, .f32⟩
  | .hbm, ⟨9, _⟩ => ⟨S8320x2048, .f32⟩
  | .hbm, ⟨10, _⟩ => ⟨S8320x8, .f32⟩
  | .hbm, ⟨11, _⟩ => ⟨S8320x8, .f32⟩
  | .hbm, ⟨12, _⟩ => ⟨S8320x768, .f32⟩
  | .hbm, ⟨13, _⟩ => ⟨S8320x256, .f32⟩
  | .hbm, ⟨14, _⟩ => ⟨S8320x64, .f32⟩
  | .hbm, ⟨15, _⟩ => ⟨S8320x2048, .f32⟩
  | .hbm, ⟨16, _⟩ => ⟨S8320x128, .f32⟩
  | .hbm, ⟨17, _⟩ => ⟨S8320x128, .f32⟩
  | .hbm, ⟨18, _⟩ => ⟨S8320x12288, .f32⟩
  | .hbm, ⟨19, _⟩ => ⟨S_, .f32⟩
  | .hbm, ⟨20, _⟩ => ⟨S8320x64, .f32⟩
  | .hbm, ⟨21, _⟩ => ⟨S_, .f32⟩
  | .hbm, ⟨22, _⟩ => ⟨S8320x112, .f32⟩
  | .hbm, ⟨23, _⟩ => ⟨S8320x22016, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== Kernel5.lean ====
abbrev S8320x4096 : Shape := ⟨2, ![8320, 4096]⟩
abbrev S1x4096x11008 : Shape := ⟨3, ![1, 4096, 11008]⟩
abbrev S8320x11008 : Shape := ⟨2, ![8320, 11008]⟩
abbrev S1664x4096 : Shape := ⟨2, ![1664, 4096]⟩
abbrev S1x4096x256 : Shape := ⟨3, ![1, 4096, 256]⟩
abbrev S1664x256 : Shape := ⟨2, ![1664, 256]⟩
abbrev S4096x256 : Shape := ⟨2, ![4096, 256]⟩

abbrev nBuf : Space → Nat
  | .hbm => 4
  | .vmem => 8
  | .smem => 0
  | _ => 0

abbrev bufTy : (tb : Table) → Fin (tcTables nBuf tb) → BufTy
  | .hbm, ⟨0, _⟩ => ⟨S8320x4096, .bf16⟩
  | .hbm, ⟨1, _⟩ => ⟨S1x4096x11008, .f32⟩
  | .hbm, ⟨2, _⟩ => ⟨S1x4096x11008, .f32⟩
  | .hbm, ⟨3, _⟩ => ⟨S8320x11008, .bf16⟩
  | .local _ .vmem, ⟨0, _⟩ => ⟨S1664x4096, .bf16⟩
  | .local _ .vmem, ⟨1, _⟩ => ⟨S1664x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1664x256, .bf16⟩
  | .local _ .vmem, ⟨7, _⟩ => ⟨S1664x256, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![5, 1, 43], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c43_i32 : BitVec 32 := 43#32
  let v0 : BitVec 32 := Scalar.muli arg1 c43_i32
  let v1 : BitVec 32 := Scalar.addi v0 arg2
  let c0_i32 : BitVec 32 := 0#32
  ![arg0.toNat, v1.toNat]

abbrev stage0_0 : Fin 2 → Memref sig .tc .vmem S1664x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1664x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference5Ideal.lean ====
abbrev S8320x4096 : Shape := ⟨2, ![8320, 4096]⟩
abbrev S1x4096x11008 : Shape := ⟨3, ![1, 4096, 11008]⟩
abbrev S4096x11008 : Shape := ⟨2, ![4096, 11008]⟩
abbrev S8320x11008 : Shape := ⟨2, ![8320, 11008]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S1x4096x11008, .f32⟩
  | .hbm, ⟨2, _⟩ => ⟨S1x4096x11008, .f32⟩
  | .hbm, ⟨3, _⟩ => ⟨S8320x4096, .f32⟩
  | .hbm, ⟨4, _⟩ => ⟨S4096x11008, .f32⟩
  | .hbm, ⟨5, _⟩ => ⟨S8320x11008, .f32⟩
  | .hbm, ⟨6, _⟩ => ⟨S8320x11008, .f32⟩
  | .hbm, ⟨7, _⟩ => ⟨S8320x11008, .f32⟩
  | .hbm, ⟨8, _⟩ => ⟨S_, .f32⟩
  | .hbm, ⟨9, _⟩ => ⟨S8320x11008, .f32⟩
  | .hbm, ⟨10, _⟩ => ⟨S8320x11008, .f32⟩
  | .hbm, ⟨11, _⟩ => ⟨S_, .f32⟩
  | .hbm, ⟨12, _⟩ => ⟨S8320x11008, .f32⟩
  | .hbm, ⟨13, _⟩ => ⟨S8320x11008, .f32⟩
  | .hbm, ⟨14, _⟩ => ⟨S8320x11008, .f32⟩
  | .hbm, ⟨15, _⟩ => ⟨S4096x11008, .f32⟩
  | .hbm, ⟨16, _⟩ => ⟨S8320x11008, .f32⟩
  | .hbm, ⟨17, _⟩ => ⟨S8320x11008, .f32⟩
  | .hbm, ⟨18, _⟩ => ⟨S8320x11008, .bf16⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Kernel6.lean ====
abbrev S8320x11008 : Shape := ⟨2, ![8320, 11008]⟩
abbrev S1x11008x4096 : Shape := ⟨3, ![1, 11008, 4096]⟩
abbrev S8320x4096 : Shape := ⟨2, ![8320, 4096]⟩
abbrev S640x5504 : Shape := ⟨2, ![640, 5504]⟩
abbrev S1x5504x512 : Shape := ⟨3, ![1, 5504, 512]⟩
abbrev S640x512 : Shape := ⟨2, ![640, 512]⟩
abbrev S5504x512 : Shape := ⟨2, ![5504, 512]⟩

abbrev nBuf : Space → Nat
  | .hbm => 5
  | .vmem => 9
  | .smem => 0
  | _ => 0

abbrev bufTy : (tb : Table) → Fin (tcTables nBuf tb) → BufTy
  | .hbm, ⟨0, _⟩ => ⟨S8320x11008, .bf16⟩
  | .hbm, ⟨1, _⟩ => ⟨S1x11008x4096, .f32⟩
  | .hbm, ⟨2, _⟩ => ⟨S8320x4096, .f32⟩
  | .hbm, ⟨3, _⟩ => ⟨S1x11008x4096, .bf16⟩
  | .hbm, ⟨4, _⟩ => ⟨S8320x4096, .f32⟩
  | .local _ .vmem, ⟨0, _⟩ => ⟨S640x5504, .bf16⟩
  | .local _ .vmem, ⟨1, _⟩ => ⟨S640x5504, .bf16⟩
  | .local _ .vmem, ⟨2, _⟩ => ⟨S1x5504x512, .bf16⟩
  | .local _ .vmem, ⟨3, _⟩ => ⟨S1x5504x512, .bf16⟩
  | .local _ .vmem, ⟨4, _⟩ => ⟨S640x512, .f32⟩
  | .local _ .vmem, ⟨5, _⟩ => ⟨S640x512, .f32⟩
  | .local _ .vmem, ⟨6, _⟩ => ⟨S640x512, .f32⟩
  | .local _ .vmem, ⟨7, _⟩ => ⟨S640x512, .f32⟩
  | .local _ .vmem, ⟨8, _⟩ => ⟨S640x512, .f32⟩
  | _, _ => ⟨S8320x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![13, 8, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x5504x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S640x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S8320x11008 : Shape := ⟨2, ![8320, 11008]⟩
abbrev S1x11008x4096 : Shape := ⟨3, ![1, 11008, 4096]⟩
abbrev S8320x4096 : Shape := ⟨2, ![8320, 4096]⟩
abbrev S11008x4096 : Shape := ⟨2, ![11008, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8320x11008, .bf16⟩
  | .hbm, ⟨1, _⟩ => ⟨S1x11008x4096, .f32⟩
  | .hbm, ⟨2, _⟩ => ⟨S8320x4096, .f32⟩
  | .hbm, ⟨3, _⟩ => ⟨S8320x11008, .f32⟩
  | .hbm, ⟨4, _⟩ => ⟨S11008x4096, .f32⟩
  | .hbm, ⟨5, _⟩ => ⟨S8320x4096, .f32⟩
  | .hbm, ⟨6, _⟩ => ⟨S8320x4096, .f32⟩
  | _, _ => ⟨S8320x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S8320x2048 : Shape := ⟨2, ![8320, 2048]⟩
abbrev S2x2048x4096 : Shape := ⟨3, ![2, 2048, 4096]⟩
abbrev S8320x22016 : Shape := ⟨2, ![8320, 22016]⟩
abbrev S8320x4096 : Shape := ⟨2, ![8320, 4096]⟩
abbrev S640x2048 : Shape := ⟨2, ![640, 2048]⟩
abbrev S1x2048x512 : Shape := ⟨3, ![1, 2048, 512]⟩
abbrev S640x512 : Shape := ⟨2, ![640, 512]⟩
abbrev S2048x512 : Shape := ⟨2, ![2048, 512]⟩

abbrev nBuf : Space → Nat
  | .hbm => 11
  | .vmem => 20
  | .smem => 0
  | _ => 0

abbrev bufTy : (tb : Table) → Fin (tcTables nBuf tb) → BufTy
  | .hbm, ⟨0, _⟩ => ⟨S8320x2048, .bf16⟩
  | .hbm, ⟨1, _⟩ => ⟨S8320x2048, .bf16⟩
  | .hbm, ⟨2, _⟩ => ⟨S8320x2048, .bf16⟩
  | .hbm, ⟨3, _⟩ => ⟨S2x2048x4096, .f32⟩
  | .hbm, ⟨4, _⟩ => ⟨S2x2048x4096, .f32⟩
  | .hbm, ⟨5, _⟩ => ⟨S2x2048x4096, .f32⟩
  | .hbm, ⟨6, _⟩ => ⟨S8320x22016, .f32⟩
  | .hbm, ⟨7, _⟩ => ⟨S2x2048x4096, .bf16⟩
  | .hbm, ⟨8, _⟩ => ⟨S2x2048x4096, .bf16⟩
  | .hbm, ⟨9, _⟩ => ⟨S2x2048x4096, .bf16⟩
  | .hbm, ⟨10, _⟩ => ⟨S8320x4096, .bf16⟩
  | .local _ .vmem, ⟨0, _⟩ => ⟨S640x2048, .bf16⟩
  | .local _ .vmem, ⟨1, _⟩ => ⟨S640x2048, .bf16⟩
  | .local _ .vmem, ⟨2, _⟩ => ⟨S640x2048, .bf16⟩
  | .local _ .vmem, ⟨3, _⟩ => ⟨S640x2048, .bf16⟩
  | .local _ .vmem, ⟨4, _⟩ => ⟨S640x2048, .bf16⟩
  | .local _ .vmem, ⟨5, _⟩ => ⟨S640x2048, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x2048x512, .bf16⟩
  | .local _ .vmem, ⟨11, _⟩ => ⟨S1x2048x512, .bf16⟩
  | .local _ .vmem, ⟨12, _⟩ => ⟨S640x512, .f32⟩
  | .local _ .vmem, ⟨13, _⟩ => ⟨S640x512, .f32⟩
  | .local _ .vmem, ⟨14, _⟩ => ⟨S640x512, .f32⟩
  | .local _ .vmem, ⟨15, _⟩ => ⟨S640x512, .f32⟩
  | .local _ .vmem, ⟨16, _⟩ => ⟨S640x512, .f32⟩
  | .local _ .vmem, ⟨17, _⟩ => ⟨S640x512, .f32⟩
  | .local _ .vmem, ⟨18, _⟩ => ⟨S640x512, .bf16⟩
  | .local _ .vmem, ⟨19, _⟩ => ⟨S640x512, .bf16⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![13, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S640x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S640x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S640x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S640x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S640x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference7Ideal.lean ====
abbrev S8320x2048 : Shape := ⟨2, ![8320, 2048]⟩
abbrev S2x2048x4096 : Shape := ⟨3, ![2, 2048, 4096]⟩
abbrev S8320x22016 : Shape := ⟨2, ![8320, 22016]⟩
abbrev S8320x12288 : Shape := ⟨2, ![8320, 12288]⟩
abbrev S_ : Shape := ⟨0, ![]⟩
abbrev S8320x3x4096 : Shape := ⟨3, ![8320, 3, 4096]⟩
abbrev S8320x1x4096 : Shape := ⟨3, ![8320, 1, 4096]⟩
abbrev S8320x4096 : Shape := ⟨2, ![8320, 4096]⟩
abbrev S1x2048x4096 : Shape := ⟨3, ![1, 2048, 4096]⟩
abbrev S2048x4096 : Shape := ⟨2, ![2048, 4096]⟩

abbrev nBuf : Space → Nat
  | .hbm => 41
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x2048, .bf16⟩
  | .hbm, ⟨2, _⟩ => ⟨S8320x2048, .bf16⟩
  | .hbm, ⟨3, _⟩ => ⟨S2x2048x4096, .f32⟩
  | .hbm, ⟨4, _⟩ => ⟨S2x2048x4096, .f32⟩
  | .hbm, ⟨5, _⟩ => ⟨S2x2048x4096, .f32⟩
  | .hbm, ⟨6, _⟩ => ⟨S8320x22016, .f32⟩
  | .hbm, ⟨7, _⟩ => ⟨S8320x12288, .f32⟩
  | .hbm, ⟨8, _⟩ => ⟨S8320x12288, .f32⟩
  | .hbm, ⟨9, _⟩ => ⟨S8320x12288, .f32⟩
  | .hbm, ⟨10, _⟩ => ⟨S_, .f32⟩
  | .hbm, ⟨11, _⟩ => ⟨S8320x12288, .f32⟩
  | .hbm, ⟨12, _⟩ => ⟨S8320x12288, .f32⟩
  | .hbm, ⟨13, _⟩ => ⟨S_, .f32⟩
  | .hbm, ⟨14, _⟩ => ⟨S8320x12288, .f32⟩
  | .hbm, ⟨15, _⟩ => ⟨S8320x12288, .f32⟩
  | .hbm, ⟨16, _⟩ => ⟨S8320x3x4096, .f32⟩
  | .hbm, ⟨17, _⟩ => ⟨S8320x1x4096, .f32⟩
  | .hbm, ⟨18, _⟩ => ⟨S8320x4096, .f32⟩
  | .hbm, ⟨19, _⟩ => ⟨S8320x2048, .f32⟩
  | .hbm, ⟨20, _⟩ => ⟨S1x2048x4096, .f32⟩
  | .hbm, ⟨21, _⟩ => ⟨S2048x4096, .f32⟩
  | .hbm, ⟨22, _⟩ => ⟨S8320x4096, .f32⟩
  | .hbm, ⟨23, _⟩ => ⟨S8320x4096, .f32⟩
  | .hbm, ⟨24, _⟩ => ⟨S8320x1x4096, .f32⟩
  | .hbm, ⟨25, _⟩ => ⟨S8320x4096, .f32⟩
  | .hbm, ⟨26, _⟩ => ⟨S8320x2048, .f32⟩
  | .hbm, ⟨27, _⟩ => ⟨S1x2048x4096, .f32⟩
  | .hbm, ⟨28, _⟩ => ⟨S2048x4096, .f32⟩
  | .hbm, ⟨29, _⟩ => ⟨S8320x4096, .f32⟩
  | .hbm, ⟨30, _⟩ => ⟨S8320x4096, .f32⟩
  | .hbm, ⟨31, _⟩ => ⟨S8320x4096, .f32⟩
  | .hbm, ⟨32, _⟩ => ⟨S8320x1x4096, .f32⟩
  | .hbm, ⟨33, _⟩ => ⟨S8320x4096, .f32⟩
  | .hbm, ⟨34, _⟩ => ⟨S8320x2048, .f32⟩
  | .hbm, ⟨35, _⟩ => ⟨S1x2048x4096, .f32⟩
  | .hbm, ⟨36, _⟩ => ⟨S2048x4096, .f32⟩
  | .hbm, ⟨37, _⟩ => ⟨S8320x4096, .f32⟩
  | .hbm, ⟨38, _⟩ => ⟨S8320x4096, .f32⟩
  | .hbm, ⟨39, _⟩ => ⟨S8320x4096, .f32⟩
  | .hbm, ⟨40, _⟩ => ⟨S8320x4096, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Kernel8.lean ====
abbrev S8320x4096 : Shape := ⟨2, ![8320, 4096]⟩
abbrev S2x4096x4096 : Shape := ⟨3, ![2, 4096, 4096]⟩
abbrev S640x4096 : Shape := ⟨2, ![640, 4096]⟩
abbrev S1x4096x512 : Shape := ⟨3, ![1, 4096, 512]⟩
abbrev S640x512 : Shape := ⟨2, ![640, 512]⟩
abbrev S4096x512 : Shape := ⟨2, ![4096, 512]⟩

abbrev nBuf : Space → Nat
  | .hbm => 5
  | .vmem => 8
  | .smem => 0
  | _ => 0

abbrev bufTy : (tb : Table) → Fin (tcTables nBuf tb) → BufTy
  | .hbm, ⟨0, _⟩ => ⟨S8320x4096, .bf16⟩
  | .hbm, ⟨1, _⟩ => ⟨S2x4096x4096, .f32⟩
  | .hbm, ⟨2, _⟩ => ⟨S8320x4096, .f32⟩
  | .hbm, ⟨3, _⟩ => ⟨S2x4096x4096, .bf16⟩
  | .hbm, ⟨4, _⟩ => ⟨S8320x4096, .f32⟩
  | .local _ .vmem, ⟨0, _⟩ => ⟨S640x4096, .bf16⟩
  | .local _ .vmem, ⟨1, _⟩ => ⟨S640x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S640x512, .f32⟩
  | .local _ .vmem, ⟨5, _⟩ => ⟨S640x512, .f32⟩
  | .local _ .vmem, ⟨6, _⟩ => ⟨S640x512, .f32⟩
  | .local _ .vmem, ⟨7, _⟩ => ⟨S640x512, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![13, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S640x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S8320x4096 : Shape := ⟨2, ![8320, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S2x4096x4096, .f32⟩
  | .hbm, ⟨2, _⟩ => ⟨S8320x4096, .f32⟩
  | .hbm, ⟨3, _⟩ => ⟨S8320x4096, .f32⟩
  | .hbm, ⟨4, _⟩ => ⟨S1x4096x4096, .f32⟩
  | .hbm, ⟨5, _⟩ => ⟨S4096x4096, .f32⟩
  | .hbm, ⟨6, _⟩ => ⟨S8320x4096, .f32⟩
  | .hbm, ⟨7, _⟩ => ⟨S8320x4096, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S8320x22016 : Shape := ⟨2, ![8320, 22016]⟩
abbrev S2x768 : Shape := ⟨2, ![2, 768]⟩
abbrev S2x768x3072 : Shape := ⟨3, ![2, 768, 3072]⟩
abbrev S2x192 : Shape := ⟨2, ![2, 192]⟩
abbrev S2x256 : Shape := ⟨2, ![2, 256]⟩
abbrev S2x64 : Shape := ⟨2, ![2, 64]⟩
abbrev S2x256x16x128 : Shape := ⟨4, ![2, 256, 16, 128]⟩
abbrev S2048 : Shape := ⟨1, ![2048]⟩
abbrev S1x2048 : Shape := ⟨2, ![1, 2048]⟩
abbrev S4x2048 : Shape := ⟨2, ![4, 2048]⟩
abbrev S8192 : Shape := ⟨1, ![8192]⟩
abbrev S_ : Shape := ⟨0, ![]⟩
abbrev S128 : Shape := ⟨1, ![128]⟩
abbrev S8320 : Shape := ⟨1, ![8320]⟩
abbrev S32 : Shape := ⟨1, ![32]⟩
abbrev S8320x1 : Shape := ⟨2, ![8320, 1]⟩
abbrev S1x32 : Shape := ⟨2, ![1, 32]⟩
abbrev S8320x32 : Shape := ⟨2, ![8320, 32]⟩
abbrev S8320x64 : Shape := ⟨2, ![8320, 64]⟩
abbrev S8320x128 : Shape := ⟨2, ![8320, 128]⟩
abbrev S1x768x3072 : Shape := ⟨3, ![1, 768, 3072]⟩
abbrev S768x3072 : Shape := ⟨2, ![768, 3072]⟩
abbrev S768x16x192 : Shape := ⟨3, ![768, 16, 192]⟩
abbrev S768x16x64 : Shape := ⟨3, ![768, 16, 64]⟩
abbrev S768x16x128 : Shape := ⟨3, ![768, 16, 128]⟩
abbrev S768x2048 : Shape := ⟨2, ![768, 2048]⟩
abbrev S768x4096 : Shape := ⟨2, ![768, 4096]⟩
abbrev S1x128 : Shape := ⟨2, ![1, 128]⟩
abbrev S1x64 : Shape := ⟨2, ![1, 64]⟩
abbrev S64 : Shape := ⟨1, ![64]⟩
abbrev S1x256x16x128 : Shape := ⟨4, ![1, 256, 16, 128]⟩
abbrev S256x16x128 : Shape := ⟨3, ![256, 16, 128]⟩
abbrev S16x128x256 : Shape := ⟨3, ![16, 128, 256]⟩
abbrev S128x1 : Shape := ⟨2, ![128, 1]⟩
abbrev S128x128 : Shape := ⟨2, ![128, 128]⟩
abbrev S1x768 : Shape := ⟨2, ![1, 768]⟩
abbrev S768 : Shape := ⟨1, ![768]⟩
abbrev S1x256 : Shape := ⟨2, ![1, 256]⟩
abbrev S256 : Shape := ⟨1, ![256]⟩
abbrev S8320x256 : Shape := ⟨2, ![8320, 256]⟩
abbrev S8320x384 : Shape := ⟨2, ![8320, 384]⟩
abbrev S16x8320x384 : Shape := ⟨3, ![16, 8320, 384]⟩
abbrev S16x8320x128 : Shape := ⟨3, ![16, 8320, 128]⟩
abbrev S320x1024 : Shape := ⟨2, ![320, 1024]⟩
abbrev S320x2048 : Shape := ⟨2, ![320, 2048]⟩
abbrev S320x128 : Shape := ⟨2, ![320, 128]⟩
abbrev S320x256 : Shape := ⟨2, ![320, 256]⟩
abbrev S320x384 : Shape := ⟨2, ![320, 384]⟩
abbrev S16x320x384 : Shape := ⟨3, ![16, 320, 384]⟩
abbrev S16x320x128 : Shape := ⟨3, ![16, 320, 128]⟩
abbrev S320 : Shape := ⟨1, ![320]⟩
abbrev S320x1 : Shape := ⟨2, ![320, 1]⟩
abbrev S1x320x128 : Shape := ⟨3, ![1, 320, 128]⟩
abbrev S320x768 : Shape := ⟨2, ![320, 768]⟩
abbrev S320x4096 : Shape := ⟨2, ![320, 4096]⟩
abbrev S1x128x256 : Shape := ⟨3, ![1, 128, 256]⟩
abbrev S128x256 : Shape := ⟨2, ![128, 256]⟩
abbrev S1x320x256 : Shape := ⟨3, ![1, 320, 256]⟩

abbrev nBuf : Space → Nat
  | .hbm => 127
  | .vmem => 40
  | .smem => 0
  | _ => 0

abbrev bufTy : (tb : Table) → Fin (tcTables nBuf tb) → BufTy
  | .hbm, ⟨0, _⟩ => ⟨S8320x22016, .f32⟩
  | .hbm, ⟨1, _⟩ => ⟨S2x768, .f32⟩
  | .hbm, ⟨2, _⟩ => ⟨S2x768x3072, .f32⟩
  | .hbm, ⟨3, _⟩ => ⟨S2x192, .f32⟩
  | .hbm, ⟨4, _⟩ => ⟨S2x256, .f32⟩
  | .hbm, ⟨5, _⟩ => ⟨S2x64, .f32⟩
  | .hbm, ⟨6, _⟩ => ⟨S2x256x16x128, .f32⟩
  | .hbm, ⟨7, _⟩ => ⟨S2x64, .f32⟩
  | .hbm, ⟨8, _⟩ => ⟨S2x64, .f32⟩
  | .hbm, ⟨9, _⟩ => ⟨S2048, .i32⟩
  | .hbm, ⟨10, _⟩ => ⟨S1x2048, .i32⟩
  | .hbm, ⟨11, _⟩ => ⟨S4x2048, .i32⟩
  | .hbm, ⟨12, _⟩ => ⟨S8192, .i32⟩
  | .hbm, ⟨13, _⟩ => ⟨S_, .i32⟩
  | .hbm, ⟨14, _⟩ => ⟨S128, .i32⟩
  | .hbm, ⟨15, _⟩ => ⟨S8320, .i32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S8320, .f32⟩
  | .hbm, ⟨31, _⟩ => ⟨S8320x1, .f32⟩
  | .hbm, ⟨32, _⟩ => ⟨S1x32, .f32⟩
  | .hbm, ⟨33, _⟩ => ⟨S8320x32, .f32⟩
  | .hbm, ⟨34, _⟩ => ⟨S8320x32, .f32⟩
  | .hbm, ⟨35, _⟩ => ⟨S8320x32, .f32⟩
  | .hbm, ⟨36, _⟩ => ⟨S_, .f32⟩
  | .hbm, ⟨37, _⟩ => ⟨S8320x64, .f32⟩
  | .hbm, ⟨38, _⟩ => ⟨S8320x32, .f32⟩
  | .hbm, ⟨39, _⟩ => ⟨S8320x32, .f32⟩
  | .hbm, ⟨40, _⟩ => ⟨S8320x128, .f32⟩
  | .hbm, ⟨41, _⟩ => ⟨S8320x32, .f32⟩
  | .hbm, ⟨42, _⟩ => ⟨S8320x32, .f32⟩
  | .hbm, ⟨43, _⟩ => ⟨S8320x32, .f32⟩
  | .hbm, ⟨44, _⟩ => ⟨S8320x128, .f32⟩
  | .hbm, ⟨45, _⟩ => ⟨S1x768x3072, .f32⟩
  | .hbm, ⟨46, _⟩ => ⟨S768x3072, .f32⟩
  | .hbm, ⟨47, _⟩ => ⟨S768x16x192, .f32⟩
  | .hbm, ⟨48, _⟩ => ⟨S768x16x64, .f32⟩
  | .hbm, ⟨49, _⟩ => ⟨S_, .i32⟩
  | .hbm, ⟨50, _⟩ => ⟨S_, .f32⟩
  | .hbm, ⟨51, _⟩ => ⟨S768x16x128, .f32⟩
  | .hbm, ⟨52, _⟩ => ⟨S768x16x128, .f32⟩
  | .hbm, ⟨53, _⟩ => ⟨S768x2048, .f32⟩
  | .hbm, ⟨54, _⟩ => ⟨S768x2048, .f32⟩
  | .hbm, ⟨55, _⟩ => ⟨S768x4096, .f32⟩
  | .hbm, ⟨56, _⟩ => ⟨S768x4096, .bf16⟩
  | .hbm, ⟨57, _⟩ => ⟨S128, .i32⟩
  | .hbm, ⟨58, _⟩ => ⟨S_, .i32⟩
  | .hbm, ⟨59, _⟩ => ⟨S_, .i32⟩
  | .hbm, ⟨60, _⟩ => ⟨S128, .i32⟩
  | .hbm, ⟨61, _⟩ => ⟨S128, .i32⟩
  | .hbm, ⟨62, _⟩ => ⟨S128, .i32⟩
  | .hbm, ⟨63, _⟩ => ⟨S_, .i32⟩
  | .hbm, ⟨64, _⟩ => ⟨S128, .i32⟩
  | .hbm, ⟨65, _⟩ => ⟨S128, .i1⟩
  | .hbm, ⟨66, _⟩ => ⟨S128, .i32⟩
  | .hbm, ⟨67, _⟩ => ⟨S128, .i32⟩
  | .hbm, ⟨68, _⟩ => ⟨S_, .i32⟩
  | .hbm, ⟨69, _⟩ => ⟨S128, .i32⟩
  | .hbm, ⟨70, _⟩ => ⟨S128, .i1⟩
  | .hbm, ⟨71, _⟩ => ⟨S128, .i1⟩
  | .hbm, ⟨72, _⟩ => ⟨S_, .i32⟩
  | .hbm, ⟨73, _⟩ => ⟨S128, .i32⟩
  | .hbm, ⟨74, _⟩ => ⟨S128, .i32⟩
  | .hbm, ⟨75, _⟩ => ⟨S128, .i32⟩
  | .hbm, ⟨76, _⟩ => ⟨S1x128, .f32⟩
  | .hbm, ⟨77, _⟩ => ⟨S128, .f32⟩
  | .hbm, ⟨78, _⟩ => ⟨S1x128, .f32⟩
  | .hbm, ⟨79, _⟩ => ⟨S1x64, .f32⟩
  | .hbm, ⟨80, _⟩ => ⟨S64, .f32⟩
  | .hbm, ⟨81, _⟩ => ⟨S_, .i32⟩
  | .hbm, ⟨82, _⟩ => ⟨S_, .f32⟩
  | .hbm, ⟨83, _⟩ => ⟨S128, .f32⟩
  | .hbm, ⟨84, _⟩ => ⟨S1x128, .f32⟩
  | .hbm, ⟨85, _⟩ => ⟨S1x64, .f32⟩
  | .hbm, ⟨86, _⟩ => ⟨S64, .f32⟩
  | .hbm, ⟨87, _⟩ => ⟨S_, .i32⟩
  | .hbm, ⟨88, _⟩ => ⟨S_, .f32⟩
  | .hbm, ⟨89, _⟩ => ⟨S128, .f32⟩
  | .hbm, ⟨90, _⟩ => ⟨S1x128, .f32⟩
  | .hbm, ⟨91, _⟩ => ⟨S1x256x16x128, .f32⟩
  | .hbm, ⟨92, _⟩ => ⟨S256x16x128, .f32⟩
  | .hbm, ⟨93, _⟩ => ⟨S16x128x256, .f32⟩
  | .hbm, ⟨94, _⟩ => ⟨S16x128x256, .bf16⟩
  | .hbm, ⟨95, _⟩ => ⟨S1x64, .f32⟩
  | .hbm, ⟨96, _⟩ => ⟨S64, .f32⟩
  | .hbm, ⟨97, _⟩ => ⟨S1x64, .f32⟩
  | .hbm, ⟨98, _⟩ => ⟨S2x64, .f32⟩
  | .hbm, ⟨99, _⟩ => ⟨S128, .f32⟩
  | .hbm, ⟨100, _⟩ => ⟨S1x128, .f32⟩
  | .hbm, ⟨101, _⟩ => ⟨S1x64, .f32⟩
  | .hbm, ⟨102, _⟩ => ⟨S64, .f32⟩
  | .hbm, ⟨103, _⟩ => ⟨S1x64, .f32⟩
  | .hbm, ⟨104, _⟩ => ⟨S2x64, .f32⟩
  | .hbm, ⟨105, _⟩ => ⟨S128, .f32⟩
  | .hbm, ⟨106, _⟩ => ⟨S1x128, .f32⟩
  | .hbm, ⟨107, _⟩ => ⟨S128x1, .i32⟩
  | .hbm, ⟨108, _⟩ => ⟨S1x128, .i32⟩
  | .hbm, ⟨109, _⟩ => ⟨S128x128, .i32⟩
  | .hbm, ⟨110, _⟩ => ⟨S128x128, .i32⟩
  | .hbm, ⟨111, _⟩ => ⟨S128x128, .i1⟩
  | .hbm, ⟨112, _⟩ => ⟨S128x128, .f32⟩
  | .hbm, ⟨113, _⟩ => ⟨S1x768, .f32⟩
  | .hbm, ⟨114, _⟩ => ⟨S768, .f32⟩
  | .hbm, ⟨115, _⟩ => ⟨S1x768, .f32⟩
  | .hbm, ⟨116, _⟩ => ⟨S1x256, .f32⟩
  | .hbm, ⟨117, _⟩ => ⟨S256, .f32⟩
  | .hbm, ⟨118, _⟩ => ⟨S1x256, .f32⟩
  | .hbm, ⟨119, _⟩ => ⟨S8320x256, .f32⟩
  | .hbm, ⟨120, _⟩ => ⟨S8320x128, .f32⟩
  | .hbm, ⟨121, _⟩ => ⟨S8320x128, .f32⟩
  | .hbm, ⟨122, _⟩ => ⟨S8320x384, .bf16⟩
  | .hbm, ⟨123, _⟩ => ⟨S8320x128, .bf16⟩
  | .hbm, ⟨124, _⟩ => ⟨S8320x128, .bf16⟩
  | .hbm, ⟨125, _⟩ => ⟨S16x8320x384, .bf16⟩
  | .hbm, ⟨126, _⟩ => ⟨S16x8320x128, .bf16⟩
  | .local _ .vmem, ⟨0, _⟩ => ⟨S320x1024, .f32⟩
  | .local _ .vmem, ⟨1, _⟩ => ⟨S320x1024, .f32⟩
  | .local _ .vmem, ⟨2, _⟩ => ⟨S320x2048, .f32⟩
  | .local _ .vmem, ⟨3, _⟩ => ⟨S320x2048, .f32⟩
  | .local _ .vmem, ⟨4, _⟩ => ⟨S320x128, .f32⟩
  | .local _ .vmem, ⟨5, _⟩ => ⟨S320x128, .f32⟩
  | .local _ .vmem, ⟨6, _⟩ => ⟨S320x128, .f32⟩
  | .local _ .vmem, ⟨7, _⟩ => ⟨S320x128, .f32⟩
  | .local _ .vmem, ⟨8, _⟩ => ⟨S320x128, .f32⟩
  | .local _ .vmem, ⟨9, _⟩ => ⟨S320x128, .f32⟩
  | .local _ .vmem, ⟨10, _⟩ => ⟨S320x128, .f32⟩
  | .local _ .vmem, ⟨11, _⟩ => ⟨S320x128, .f32⟩
  | .local _ .vmem, ⟨12, _⟩ => ⟨S320x128, .f32⟩
  | .local _ .vmem, ⟨13, _⟩ => ⟨S320x128, .f32⟩
  | .local _ .vmem, ⟨14, _⟩ => ⟨S1x768, .f32⟩
  | .local _ .vmem, ⟨15, _⟩ => ⟨S768x4096, .bf16⟩
  | .local _ .vmem, ⟨16, _⟩ => ⟨S1x128, .f32⟩
  | .local _ .vmem, ⟨17, _⟩ => ⟨S1x128, .f32⟩
  | .local _ .vmem, ⟨18, _⟩ => ⟨S1x256, .f32⟩
  | .local _ .vmem, ⟨19, _⟩ => ⟨S1x128, .f32⟩
  | .local _ .vmem, ⟨20, _⟩ => ⟨S16x128x256, .bf16⟩
  | .local _ .vmem, ⟨21, _⟩ => ⟨S1x128, .f32⟩
  | .local _ .vmem, ⟨22, _⟩ => ⟨S1x128, .f32⟩
  | .local _ .vmem, ⟨23, _⟩ => ⟨S128x128, .f32⟩
  | .local _ .vmem, ⟨24, _⟩ => ⟨S320x256, .f32⟩
  | .local _ .vmem, ⟨25, _⟩ => ⟨S320x256, .f32⟩
  | .local _ .vmem, ⟨26, _⟩ => ⟨S320x128, .f32⟩
  | .local _ .vmem, ⟨27, _⟩ => ⟨S320x128, .f32⟩
  | .local _ .vmem, ⟨28, _⟩ => ⟨S320x128, .f32⟩
  | .local _ .vmem, ⟨29, _⟩ => ⟨S320x128, .f32⟩
  | .local _ .vmem, ⟨30, _⟩ => ⟨S320x384, .bf16⟩
  | .local _ .vmem, ⟨31, _⟩ => ⟨S320x384, .bf16⟩
  | .local _ .vmem, ⟨32, _⟩ => ⟨S320x128, .bf16⟩
  | .local _ .vmem, ⟨33, _⟩ => ⟨S320x128, .bf16⟩
  | .local _ .vmem, ⟨34, _⟩ => ⟨S320x128, .bf16⟩
  | .local _ .vmem, ⟨35, _⟩ => ⟨S320x128, .bf16⟩
  | .local _ .vmem, ⟨36, _⟩ => ⟨S16x320x384, .bf16⟩
  | .local _ .vmem, ⟨37, _⟩ => ⟨S16x320x384, .bf16⟩
  | .local _ .vmem, ⟨38, _⟩ => ⟨S16x320x128, .bf16⟩
  | .local _ .vmem, ⟨39, _⟩ => ⟨S16x320x128, .bf16⟩
  | _, _ => ⟨S8320x22016, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_4 : Ref sig .tc := ⟨.hbm, 49, rfl⟩
abbrev main_call0_v0 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_5 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_c : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_0 : Ref sig .tc := ⟨.hbm, 72, rfl⟩
abbrev main_call1_v12 : Ref sig .tc := ⟨.hbm, 73, rfl⟩
abbrev main_call1_v13 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_c_6 : Ref sig .tc := ⟨.hbm, 81, rfl⟩
abbrev main_call2_v0 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_c_7 : Ref sig .tc := ⟨.hbm, 87, rfl⟩
abbrev main_call3_v0 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81_0 : Ref sig .tc := ⟨.hbm, 119, rfl⟩
abbrev main_v81_1 : Ref sig .tc := ⟨.hbm, 120, rfl⟩
abbrev main_v81_2 : Ref sig .tc := ⟨.hbm, 121, rfl⟩
abbrev main_v81_3 : Ref sig .tc := ⟨.hbm, 122, rfl⟩
abbrev main_v81_4 : Ref sig .tc := ⟨.hbm, 123, rfl⟩
abbrev main_v81_5 : Ref sig .tc := ⟨.hbm, 124, rfl⟩
abbrev main_v81_6 : Ref sig .tc := ⟨.hbm, 125, rfl⟩
abbrev main_v81_7 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_stg23_0 : Ref sig .tc := ⟨.vmem, 36, rfl⟩
abbrev cc0_stg23_1 : Ref sig .tc := ⟨.vmem, 37, rfl⟩
abbrev cc0_stg24_0 : Ref sig .tc := ⟨.vmem, 38, rfl⟩
abbrev cc0_stg24_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35
abbrev cc0_sem23_0 : DmaSem sig := 36
abbrev cc0_sem23_1 : DmaSem sig := 37
abbrev cc0_sem24_0 : DmaSem sig := 38
abbrev cc0_sem24_1 : DmaSem sig := 39

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c168_i32 : BitVec 32 := 168#32
  let c0_i32 : BitVec 32 := 0#32
  ![arg0.toNat, c168_i32.toNat]

def cc0_transform_3 (i : grid0.Coords) : Fin 2 → Nat :=
  let arg0 : BitVec 32 := BitVec.ofNat 32 (i 0).val
  let c169_i32 : BitVec 32 := 169#32
  let c0_i32 : BitVec 32 := 0#32
  ![arg0.toNat, c169_i32.toNat]

def cc0_transform_4 (i : grid0.Coords) : Fin 2 → Nat :=
  let arg0 : BitVec 32 := BitVec.ofNat 32 (i 0).val
  let c170_i32 : BitVec 32 := 170#32
  let c0_i32 : BitVec 32 := 0#32
  ![arg0.toNat, c170_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S320x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S320x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S768x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x128x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S320x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S320x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S320x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S320x384 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S320x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S320x128 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S16x320x384 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S16x320x128 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== Kernel9Ideal.lean ====
variable {F : FTy → Type} [FloatOps F] [Named F]
def κ : String → Option EReal := fun
  | "root" => some (((Real.sqrt 192)⁻¹ : ℝ) : EReal)
  | "width" => some ((1 / 192 : ℝ) : EReal)
  | _ => none
-- ==== Reference9Ideal.lean ====
abbrev S8320x22016 : Shape := ⟨2, ![8320, 22016]⟩
abbrev S2x768 : Shape := ⟨2, ![2, 768]⟩
abbrev S2x768x3072 : Shape := ⟨3, ![2, 768, 3072]⟩
abbrev S2x192 : Shape := ⟨2, ![2, 192]⟩
abbrev S2x256 : Shape := ⟨2, ![2, 256]⟩
abbrev S2x64 : Shape := ⟨2, ![2, 64]⟩
abbrev S2x256x16x128 : Shape := ⟨4, ![2, 256, 16, 128]⟩
abbrev S2048 : Shape := ⟨1, ![2048]⟩
abbrev S1x2048 : Shape := ⟨2, ![1, 2048]⟩
abbrev S4x2048 : Shape := ⟨2, ![4, 2048]⟩
abbrev S8192 : Shape := ⟨1, ![8192]⟩
abbrev S_ : Shape := ⟨0, ![]⟩
abbrev S128 : Shape := ⟨1, ![128]⟩
abbrev S8320 : Shape := ⟨1, ![8320]⟩
abbrev S32 : Shape := ⟨1, ![32]⟩
abbrev S8320x1 : Shape := ⟨2, ![8320, 1]⟩
abbrev S1x32 : Shape := ⟨2, ![1, 32]⟩
abbrev S8320x32 : Shape := ⟨2, ![8320, 32]⟩
abbrev S8320x2048 : Shape := ⟨2, ![8320, 2048]⟩
abbrev S8320x768 : Shape := ⟨2, ![8320, 768]⟩
abbrev S8320x256 : Shape := ⟨2, ![8320, 256]⟩
abbrev S8320x128 : Shape := ⟨2, ![8320, 128]⟩
abbrev S8320x64 : Shape := ⟨2, ![8320, 64]⟩
abbrev S1x768 : Shape := ⟨2, ![1, 768]⟩
abbrev S768 : Shape := ⟨1, ![768]⟩
abbrev S1x768x3072 : Shape := ⟨3, ![1, 768, 3072]⟩
abbrev S768x3072 : Shape := ⟨2, ![768, 3072]⟩
abbrev S8320x3072 : Shape := ⟨2, ![8320, 3072]⟩
abbrev S8320x16x192 : Shape := ⟨3, ![8320, 16, 192]⟩
abbrev S1x192 : Shape := ⟨2, ![1, 192]⟩
abbrev S192 : Shape := ⟨1, ![192]⟩
abbrev S8320x16 : Shape := ⟨2, ![8320, 16]⟩
abbrev S8320x16x1 : Shape := ⟨3, ![8320, 16, 1]⟩
abbrev S1x1x192 : Shape := ⟨3, ![1, 1, 192]⟩
abbrev S8320x16x128 : Shape := ⟨3, ![8320, 16, 128]⟩
abbrev S8320x16x64 : Shape := ⟨3, ![8320, 16, 64]⟩
abbrev S8320x1x32 : Shape := ⟨3, ![8320, 1, 32]⟩
abbrev S8320x16x32 : Shape := ⟨3, ![8320, 16, 32]⟩
abbrev S1x256 : Shape := ⟨2, ![1, 256]⟩
abbrev S256 : Shape := ⟨1, ![256]⟩
abbrev S1x64 : Shape := ⟨2, ![1, 64]⟩
abbrev S64 : Shape := ⟨1, ![64]⟩
abbrev S1x256x16x128 : Shape := ⟨4, ![1, 256, 16, 128]⟩
abbrev S256x16x128 : Shape := ⟨3, ![256, 16, 128]⟩
abbrev S16x256x8320 : Shape := ⟨3, ![16, 256, 8320]⟩
abbrev S8320x16x256 : Shape := ⟨3, ![8320, 16, 256]⟩
abbrev S8320x16x2x64 : Shape := ⟨4, ![8320, 16, 2, 64]⟩
abbrev S8320x16x2 : Shape := ⟨3, ![8320, 16, 2]⟩
abbrev S8320x16x2x1 : Shape := ⟨4, ![8320, 16, 2, 1]⟩
abbrev S1x1x1x64 : Shape := ⟨4, ![1, 1, 1, 64]⟩
abbrev S8320x2x64 : Shape := ⟨3, ![8320, 2, 64]⟩
abbrev S8320x2 : Shape := ⟨2, ![8320, 2]⟩
abbrev S8320x2x1 : Shape := ⟨3, ![8320, 2, 1]⟩
abbrev S1x1x64 : Shape := ⟨3, ![1, 1, 64]⟩
abbrev S8320x16x384 : Shape := ⟨3, ![8320, 16, 384]⟩
abbrev S8320x384 : Shape := ⟨2, ![8320, 384]⟩
abbrev S16x8320x384 : Shape := ⟨3, ![16, 8320, 384]⟩
abbrev S16x8320x128 : Shape := ⟨3, ![16, 8320, 128]⟩

abbrev nBuf : Space → Nat
  | .hbm => 215
  | .vmem => 0
  | .smem => 0
  | _ => 0

abbrev hbmTy0_0 (i : Nat) : BufTy := match i % 128 with
  | 0 => ⟨S8320x22016, .f32⟩
  | 1 => ⟨S2x768, .f32⟩
  | 2 => ⟨S2x768x3072, .f32⟩
  | 3 => ⟨S2x192, .f32⟩
  | 4 => ⟨S2x256, .f32⟩
  | 5 => ⟨S2x64, .f32⟩
  | 6 => ⟨S2x256x16x128, .f32⟩
  | 7 => ⟨S2x64, .f32⟩
  | 8 => ⟨S2x64, .f32⟩
  | 9 => ⟨S2048, .i32⟩
  | 10 => ⟨S1x2048, .i32⟩
  | 11 => ⟨S4x2048, .i32⟩
  | 12 => ⟨S8192, .i32⟩
  | 13 => ⟨S_, .i32⟩
  | 14 => ⟨S128, .i32⟩
  | 15 => ⟨S8320, .i32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S32, .f32⟩
  | 24 => ⟨S_, .f32⟩
  | 25 => ⟨S32, .f32⟩
  | 26 => ⟨S32, .f32⟩
  | 27 => ⟨S_, .f32⟩
  | 28 => ⟨S32, .f32⟩
  | 29 => ⟨S32, .f32⟩
  | 30 => ⟨S8320, .f32⟩
  | 31 => ⟨S8320x1, .f32⟩
  | 32 => ⟨S1x32, .f32⟩
  | 33 => ⟨S8320x32, .f32⟩
  | 34 => ⟨S8320x32, .f32⟩
  | 35 => ⟨S8320x32, .f32⟩
  | 36 => ⟨S8320x32, .f32⟩
  | 37 => ⟨S8320x32, .f32⟩
  | 38 => ⟨S8320x2048, .f32⟩
  | 39 => ⟨S8320x768, .f32⟩
  | 40 => ⟨S8320x256, .f32⟩
  | 41 => ⟨S8320x128, .f32⟩
  | 42 => ⟨S8320x128, .f32⟩
  | 43 => ⟨S8320x64, .f32⟩
  | 44 => ⟨S1x768, .f32⟩
  | 45 => ⟨S768, .f32⟩
  | 46 => ⟨S8320x768, .f32⟩
  | 47 => ⟨S_, .f32⟩
  | 48 => ⟨S8320, .f32⟩
  | 49 => ⟨S8320x1, .f32⟩
  | 50 => ⟨S_, .f32⟩
  | 51 => ⟨S8320x1, .f32⟩
  | 52 => ⟨S8320x1, .f32⟩
  | 53 => ⟨S_, .f32⟩
  | 54 => ⟨S8320x1, .f32⟩
  | 55 => ⟨S8320x1, .f32⟩
  | 56 => ⟨S8320x1, .f32⟩
  | 57 => ⟨S8320x768, .f32⟩
  | 58 => ⟨S8320x768, .f32⟩
  | 59 => ⟨S1x768, .f32⟩
  | 60 => ⟨S8320x768, .f32⟩
  | 61 => ⟨S8320x768, .f32⟩
  | 62 => ⟨S1x768x3072, .f32⟩
  | 63 => ⟨S768x3072, .f32⟩
  | 64 => ⟨S8320x3072, .f32⟩
  | 65 => ⟨S8320x16x192, .f32⟩
  | 66 => ⟨S1x192, .f32⟩
  | 67 => ⟨S192, .f32⟩
  | 68 => ⟨S8320x16x192, .f32⟩
  | 69 => ⟨S_, .f32⟩
  | 70 => ⟨S8320x16, .f32⟩
  | 71 => ⟨S8320x16x1, .f32⟩
  | 72 => ⟨S_, .f32⟩
  | 73 => ⟨S8320x16x1, .f32⟩
  | 74 => ⟨S8320x16x1, .f32⟩
  | 75 => ⟨S_, .f32⟩
  | 76 => ⟨S8320x16x1, .f32⟩
  | 77 => ⟨S8320x16x1, .f32⟩
  | 78 => ⟨S8320x16x1, .f32⟩
  | 79 => ⟨S8320x16x192, .f32⟩
  | 80 => ⟨S8320x16x192, .f32⟩
  | 81 => ⟨S1x1x192, .f32⟩
  | 82 => ⟨S8320x16x192, .f32⟩
  | 83 => ⟨S8320x16x192, .f32⟩
  | 84 => ⟨S8320x16x128, .f32⟩
  | 85 => ⟨S8320x16x64, .f32⟩
  | 86 => ⟨S8320x1x32, .f32⟩
  | 87 => ⟨S8320x1x32, .f32⟩
  | 88 => ⟨S8320x16x32, .f32⟩
  | 89 => ⟨S8320x16x32, .f32⟩
  | 90 => ⟨S8320x16x32, .f32⟩
  | 91 => ⟨S8320x16x32, .f32⟩
  | 92 => ⟨S8320x16x32, .f32⟩
  | 93 => ⟨S8320x16x32, .f32⟩
  | 94 => ⟨S8320x16x32, .f32⟩
  | 95 => ⟨S8320x16x32, .f32⟩
  | 96 => ⟨S8320x16x32, .f32⟩
  | 97 => ⟨S8320x16x32, .f32⟩
  | 98 => ⟨S8320x16x32, .f32⟩
  | 99 => ⟨S8320x16x32, .f32⟩
  | 100 => ⟨S8320x16x64, .f32⟩
  | 101 => ⟨S1x256, .f32⟩
  | 102 => ⟨S256, .f32⟩
  | 103 => ⟨S8320x256, .f32⟩
  | 104 => ⟨S_, .f32⟩
  | 105 => ⟨S8320, .f32⟩
  | 106 => ⟨S8320x1, .f32⟩
  | 107 => ⟨S_, .f32⟩
  | 108 => ⟨S8320x1, .f32⟩
  | 109 => ⟨S8320x1, .f32⟩
  | 110 => ⟨S_, .f32⟩
  | 111 => ⟨S8320x1, .f32⟩
  | 112 => ⟨S8320x1, .f32⟩
  | 113 => ⟨S8320x1, .f32⟩
  | 114 => ⟨S8320x256, .f32⟩
  | 115 => ⟨S8320x256, .f32⟩
  | 116 => ⟨S1x256, .f32⟩
  | 117 => ⟨S8320x256, .f32⟩
  | 118 => ⟨S8320x256, .f32⟩
  | 119 => ⟨S1x64, .f32⟩
  | 120 => ⟨S64, .f32⟩
  | 121 => ⟨S8320x64, .f32⟩
  | 122 => ⟨S_, .f32⟩
  | 123 => ⟨S8320, .f32⟩
  | 124 => ⟨S8320x1, .f32⟩
  | 125 => ⟨S_, .f32⟩
  | 126 => ⟨S8320x1, .f32⟩
  | 127 => ⟨S8320x1, .f32⟩
  | _ => ⟨S8320x22016, .f32⟩

abbrev hbmTy0_1 (i : Nat) : BufTy := match i % 128 with
  | 0 => ⟨S_, .f32⟩
  | 1 => ⟨S8320x1, .f32⟩
  | 2 => ⟨S8320x1, .f32⟩
  | 3 => ⟨S8320x1, .f32⟩
  | 4 => ⟨S8320x64, .f32⟩
  | 5 => ⟨S8320x64, .f32⟩
  | 6 => ⟨S1x64, .f32⟩
  | 7 => ⟨S8320x64, .f32⟩
  | 8 => ⟨S8320x64, .f32⟩
  | 9 => ⟨S8320x32, .f32⟩
  | 10 => ⟨S8320x32, .f32⟩
  | 11 => ⟨S8320x32, .f32⟩
  | 12 => ⟨S8320x32, .f32⟩
  | 13 => ⟨S8320x32, .f32⟩
  | 14 => ⟨S8320x32, .f32⟩
  | 15 => ⟨S8320x32, .f32⟩
  | 16 => ⟨S8320x32, .f32⟩
  | 17 => ⟨S8320x64, .f32⟩
  | 18 => ⟨S1x256x16x128, .f32⟩
  | 19 => ⟨S256x16x128, .f32⟩
  | 20 => ⟨S16x256x8320, .f32⟩
  | 21 => ⟨S8320x16x256, .f32⟩
  | 22 => ⟨S8320x16x2x64, .f32⟩
  | 23 => ⟨S1x64, .f32⟩
  | 24 => ⟨S64, .f32⟩
  | 25 => ⟨S8320x16x2x64, .f32⟩
  | 26 => ⟨S_, .f32⟩
  | 27 => ⟨S8320x16x2, .f32⟩
  | 28 => ⟨S8320x16x2x1, .f32⟩
  | 29 => ⟨S_, .f32⟩
  | 30 => ⟨S8320x16x2x1, .f32⟩
  | 31 => ⟨S8320x16x2x1, .f32⟩
  | 32 => ⟨S_, .f32⟩
  | 33 => ⟨S8320x16x2x1, .f32⟩
  | 34 => ⟨S8320x16x2x1, .f32⟩
  | 35 => ⟨S8320x16x2x1, .f32⟩
  | 36 => ⟨S8320x16x2x64, .f32⟩
  | 37 => ⟨S8320x16x2x64, .f32⟩
  | 38 => ⟨S1x1x1x64, .f32⟩
  | 39 => ⟨S8320x16x2x64, .f32⟩
  | 40 => ⟨S8320x16x2x64, .f32⟩
  | 41 => ⟨S8320x16x128, .f32⟩
  | 42 => ⟨S8320x2x64, .f32⟩
  | 43 => ⟨S1x64, .f32⟩
  | 44 => ⟨S64, .f32⟩
  | 45 => ⟨S8320x2x64, .f32⟩
  | 46 => ⟨S_, .f32⟩
  | 47 => ⟨S8320x2, .f32⟩
  | 48 => ⟨S8320x2x1, .f32⟩
  | 49 => ⟨S_, .f32⟩
  | 50 => ⟨S8320x2x1, .f32⟩
  | 51 => ⟨S8320x2x1, .f32⟩
  | 52 => ⟨S_, .f32⟩
  | 53 => ⟨S8320x2x1, .f32⟩
  | 54 => ⟨S8320x2x1, .f32⟩
  | 55 => ⟨S8320x2x1, .f32⟩
  | 56 => ⟨S8320x2x64, .f32⟩
  | 57 => ⟨S8320x2x64, .f32⟩
  | 58 => ⟨S1x1x64, .f32⟩
  | 59 => ⟨S8320x2x64, .f32⟩
  | 60 => ⟨S8320x2x64, .f32⟩
  | 61 => ⟨S8320x128, .f32⟩
  | 62 => ⟨S_, .f32⟩
  | 63 => ⟨S8320x64, .f32⟩
  | 64 => ⟨S8320x128, .f32⟩
  | 65 => ⟨S_, .f32⟩
  | 66 => ⟨S_, .f32⟩
  | 67 => ⟨S_, .f32⟩
  | 68 => ⟨S_, .f32⟩
  | 69 => ⟨S8320x16x256, .f32⟩
  | 70 => ⟨S8320x16x256, .f32⟩
  | 71 => ⟨S8320x16x64, .f32⟩
  | 72 => ⟨S8320x16x64, .f32⟩
  | 73 => ⟨S_, .f32⟩
  | 74 => ⟨S8320x16x64, .f32⟩
  | 75 => ⟨S8320x16x384, .f32⟩
  | 76 => ⟨S8320x384, .f32⟩
  | 77 => ⟨S8320x384, .bf16⟩
  | 78 => ⟨S8320x128, .bf16⟩
  | 79 => ⟨S8320x128, .bf16⟩
  | 80 => ⟨S16x8320x384, .f32⟩
  | 81 => ⟨S16x8320x384, .bf16⟩
  | 82 => ⟨S_, .f32⟩
  | 83 => ⟨S8320x16x128, .f32⟩
  | 84 => ⟨S8320x16x128, .f32⟩
  | 85 => ⟨S16x8320x128, .f32⟩
  | 86 => ⟨S16x8320x128, .bf16⟩
  | _ => ⟨S8320x22016, .f32⟩

abbrev hbmTy (i : Nat) : BufTy := match i / 128 with
  | 0 => hbmTy0_0 i
  | 1 => hbmTy0_1 i
  | _ => ⟨S8320x22016, .f32⟩

abbrev bufTy : (tb : Table) → Fin (tcTables nBuf tb) → BufTy
  | .hbm, ⟨i, _⟩ => hbmTy i
  | _, _ => ⟨S8320x22016, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_6 : Ref sig .tc := ⟨.hbm, 69, rfl⟩
abbrev main_v52 : Ref sig .tc := ⟨.hbm, 70, rfl⟩
abbrev main_v53 : Ref sig .tc := ⟨.hbm, 71, rfl⟩
abbrev main_cst_7 : Ref sig .tc := ⟨.hbm, 72, rfl⟩
abbrev main_v54 : Ref sig .tc := ⟨.hbm, 73, rfl⟩
abbrev main_v55 : Ref sig .tc := ⟨.hbm, 74, rfl⟩
abbrev main_cst_8 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_cst_9 : Ref sig .tc := ⟨.hbm, 104, rfl⟩
abbrev main_v84 : Ref sig .tc := ⟨.hbm, 105, rfl⟩
abbrev main_v85 : Ref sig .tc := ⟨.hbm, 106, rfl⟩
abbrev main_cst_10 : Ref sig .tc := ⟨.hbm, 107, rfl⟩
abbrev main_v86 : Ref sig .tc := ⟨.hbm, 108, rfl⟩
abbrev main_v87 : Ref sig .tc := ⟨.hbm, 109, rfl⟩
abbrev main_cst_11 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_cst_12 : Ref sig .tc := ⟨.hbm, 122, rfl⟩
abbrev main_v99 : Ref sig .tc := ⟨.hbm, 123, rfl⟩
abbrev main_v100 : Ref sig .tc := ⟨.hbm, 124, rfl⟩
abbrev main_cst_13 : Ref sig .tc := ⟨.hbm, 125, rfl⟩
abbrev main_v101 : Ref sig .tc := ⟨.hbm, 126, rfl⟩
abbrev main_v102 : Ref sig .tc := ⟨.hbm, 127, rfl⟩
abbrev main_cst_14 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_cst_15 : Ref sig .tc := ⟨.hbm, 154, rfl⟩
abbrev main_v128 : Ref sig .tc := ⟨.hbm, 155, rfl⟩
abbrev main_v129 : Ref sig .tc := ⟨.hbm, 156, rfl⟩
abbrev main_cst_16 : Ref sig .tc := ⟨.hbm, 157, rfl⟩
abbrev main_v130 : Ref sig .tc := ⟨.hbm, 158, rfl⟩
abbrev main_v131 : Ref sig .tc := ⟨.hbm, 159, rfl⟩
abbrev main_cst_17 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_cst_18 : Ref sig .tc := ⟨.hbm, 174, rfl⟩
abbrev main_v145 : Ref sig .tc := ⟨.hbm, 175, rfl⟩
abbrev main_v146 : Ref sig .tc := ⟨.hbm, 176, rfl⟩
abbrev main_cst_19 : Ref sig .tc := ⟨.hbm, 177, rfl⟩
abbrev main_v147 : Ref sig .tc := ⟨.hbm, 178, rfl⟩
abbrev main_v148 : Ref sig .tc := ⟨.hbm, 179, rfl⟩
abbrev main_cst_20 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_cst_21 : Ref sig .tc := ⟨.hbm, 190, rfl⟩
abbrev main_v158 : Ref sig .tc := ⟨.hbm, 191, rfl⟩
abbrev main_v159 : Ref sig .tc := ⟨.hbm, 192, rfl⟩
abbrev main_cst_22 : Ref sig .tc := ⟨.hbm, 193, rfl⟩
abbrev main_v160 : Ref sig .tc := ⟨.hbm, 194, rfl⟩
abbrev main_cst_23 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_cst_24 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_cst_25 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩

abbrev nD : Nat := 1
abbrev τ : Topo := Topo.v7x

variable {F : FTy → Type} [FloatOps F]
-- ==== Kernel10.lean ====
abbrev S4x2048x4096 : Shape := ⟨3, ![4, 2048, 4096]⟩
abbrev S128x1x4096 : Shape := ⟨3, ![128, 1, 4096]⟩
abbrev S2x4096 : Shape := ⟨2, ![2, 4096]⟩
abbrev S8192x4096 : Shape := ⟨2, ![8192, 4096]⟩
abbrev S128x4096 : Shape := ⟨2, ![128, 4096]⟩
abbrev S8320x4096 : Shape := ⟨2, ![8320, 4096]⟩
abbrev S1x4096 : Shape := ⟨2, ![1, 4096]⟩
abbrev S4096 : Shape := ⟨1, ![4096]⟩
abbrev S320x4096 : Shape := ⟨2, ![320, 4096]⟩
abbrev S320 : Shape := ⟨1, ![320]⟩
abbrev S320x1 : Shape := ⟨2, ![320, 1]⟩

abbrev nBuf : Space → Nat
  | .hbm => 10
  | .vmem => 5
  | .smem => 0
  | _ => 0

abbrev bufTy : (tb : Table) → Fin (tcTables nBuf tb) → BufTy
  | .hbm, ⟨0, _⟩ => ⟨S4x2048x4096, .f32⟩
  | .hbm, ⟨1, _⟩ => ⟨S128x1x4096, .f32⟩
  | .hbm, ⟨2, _⟩ => ⟨S2x4096, .f32⟩
  | .hbm, ⟨3, _⟩ => ⟨S8192x4096, .f32⟩
  | .hbm, ⟨4, _⟩ => ⟨S128x4096, .f32⟩
  | .hbm, ⟨5, _⟩ => ⟨S8320x4096, .f32⟩
  | .hbm, ⟨6, _⟩ => ⟨S1x4096, .f32⟩
  | .hbm, ⟨7, _⟩ => ⟨S4096, .f32⟩
  | .hbm, ⟨8, _⟩ => ⟨S1x4096, .f32⟩
  | .hbm, ⟨9, _⟩ => ⟨S8320x4096, .bf16⟩
  | .local _ .vmem, ⟨0, _⟩ => ⟨S320x4096, .f32⟩
  | .local _ .vmem, ⟨1, _⟩ => ⟨S320x4096, .f32⟩
  | .local _ .vmem, ⟨2, _⟩ => ⟨S1x4096, .f32⟩
  | .local _ .vmem, ⟨3, _⟩ => ⟨S320x4096, .bf16⟩
  | .local _ .vmem, ⟨4, _⟩ => ⟨S320x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S320x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S4x2048x4096 : Shape := ⟨3, ![4, 2048, 4096]⟩
abbrev S128x1x4096 : Shape := ⟨3, ![128, 1, 4096]⟩
abbrev S2x4096 : Shape := ⟨2, ![2, 4096]⟩
abbrev S1x4096 : Shape := ⟨2, ![1, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S128x1 : Shape := ⟨2, ![128, 1]⟩
abbrev S128x1x1 : Shape := ⟨3, ![128, 1, 1]⟩
abbrev S8192x4096 : Shape := ⟨2, ![8192, 4096]⟩
abbrev S128x4096 : Shape := ⟨2, ![128, 4096]⟩
abbrev S8320x4096 : Shape := ⟨2, ![8320, 4096]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S128x1x4096, .f32⟩
  | .hbm, ⟨2, _⟩ => ⟨S2x4096, .f32⟩
  | .hbm, ⟨3, _⟩ => ⟨S1x4096, .f32⟩
  | .hbm, ⟨4, _⟩ => ⟨S4096, .f32⟩
  | .hbm, ⟨5, _⟩ => ⟨S4x2048x4096, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x4096, .f32⟩
  | .hbm, ⟨17, _⟩ => ⟨S4x2048x4096, .f32⟩
  | .hbm, ⟨18, _⟩ => ⟨S1x1x4096, .f32⟩
  | .hbm, ⟨19, _⟩ => ⟨S4x2048x4096, .f32⟩
  | .hbm, ⟨20, _⟩ => ⟨S4x2048x4096, .f32⟩
  | .hbm, ⟨21, _⟩ => ⟨S1x4096, .f32⟩
  | .hbm, ⟨22, _⟩ => ⟨S4096, .f32⟩
  | .hbm, ⟨23, _⟩ => ⟨S128x1x4096, .f32⟩
  | .hbm, ⟨24, _⟩ => ⟨S_, .f32⟩
  | .hbm, ⟨25, _⟩ => ⟨S128x1, .f32⟩
  | .hbm, ⟨26, _⟩ => ⟨S128x1x1, .f32⟩
  | .hbm, ⟨27, _⟩ => ⟨S_, .f32⟩
  | .hbm, ⟨28, _⟩ => ⟨S128x1x1, .f32⟩
  | .hbm, ⟨29, _⟩ => ⟨S128x1x1, .f32⟩
  | .hbm, ⟨30, _⟩ => ⟨S_, .f32⟩
  | .hbm, ⟨31, _⟩ => ⟨S128x1x1, .f32⟩
  | .hbm, ⟨32, _⟩ => ⟨S128x1x1, .f32⟩
  | .hbm, ⟨33, _⟩ => ⟨S128x1x1, .f32⟩
  | .hbm, ⟨34, _⟩ => ⟨S128x1x4096, .f32⟩
  | .hbm, ⟨35, _⟩ => ⟨S128x1x4096, .f32⟩
  | .hbm, ⟨36, _⟩ => ⟨S1x1x4096, .f32⟩
  | .hbm, ⟨37, _⟩ => ⟨S128x1x4096, .f32⟩
  | .hbm, ⟨38, _⟩ => ⟨S128x1x4096, .f32⟩
  | .hbm, ⟨39, _⟩ => ⟨S8192x4096, .f32⟩
  | .hbm, ⟨40, _⟩ => ⟨S128x4096, .f32⟩
  | .hbm, ⟨41, _⟩ => ⟨S8320x4096, .f32⟩
  | .hbm, ⟨42, _⟩ => ⟨S8320x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== Proof.References.lean ====
/- The references' frames: a reference declares no semaphore and writes no argument. -/
module

public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Defs
public import Idealize.ShloMosaic.Lib.Quiescent

@[expose] public section

noncomputable section

namespace Cert.References

open Idealize.ShloMosaic Idealize.SL.Sem

theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_Reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_Reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem frame_Reference4Ideal : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem frame_Reference5Ideal : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem frame_Reference6Ideal : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem frame_Reference7Ideal : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem frame_Reference8Ideal : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem frame_Reference9Ideal : Cert.quiescent_Reference9Ideal := fun m ρ _ =>
  (θ_run Cert.Reference9Ideal.defs _ _).mono (fun r h => ⟨fun c => (h c).2.2.2.2.2.2.2.2, sem_eq_zero_of_no_sems (by decide) r.2⟩)
    (Cert.Reference9Ideal.Value.run (F := Ideal) m ρ)

theorem frame_Reference10Ideal : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

end Cert.References

end
-- ==== Proof.Lanes.lean ====
/-
  Lane numbers as 32-bit words: comparing two of them, and summing a vector masked to one lane.
-/
module

public import Idealize.ShloMosaic.Lib.Pointwise

@[expose] public section

noncomputable section

namespace Cert.Lanes

open Idealize.ShloMosaic

/-- Two small numbers are equal as words exactly when they are equal. -/
theorem ofNat_eq_iff {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- A choice by equality of two lane numbers is a choice by equality of the numbers. -/
theorem select_eq_word {α : Type} {a b : ℕ} (ha : a < 2 ^ 32) (hb : b < 2 ^ 32) (x y : α) :
    Scalar.select (IntOp.cmpi .eq (BitVec.ofNat 32 a) (BitVec.ofNat 32 b)) x y = if a = b then x else y := by
  by_cases h : a = b
  · subst h; simp [IntOp.cmpi, Scalar.select]
  · have h' : ¬ BitVec.ofNat 32 a = BitVec.ofNat 32 b := fun e => h ((ofNat_eq_iff ha hb).1 e)
    simp [IntOp.cmpi, Scalar.select, h, beq_eq_false_iff_ne.2 h']

/-- The sum of a vector kept on one lane and zeroed on the others is its entry on that lane. -/
theorem sum_select_lane {n : ℕ} (hn : n ≤ 2 ^ 32) (f : Fin n → EReal) (e : Fin n) :
    ∑ x : Fin n, Scalar.select (IntOp.cmpi .eq (BitVec.ofNat 32 x.val) (BitVec.ofNat 32 e.val)) (f x) 0 = f e := by
  rw [Finset.sum_eq_single e]
  · rw [select_eq_word (by omega) (by omega), if_pos rfl]
  · intro x _ hx
    rw [select_eq_word (by omega) (by omega), if_neg (fun h => hx (Fin.ext h))]
  · intro h; exact absurd (Finset.mem_univ e) h

end Cert.Lanes

end
-- ==== Proof.TopTwo.lean ====
/-
  The two greatest of eight numbers, ties to the lower position: what a stable descending sort's first two positions are,
  and what two rounds of "maximum, first lane that attains it, mask that lane" over 128 lanes find.
-/
module

public import Idealize.ShloMosaic.Lib.Pointwise
public import Idealize.ShloMosaic.Lib.SortPrefix
public import proofs.«01_k».proof.Proof.Lanes

@[expose] public section

noncomputable section

namespace Cert.TopTwo

open Idealize.ShloMosaic

/-- `a` is the first position of the greatest entry of `f`, `b` the first position of the greatest of the others. -/
structure IsTop2 (f : Fin 8 → EReal) (a b : Fin 8) : Prop where
  max1 : ∀ j, f j ≤ f a
  first1 : ∀ j, j < a → f j ≠ f a
  ne : b ≠ a
  max2 : ∀ j, j ≠ a → f j ≤ f b
  first2 : ∀ j, j < b → j ≠ a → f j ≠ f b

/-- Among the positions of a nonempty set there is a first one attaining the greatest entry. -/
theorem exists_first_max (f : Fin 8 → EReal) (s : Finset (Fin 8)) (hs : s.Nonempty) :
    ∃ a ∈ s, (∀ j ∈ s, f j ≤ f a) ∧ ∀ j ∈ s, j < a → f j ≠ f a := by
  obtain ⟨c, hc, hmax⟩ := s.exists_max_image f hs
  have hT : (s.filter fun j => f j = f c).Nonempty := ⟨c, Finset.mem_filter.2 ⟨hc, rfl⟩⟩
  obtain ⟨ha, hac⟩ := Finset.mem_filter.1 (Finset.min'_mem _ hT)
  refine ⟨_, ha, fun j hj => (hmax j hj).trans_eq hac.symm, fun j hj hlt e => ?_⟩
  exact absurd hlt (not_lt.2 (Finset.min'_le _ j (Finset.mem_filter.2 ⟨hj, e.trans hac⟩)))

theorem exists_top2 (f : Fin 8 → EReal) : ∃ a b, IsTop2 f a b := by
  obtain ⟨a, -, h1, h2⟩ := exists_first_max f Finset.univ ⟨0, Finset.mem_univ _⟩
  have hne : (Finset.univ.erase a).Nonempty := by
    refine ⟨if a = 0 then 1 else 0, Finset.mem_erase.2 ⟨?_, Finset.mem_univ _⟩⟩
    split_ifs with h
    · rw [h]; decide
    · exact fun e => h e.symm
  obtain ⟨b, hb, h3, h4⟩ := exists_first_max f (Finset.univ.erase a) hne
  exact ⟨a, b, fun j => h1 j (Finset.mem_univ _), fun j => h2 j (Finset.mem_univ _), (Finset.mem_erase.1 hb).1,
    fun j hj => h3 j (Finset.mem_erase.2 ⟨hj, Finset.mem_univ _⟩),
    fun j hlt hj => h4 j (Finset.mem_erase.2 ⟨hj, Finset.mem_univ _⟩) hlt⟩

/-! ## The stable descending sort -/

/-- Greater first. -/
def before (f : Fin 8 → EReal) (a b : Fin 8) : Bool := decide (f b < f a)

/-- Greater first, the lower position first among equals. -/
def beforeLex (f : Fin 8 → EReal) (a b : Fin 8) : Bool := decide (f b < f a) || (decide (f a = f b) && decide (a < b))

theorem beforeLex_total (f : Fin 8 → EReal) : StrictTotalBefore (beforeLex f) :=
  StrictTotalBefore.of_key_then_position (fun x y : EReal => decide (y < x)) f (fun a => by simp)
    (fun a b c h1 h2 => by simp only [decide_eq_true_eq] at *; exact lt_trans h2 h1)
    (fun a b => by simp only [decide_eq_true_eq]; rcases lt_trichotomy a b with h | h | h <;> simp [h])

/-- An element inserted among later positions lands in the same place under either order. -/
theorem insertBefore_lex (f : Fin 8 → EReal) (a : Fin 8) (l : List (Fin 8)) (hl : ∀ b ∈ l, a < b) :
    insertBefore (before f) a l = insertBefore (beforeLex f) a l := by
  induction l with
  | nil => rfl
  | cons b l ih =>
    have hb : ¬ b < a := not_lt.2 (hl b (by simp)).le
    have e : beforeLex f b a = before f b a := by simp [before, beforeLex, hb]
    unfold insertBefore
    rw [e, ih fun c hc => hl c (by simp [hc])]

/-- A stable sort by greater-first is the sort by greater-first with ties to the lower position. -/
theorem stableSort_lex (f : Fin 8 → EReal) (l : List (Fin 8)) (hl : l.Pairwise (· < ·)) :
    stableSort (before f) l = stableSort (beforeLex f) l := by
  induction l with
  | nil => rfl
  | cons a l ih =>
    obtain ⟨h1, h2⟩ := List.pairwise_cons.1 hl
    unfold stableSort
    rw [ih h2]
    exact insertBefore_lex f a _ fun b hb => h1 b ((perm_stableSort _ l).mem_iff.1 hb)

theorem sortedFrom_lex (f : Fin 8 → EReal) (k : Fin 8) : sortedFrom (before f) k = sortedFrom (beforeLex f) k := by
  have h : sortPositions 8 (before f) = sortPositions 8 (beforeLex f) := stableSort_lex f _ (List.pairwise_lt_finRange 8)
  unfold sortedFrom
  simp only [List.get_eq_getElem]
  exact List.getElem_of_eq h _

/-- The first two positions of the stable descending sort are the top two. -/
theorem sortedFrom_top2 {f : Fin 8 → EReal} {a b : Fin 8} (h : IsTop2 f a b) :
    sortedFrom (before f) 0 = a ∧ sortedFrom (before f) 1 = b := by
  have key : ∀ i : Fin 2, sortedFrom (before f) (i.castLE (by norm_num)) = (![a, b] : Fin 2 → Fin 8) i := by
    intro i
    rw [sortedFrom_lex]
    have notBefore : ∀ p q : Fin 8, f p ≤ f q → (p < q → f p ≠ f q) → beforeLex f p q = false := by
      intro p q h1 h2
      simp only [beforeLex, Bool.or_eq_false_iff, Bool.and_eq_false_iff, decide_eq_false_iff_not]
      refine ⟨not_lt.2 h1, ?_⟩
      by_cases e : p < q
      · exact Or.inl (h2 e)
      · exact Or.inr e
    refine (beforeLex_total f).sortedFrom_eq_of_prefix (by norm_num) ![a, b] ?_ ?_ ?_ i
    · intro p q hpq
      fin_cases p <;> fin_cases q <;> simp_all [h.ne, h.ne.symm]
    · intro p q hpq
      fin_cases p <;> fin_cases q <;> simp at hpq ⊢
      exact notBefore _ _ (h.max1 _) (h.first1 _)
    · intro p q hq
      have hqa : q ≠ a := fun e => hq 0 e.symm
      fin_cases p
      · exact notBefore _ _ (h.max1 _) (h.first1 _)
      · exact notBefore _ _ (h.max2 _ hqa) fun hlt => h.first2 _ hlt hqa
  exact ⟨key 0, key 1⟩

/-! ## Two rounds over 128 lanes -/

/-- Eight numbers on the first eight lanes, −∞ on the others. -/
def masked (f : Fin 8 → EReal) : Fin 128 → EReal := fun x => if h : x.val < 8 then f ⟨x.val, h⟩ else ⊥

/-- A fold of `max` from −∞ whose greatest entry is known. -/
theorem fold_max_eq {ι : Type} [Fintype ι] (g : ι → EReal) (a : ι) (h : ∀ x, g x ≤ g a) :
    Finset.fold max ⊥ g Finset.univ = g a :=
  le_antisymm ((Finset.fold_max_le _).2 ⟨bot_le, fun x _ => h x⟩) ((Finset.le_fold_max _).2 (Or.inr ⟨a, Finset.mem_univ _, le_rfl⟩))

/-- The least of the lanes a predicate holds on, other lanes counting as 128, is the predicate's first lane. -/
theorem fold_minsi_eq (p : Fin 128 → Prop) [DecidablePred p] (a : Fin 128) (ha : p a) (h : ∀ x, p x → a ≤ x) :
    Finset.fold IntOp.minsi (2147483647#32) (fun x : Fin 128 => if p x then BitVec.ofNat 32 x.val else 128#32) Finset.univ
      = BitVec.ofNat 32 a.val := by
  have ti : ∀ n : ℕ, n ≤ 128 → (BitVec.ofNat 32 n).toInt = n := fun n hn => by
    show (BitVec.ofNat 32 n).toInt = _; rw [BitVec.toInt_ofNat']; exact Int.bmod_eq_of_le (by omega) (by omega)
  apply BitVec.eq_of_toInt_eq
  have hom := Finset.fold_hom (s := Finset.univ) (op := IntOp.minsi (w := 32)) (op' := (min : ℤ → ℤ → ℤ)) (m := BitVec.toInt)
    (b := 2147483647#32) (f := fun x : Fin 128 => if p x then BitVec.ofNat 32 x.val else 128#32)
    (fun x y => by unfold IntOp.minsi; split_ifs with hxy <;> simp [BitVec.slt] at hxy <;> omega)
  rw [← hom]
  rw [ti a.val (by omega)]
  refine le_antisymm ((Finset.fold_min_le _).2 (Or.inr ⟨a, Finset.mem_univ _, ?_⟩)) ((Finset.le_fold_min _).2 ⟨?_, fun x _ => ?_⟩)
  · simp only [if_pos ha]; rw [ti a.val (by omega)]
  · have : (2147483647#32 : BitVec 32).toInt = 2147483647 := by decide
    rw [this]; omega
  · by_cases hx : p x
    · rw [if_pos hx, ti x.val (by omega)]; exact_mod_cast h x hx
    · rw [if_neg hx, ti 128 le_rfl]; omega

/-- The lane of one of the eight positions. -/
abbrev lane (a : Fin 8) : Fin 128 := ⟨a.val, by omega⟩

theorem masked_lane (f : Fin 8 → EReal) (a : Fin 8) : masked f (lane a) = f a := by
  simp [masked]

variable {f : Fin 8 → EReal} {a b : Fin 8}

/-- First round: the greatest of the 128 lanes. -/
theorem round1_max (h : IsTop2 f a b) : Finset.fold max ⊥ (masked f) Finset.univ = f a := by
  rw [← masked_lane f a]
  refine fold_max_eq _ _ fun x => ?_
  rw [masked_lane]
  unfold masked
  split_ifs with hx
  · exact h.max1 _
  · exact bot_le

/-- First round: the first lane that attains it. -/
theorem round1_lane (hf : ∀ j, f j ≠ ⊥) (h : IsTop2 f a b) [DecidablePred fun x : Fin 128 => masked f x = f a] :
    Finset.fold IntOp.minsi (2147483647#32) (fun x : Fin 128 => if masked f x = f a then BitVec.ofNat 32 x.val else 128#32)
      Finset.univ = BitVec.ofNat 32 a.val := by
  refine fold_minsi_eq (fun x => masked f x = f a) (lane a) (masked_lane f a) fun x hx => ?_
  dsimp only [masked] at hx
  split_ifs at hx with h8
  · exact not_lt.1 fun hlt => h.first1 ⟨x.val, h8⟩ hlt hx
  · exact absurd hx.symm (hf a)

/-- The lanes with the first round's lane masked. -/
def masked2 (f : Fin 8 → EReal) (a : Fin 8) : Fin 128 → EReal := fun x => if x.val = a.val then ⊥ else masked f x

theorem masked2_lane (h : IsTop2 f a b) : masked2 f a (lane b) = f b := by
  have : ¬ b.val = a.val := fun e => h.ne (Fin.ext e)
  simp only [masked2, this, if_false]; exact masked_lane f b

/-- Second round: the greatest of the remaining lanes. -/
theorem round2_max (h : IsTop2 f a b) : Finset.fold max ⊥ (masked2 f a) Finset.univ = f b := by
  rw [← masked2_lane h]
  refine fold_max_eq _ _ fun x => ?_
  rw [masked2_lane h]
  unfold masked2 masked
  split_ifs with h1 h2
  · exact bot_le
  · exact h.max2 _ fun e => h1 (congrArg Fin.val e)
  · exact bot_le

/-- Second round: the first lane that attains it. -/
theorem round2_lane (hf : ∀ j, f j ≠ ⊥) (h : IsTop2 f a b) [DecidablePred fun x : Fin 128 => masked2 f a x = f b] :
    Finset.fold IntOp.minsi (2147483647#32) (fun x : Fin 128 => if masked2 f a x = f b then BitVec.ofNat 32 x.val else 128#32)
      Finset.univ = BitVec.ofNat 32 b.val := by
  refine fold_minsi_eq (fun x => masked2 f a x = f b) (lane b) (masked2_lane h) fun x hx => ?_
  dsimp only [masked2, masked] at hx
  split_ifs at hx with h1 h8
  · exact absurd hx.symm (hf b)
  · exact not_lt.1 fun hlt => h.first2 ⟨x.val, h8⟩ hlt (fun e => h1 (congrArg Fin.val e)) hx
  · exact absurd hx.symm (hf b)

end Cert.TopTwo

end
-- ==== Proof.RoutingBlock.lean ====
/-
  The routing call, one block: what the kernel body computes for a token from the blocks it loads — the token's root
  mean square, its eight logits, the top two of them, and the two weights on their lanes.
-/
module

public import proofs.«01_k».proof.Proof.Gen.KernelIdeal.Skeleton
public import Idealize.ShloMosaic.Lib.Pointwise
public import proofs.«01_k».proof.Proof.TopTwo

@[expose] public section

noncomputable section

namespace Cert.Routing

open Cert.KernelIdeal Cert.KernelIdeal.Gen Idealize.ShloMosaic

/-- One over the root mean square of a row of 4096 numbers, the program's two constants left as their words. -/
def invRms (x : Fin 4096 → EReal) : EReal :=
  Ideal.rsqrt (Ideal.div (∑ k, x k * x k) (Ideal.ofBits .f32 0x45800000#32) + Ideal.ofBits .f32 0x358637BD#32)

/-- A token's logit for one expert: the normalised row against the expert's column. -/
def logit (x nrm w : Fin 4096 → EReal) : EReal := ∑ k, x k * invRms x * nrm k * w k

/-- The two routing weights on their lanes: with `e = exp (f b − f a)`, `1 / (1 + e)` on lane `a` and `e / (1 + e)` on
    lane `b`, zero on every other lane. -/
def gate (f : Fin 8 → EReal) (a b : Fin 8) (q : Fin 128) : EReal :=
  (if q.val = a.val then Ideal.div 1 (1 + Ideal.exp (f b - f a)) else 0)
    + (if q.val = b.val then Ideal.exp (f b - f a) * Ideal.div 1 (1 + Ideal.exp (f b - f a)) else 0)

theorem ofBits_negInf : Ideal.ofBits .f32 0xFF800000#32 = ⊥ := by
  simp [Ideal.ofBits, Ideal.ieee]

variable (x : Vec Ideal S320x4096 .f32) (nrm : Vec Ideal S1x4096 .f32) (w : Vec Ideal S4096x128 .f32)

/-- The eight logits of row `r` of a block. -/
def blockLogits (r : Fin 320) : Fin 8 → EReal := fun j =>
  logit (fun k => x (ix2 r k)) (fun k => nrm (ix2 0 k)) (fun k => w (ix2 k (TopTwo.lane j)))

theorem pay2_apply (r : Fin 320) (q : Fin 128) : k0_pay2 x nrm w (ix2 r q) = TopTwo.masked (blockLogits x nrm w r) q := by
  unfold k0_pay2
  pointwise [dot_S320x4096_S4096x128_S320x128_1_0_0_1_n_n]
  rw [ofBits_negInf]
  unfold TopTwo.masked
  have hs : IntOp.cmpi .slt (BitVec.ofNat 32 q.val) 8#32 = BitVec.ofBool (decide (q.val < 8)) := by
    revert q; decide +kernel
  rw [hs]
  by_cases h : q.val < 8
  · simp only [h, decide_true, dif_pos]; rfl
  · simp only [h, decide_false, dif_neg, not_false_eq_true]; rfl

variable {a b : Fin 8} {r : Fin 320}

theorem pay3_apply (h : TopTwo.IsTop2 (blockLogits x nrm w r) a b) :
    k0_pay3 x nrm w (ix2 r 0) = blockLogits x nrm w r a := by
  unfold k0_pay3
  pointwise
  rw [ofBits_negInf, funext fun q => pay2_apply x nrm w r q]
  exact TopTwo.round1_max h

theorem pay4_apply (hf : ∀ j, blockLogits x nrm w r j ≠ ⊥) (h : TopTwo.IsTop2 (blockLogits x nrm w r) a b) :
    k0_pay4 x nrm w (ix2 r 0) = BitVec.ofNat 32 a.val := by
  unfold k0_pay4
  pointwise
  simp only [pay2_apply, pay3_apply x nrm w h]
  exact TopTwo.round1_lane hf h

theorem pay5_apply (hf : ∀ j, blockLogits x nrm w r j ≠ ⊥) (h : TopTwo.IsTop2 (blockLogits x nrm w r) a b) (q : Fin 128) :
    k0_pay5 x nrm w (ix2 r q) = TopTwo.masked2 (blockLogits x nrm w r) a q := by
  unfold k0_pay5
  pointwise
  rw [pay4_apply x nrm w hf h, pay2_apply, ofBits_negInf, Lanes.select_eq_word (by omega) (by omega)]
  rfl

theorem pay6_apply (hf : ∀ j, blockLogits x nrm w r j ≠ ⊥) (h : TopTwo.IsTop2 (blockLogits x nrm w r) a b) :
    k0_pay6 x nrm w (ix2 r 0) = blockLogits x nrm w r b := by
  unfold k0_pay6
  pointwise
  rw [ofBits_negInf, funext fun q => pay5_apply x nrm w hf h q]
  exact TopTwo.round2_max h

theorem pay7_fold (hf : ∀ j, blockLogits x nrm w r j ≠ ⊥) (h : TopTwo.IsTop2 (blockLogits x nrm w r) a b) :
    Finset.fold IntOp.minsi (2147483647#32) (fun q => k0_pay7 x nrm w (ix2 r q)) Finset.univ = BitVec.ofNat 32 b.val := by
  unfold k0_pay7
  pointwise
  simp only [pay5_apply x nrm w hf h, pay6_apply x nrm w hf h]
  exact TopTwo.round2_lane hf h

/-- The block the kernel stores, at one row and lane. -/
theorem payload_apply (hf : ∀ j, blockLogits x nrm w r j ≠ ⊥) (h : TopTwo.IsTop2 (blockLogits x nrm w r) a b) (q : Fin 128) :
    k0_pay1 (iota .tc S320x128 32 [1] iota_S320x128_d1_w32) (k0_pay3 x nrm w) (k0_pay4 x nrm w) (k0_pay6 x nrm w)
      (k0_pay7 x nrm w) (ix2 r q) = gate (blockLogits x nrm w r) a b q := by
  unfold k0_pay1
  pointwise
  rw [pay3_apply x nrm w h, pay4_apply x nrm w hf h, pay6_apply x nrm w hf h, pay7_fold x nrm w hf h,
    Lanes.select_eq_word (by omega) (by omega), Lanes.select_eq_word (by omega) (by omega)]
  rfl

end Cert.Routing

end
-- ==== Proof.Reals.lean ====
/- Extended reals that are real numbers: sums, products and the root mean square of such keep to them. -/
module

public import Idealize.ShloMosaic.Lib.Pointwise

@[expose] public section

noncomputable section

namespace Cert.Reals

open Idealize.ShloMosaic

/-- Neither infinity. -/
def IsReal (x : EReal) : Prop := ∃ r : ℝ, x = r

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem sum_coe {n : ℕ} (g : Fin n → ℝ) : ∑ k, ((g k : ℝ) : EReal) = ((∑ k, g k : ℝ) : EReal) := by
  induction (Finset.univ : Finset (Fin n)) using Finset.induction_on with
  | empty => simp
  | insert a s ha ih => rw [Finset.sum_insert ha, Finset.sum_insert ha, ih, EReal.coe_add]

theorem IsReal.sum {n : ℕ} {g : Fin n → EReal} (hg : ∀ k, IsReal (g k)) : IsReal (∑ k, g k) := by
  choose r hr using hg
  exact ⟨∑ k, r k, by rw [← sum_coe]; exact Finset.sum_congr rfl fun k _ => hr k⟩

theorem IsReal.ne_bot {x : EReal} (h : IsReal x) : x ≠ ⊥ := by obtain ⟨r, rfl⟩ := h; exact EReal.coe_ne_bot r

/-- The constant 4096. -/
theorem ofBits_4096 : Ideal.ofBits .f32 0x45800000#32 = ((4096 : ℝ) : EReal) := by
  simp [Ideal.ofBits, Ideal.ieee, -EReal.coe_mul]
  norm_num

/-- The small constant under the root is a positive real. -/
theorem ofBits_eps : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

/-- A number whose absolute value is below ⊤ is real. -/
theorem isReal_of_abs_lt_top {x : EReal} (h : max x (-x) < ⊤) : IsReal x := by
  induction x with
  | bot => simp at h
  | coe r => exact ⟨r, rfl⟩
  | top => simp at h

/-- One over the root mean square of real numbers is real. -/
theorem isReal_rsqrt_mean {x : Fin 4096 → EReal} (hx : ∀ k, IsReal (x k)) :
    IsReal (Ideal.rsqrt (Ideal.div (∑ k, x k * x k) (Ideal.ofBits .f32 0x45800000#32) + Ideal.ofBits .f32 0x358637BD#32)) := by
  choose r hr using hx
  obtain ⟨e, he, hE⟩ := ofBits_eps
  have hs : ∑ k, x k * x k = ((∑ k, r k * r k : ℝ) : EReal) := by
    rw [← sum_coe]; exact Finset.sum_congr rfl fun k _ => by rw [hr k, EReal.coe_mul]
  have hpos : 0 ≤ ∑ k, r k * r k := Finset.sum_nonneg fun k _ => mul_self_nonneg _
  have h4 : (0 : ℝ) < (∑ k, r k * r k) * (1 / 4096) + e := by positivity
  rw [hs, hE, ofBits_4096, Ideal.div_coe (by norm_num), ← EReal.coe_mul, ← EReal.coe_add, Ideal.rsqrt_coe,
    if_neg (not_lt.2 h4.le), if_neg h4.ne']
  exact ⟨_, rfl⟩

end Cert.Reals

end
-- ==== Proof.RoutingArray.lean ====
/-
  The routing call, the whole array: the padded router and the norm's row as the call prepares them, which block each grid
  point writes, and that the blocks together are every token's weights.
-/
module

public import proofs.«01_k».proof.Proof.Gen.KernelIdeal.Value
public import proofs.«01_k».proof.Proof.RoutingBlock
public import proofs.«01_k».proof.Proof.Reals

@[expose] public section

noncomputable section

namespace Cert.Routing

open Cert.KernelIdeal Cert.KernelIdeal.Gen Idealize.ShloMosaic Idealize.ShloMosaic.TcCoe Idealize.SL.Sem
open Idealize.ShloMosaic.Pipeline (Dat)

/-- The eight logits of a token. -/
def logits (x : S8320x4096.Idx → EReal) (nrm : S4096.Idx → EReal) (w : S4096x8.Idx → EReal) (row : Fin 8320) : Fin 8 → EReal :=
  fun j => logit (fun k => x (ix2 row k)) (fun k => nrm (ix1 k)) (fun k => w (ix2 k j))

/-- The first of the top two experts. -/
def top1 (f : Fin 8 → EReal) : Fin 8 := (TopTwo.exists_top2 f).choose
/-- The second of the top two experts. -/
def top2 (f : Fin 8 → EReal) : Fin 8 := (TopTwo.exists_top2 f).choose_spec.choose
theorem isTop2 (f : Fin 8 → EReal) : TopTwo.IsTop2 f (top1 f) (top2 f) := (TopTwo.exists_top2 f).choose_spec.choose_spec

/-- What the call computes: for each token the weights of its top two experts, on the experts' lanes. -/
def spec (x : S8320x4096.Idx → EReal) (nrm : S4096.Idx → EReal) (w : S4096x8.Idx → EReal) : S8320x128.Idx → EReal := fun i =>
  gate (logits x nrm w (i 0)) (top1 (logits x nrm w (i 0))) (top2 (logits x nrm w (i 0))) (i 1)

/-- Logits of real inputs are real. -/
theorem logits_real {x : S8320x4096.Idx → EReal} {nrm : S4096.Idx → EReal} {w : S4096x8.Idx → EReal}
    (hx : ∀ i, Reals.IsReal (x i)) (hn : ∀ i, Reals.IsReal (nrm i)) (hw : ∀ i, Reals.IsReal (w i)) (row : Fin 8320) (j : Fin 8) :
    Reals.IsReal (logits x nrm w row j) :=
  Reals.IsReal.sum fun _ => (((hx _).mul (Reals.isReal_rsqrt_mean fun _ => hx _)).mul (hn _)).mul (hw _)

/-- The blocks each point reads and writes: row tile `t`, the norm's row and the router whole. -/
theorem idx_facts : ∀ t : Fin cfg0.N, win0_0.index t = ![t.val, 0] ∧ win0_1.index t = ![0, 0] ∧ win0_2.index t = ![0, 0]
    ∧ win0_3.index t = ![t.val, 0] ∧ win0_3.flush t = true :=
  (by decide +kernel : ∀ t : Fin grid0.N, _)

variable (m : (ℓ : Loc nD τ sig) → Buf (Elt Ideal) ℓ)

theorem hz2 : (![0, 0] : Fin 2 → Nat) = fun _ => 0 := funext fun a => by fin_cases a <;> rfl

/-- The router as the call sees it: its eight columns, then columns of zeros. -/
theorem router_eq (c : Dev nD) : V m c main_v0
    = pad S4096x128 ![0, 0] ![0, 120] ![0, 0] (m ((c : Thread nD τ).loc main_arg2)) (sitofp (F := Ideal) .f32 (constantI S_ 32 0#32))
      pads_S4096x8_S4096x128_000_01200 h_S_ := by
  show StableHlo.after _ (fun b => m (c, b)) (Proc.devRef .tc main_v0) = _
  simp only [List.flatten_cons, List.flatten_nil, List.cons_append, List.nil_append]
  after_results
  rfl

/-- The norm's weights as the call sees them: one row. -/
theorem norm_eq (c : Dev nD) : V m c main_v1 = shapeCast S1x4096 (m ((c : Thread nD τ).loc main_arg1)) shapeCasts_S4096_S1x4096 := by
  show StableHlo.after _ (fun b => m (c, b)) (Proc.devRef .tc main_v1) = _
  simp only [List.flatten_cons, List.flatten_nil, List.cons_append, List.nil_append]
  after_results
  rfl

/-- The token block of a point: rows `320 · t …` of the tokens. -/
theorem rows_apply (c : Dev nD) (t : Fin cfg0.N) (r : Fin 320) (k : Fin 4096) (row : Fin 8320) (hr : row.val = t.val * 320 + r.val) :
    iblk m c 0 t (ix2 r k) = m ((c : Thread nD τ).loc main_arg0) (ix2 row k) := by
  obtain ⟨e0, -⟩ := idx_facts t
  rw [← V_main_arg0 m c]
  refine congrArg (V m c main_arg0) (funext fun a => Fin.ext ?_)
  match a with
  | ⟨0, _⟩ => show win0_0.index t 0 * 320 + 1 * r.val = row.val; rw [e0, hr]; simp
  | ⟨1, _⟩ => show win0_0.index t 1 * 4096 + 1 * k.val = k.val; rw [e0]; simp

/-- The norm's weight block of a point. -/
theorem norm_apply (c : Dev nD) (t : Fin cfg0.N) (k : Fin 4096) :
    iblk m c 1 t (ix2 0 k) = m ((c : Thread nD τ).loc main_arg1) (ix1 k) := by
  obtain ⟨-, e1, -⟩ := idx_facts t
  have h : iblk m c 1 t (ix2 0 k) = V m c main_v1 (ix2 0 k) := by
    refine congrArg (V m c main_v1) (funext fun a => Fin.ext ?_)
    match a with
    | ⟨0, _⟩ => show win0_1.index t 0 * 1 + 1 * 0 = 0; rw [e1]; simp
    | ⟨1, _⟩ => show win0_1.index t 1 * 4096 + 1 * k.val = k.val; rw [e1]; simp
  rw [h, norm_eq]
  refine shapeCast_apply _ shapeCasts_S4096_S1x4096 (ix2 0 k) (ix1 k) ?_
  rw [Shape.rowMajor_val_one, Shape.rowMajor_val_two]
  show k.val = 0 * 4096 + k.val
  omega

/-- The router block of a point, at one of the eight experts' columns. -/
theorem router_apply (c : Dev nD) (t : Fin cfg0.N) (k : Fin 4096) (j : Fin 8) :
    iblk m c 2 t (ix2 k (TopTwo.lane j)) = m ((c : Thread nD τ).loc main_arg2) (ix2 k j) := by
  obtain ⟨-, -, e2, -⟩ := idx_facts t
  have h : iblk m c 2 t (ix2 k (TopTwo.lane j)) = V m c main_v0 (ix2 k (TopTwo.lane j)) := by
    refine congrArg (V m c main_v0) (funext fun a => Fin.ext ?_)
    match a with
    | ⟨0, _⟩ => show win0_2.index t 0 * 4096 + 1 * k.val = k.val; rw [e2]; simp
    | ⟨1, _⟩ => show win0_2.index t 1 * 128 + 1 * j.val = j.val; rw [e2]; simp
  rw [h, router_eq]
  unfold pad
  rw [dif_pos (by
    intro a
    match a with
    | ⟨0, _⟩ => show 0 ≤ k.val ∧ (k.val - 0) % (0 + 1) = 0 ∧ (k.val - 0) / (0 + 1) < 4096; omega
    | ⟨1, _⟩ => show 0 ≤ j.val ∧ (j.val - 0) % (0 + 1) = 0 ∧ (j.val - 0) / (0 + 1) < 8; omega)]
  refine congrArg (m ((c : Thread nD τ).loc main_arg2)) (funext fun a => Fin.ext ?_)
  match a with
  | ⟨0, _⟩ => show (k.val - 0) / (0 + 1) = k.val; omega
  | ⟨1, _⟩ => show (j.val - 0) / (0 + 1) = j.val; omega

/-- A block's logits are its tokens' logits. -/
theorem blockLogits_eq (c : Dev nD) (t : Fin cfg0.N) (r : Fin 320) (row : Fin 8320) (hr : row.val = t.val * 320 + r.val) :
    blockLogits (iblk m c 0 t) (iblk m c 1 t) (iblk m c 2 t) r
      = logits (m ((c : Thread nD τ).loc main_arg0)) (m ((c : Thread nD τ).loc main_arg1)) (m ((c : Thread nD τ).loc main_arg2)) row := by
  funext j
  unfold blockLogits logits
  rw [funext fun k => rows_apply m c t r k row hr, funext fun k => norm_apply m c t k, funext fun k => router_apply m c t k j]

/-- What point `t` writes back is its block of `spec`, when every token's logits are numbers above −∞. -/
theorem flushed_eq (c : Dev nD) (hf : ∀ row j, logits (m ((c : Thread nD τ).loc main_arg0)) (m ((c : Thread nD τ).loc main_arg1))
      (m ((c : Thread nD τ).loc main_arg2)) row j ≠ ⊥) (t : Fin cfg0.N) :
    (dats m 0 c).flushed 3 t = ((cfg0.win 3).blk t).view.read (Elt Ideal)
      (spec (m ((c : Thread nD τ).loc main_arg0)) (m ((c : Thread nD τ).loc main_arg1)) (m ((c : Thread nD τ).loc main_arg2))) := by
  rw [Value.flushed3]
  obtain ⟨-, -, -, e3, -⟩ := idx_facts t
  have ht : t.val < 26 := lt_of_lt_of_eq t.isLt N_0
  funext y
  obtain ⟨r, q, rfl⟩ : ∃ (r : Fin 320) (q : Fin 128), y = ix2 r q := ⟨y 0, y 1, eq_ix2 y⟩
  show out0_3 _ _ _ (ix2 r q) = _
  unfold out0_3
  rw [View.canon_unit_zero hz2]
  rw [View.ld_unit_zero (S := S320x4096) hz2, View.ld_unit_zero (S := S1x4096) hz2, View.ld_unit_zero (S := S4096x128) hz2]
  have hrow := blockLogits_eq m c t r ⟨t.val * 320 + r.val, by omega⟩ rfl
  rw [payload_apply (a := top1 _) (b := top2 _) _ _ _ (fun j => by rw [hrow]; exact hf _ j) (isTop2 _) q, hrow]
  have hi : ((cfg0.win 3).blk t).view.emb (ix2 r q) = ix2 (⟨t.val * 320 + r.val, by omega⟩ : Fin 8320) q := by
    funext a; apply Fin.ext
    match a with
    | ⟨0, _⟩ => show win0_3.index t 0 * 320 + 1 * r.val = _; rw [e3]; simp
    | ⟨1, _⟩ => show win0_3.index t 1 * 128 + 1 * q.val = _; rw [e3]; simp
  show _ = spec _ _ _ (((cfg0.win 3).blk t).view.emb (ix2 r q))
  rw [hi]
  rfl

/-- An entry lies in a point's block when each coordinate is in the block's range. -/
theorem mem_block (t : Fin cfg0.N) (i : S8320x128.Idx) :
    i ∈ ((cfg0.win 3).blk t).view.set ↔ ∀ a : Fin 2, win0_3.index t a * S320x128.size a ≤ (i a).val
      ∧ (i a).val < win0_3.index t a * S320x128.size a + S320x128.size a := by
  show i ∈ ((View.whole main_v2).slice (win0_3.rect t)).set ↔ _
  rw [View.set_slice_whole, Rect.mem_set_unit]
  exact Iff.rfl

/-- Every entry lies in the block of some point. -/
theorem covered (i : S8320x128.Idx) : ∃ t : Fin cfg0.N, (cfg0.win 3).flush t = true ∧ i ∈ ((cfg0.win 3).blk t).view.set := by
  have h0 : (i 0).val < 8320 := (i 0).isLt
  have h1 : (i 1).val < 128 := (i 1).isLt
  have hN : cfg0.N = 26 := N_0
  obtain ⟨t, ht⟩ : ∃ t : Fin cfg0.N, t.val = (i 0).val / 320 := ⟨⟨(i 0).val / 320, by omega⟩, rfl⟩
  obtain ⟨-, -, -, e3, hf⟩ := idx_facts t
  refine ⟨t, hf, (mem_block t i).2 fun a => ?_⟩
  rw [e3]
  match a with
  | ⟨0, _⟩ => show t.val * 320 ≤ (i 0).val ∧ (i 0).val < t.val * 320 + 320; omega
  | ⟨1, _⟩ => show 0 * 128 ≤ (i 1).val ∧ (i 1).val < 0 * 128 + 128; omega

/-- The result array after the run. -/
theorem final (c : Dev nD) (hf : ∀ row j, logits (m ((c : Thread nD τ).loc main_arg0)) (m ((c : Thread nD τ).loc main_arg1))
      (m ((c : Thread nD τ).loc main_arg2)) row j ≠ ⊥) :
    (dats m 0 c).arrAt 3 cfg0.N
      = spec (m ((c : Thread nD τ).loc main_arg0)) (m ((c : Thread nD τ).loc main_arg1)) (m ((c : Thread nD τ).loc main_arg2)) :=
  (dats m 0 c).arrAt_eq_of_cover 3 _ (fun t _ => flushed_eq m c hf t) covered

end Cert.Routing

end
-- ==== Proof.RoutingReference.lean ====
/-
  The routing call's reference: logits, the two greatest of them with their positions, the softmax of the two, and the sum
  of the two weighted unit vectors, are the kernel's weights.
-/
module

public import proofs.«01_k».proof.Proof.RoutingArray
public import proofs.«01_k».proof.Proof.Gen.ReferenceIdeal.Read

@[expose] public section

noncomputable section

namespace Cert.Routing

open Idealize.ShloMosaic Cert.KernelIdeal Cert.ReferenceIdeal.Read

variable (x : S8320x4096.Idx → EReal) (nrm : S4096.Idx → EReal) (w : S4096x8.Idx → EReal) (row : Fin 8320)

theorem ref_logits (j : Fin 8) : val_main_v13 (F := Ideal) x nrm w (ix2 row j) = logits x nrm w row j := by
  unfold val_main_v13 val_main_v12 val_main_v11 val_main_v10 val_main_v9 val_main_v8 val_main_v7 val_main_v6 val_main_v5
    val_main_v4 val_main_v3 val_main_v2 val_main_v1 val_main_v0 val_main_cst val_main_cst_0 val_main_cst_1 logits logit invRms
  pointwise [Cert.ReferenceIdeal.dot_S8320x4096_S4096x8_S8320x8_1_0_0_1_n_n]

/-- Position `k` of the row's stable descending sort. -/
def sorted (k : Fin 8) : Fin 8 := sortedFrom (TopTwo.before (logits x nrm w row)) k

/-- The host's comparison of two entries of the row is the order of the logits. -/
theorem ref_before : (fun k k' : Fin 8 => FloatOps.cmpfTotal (F := Ideal) (φ := .f32) .gt (val_main_v13 (F := Ideal) x nrm w (ix2 row k))
      (val_main_v13 (F := Ideal) x nrm w (ix2 row k')) == 1#1) = TopTwo.before (logits x nrm w row) := by
  funext k k'
  rw [ref_logits, ref_logits]
  show (BitVec.ofBool (decide (logits x nrm w row k > logits x nrm w row k')) == 1#1) = decide _
  by_cases h : logits x nrm w row k' < logits x nrm w row k <;> simp [h]

/-- The row's fibre along the second axis. -/
theorem along_eq (j k : Fin 8) : Shape.Idx.along (s := ReferenceIdeal.S8320x8) (ix2 row j) 1 k = ix2 row k := by
  funext a
  match a with
  | ⟨0, _⟩ => rfl
  | ⟨1, _⟩ => rfl

/-- A stable sort of the rows with their positions, at one entry. -/
theorem sort2_apply (y : ReferenceIdeal.S8320x8.Idx → EReal) (z : IVec ReferenceIdeal.S8320x8 32) (gt : EReal → EReal → BitVec 1)
    (hz : ∀ k, z (ix2 row k) = BitVec.ofNat 32 k.val) (p : Fin 8) :
    (Host.sort2 ReferenceIdeal.S8320x8 1 (fun l r : EReal × BitVec 32 => gt l.1 r.1) y z).1 (ix2 row p)
        = y (ix2 row (sortedFrom (fun k k' => gt (y (ix2 row k)) (y (ix2 row k')) == 1#1) p))
      ∧ (Host.sort2 ReferenceIdeal.S8320x8 1 (fun l r : EReal × BitVec 32 => gt l.1 r.1) y z).2 (ix2 row p)
        = BitVec.ofNat 32 (sortedFrom (fun k k' => gt (y (ix2 row k)) (y (ix2 row k')) == 1#1) p).val := by
  have hal : ∀ k : Fin 8, Shape.Idx.along (s := ReferenceIdeal.S8320x8) (ix2 row p) 1 k = ix2 row k := along_eq row p
  have hb : (fun k k' : Fin 8 => gt (y (Shape.Idx.along (s := ReferenceIdeal.S8320x8) (ix2 row p) 1 k))
      (y (Shape.Idx.along (s := ReferenceIdeal.S8320x8) (ix2 row p) 1 k')) == 1#1)
      = fun k k' => gt (y (ix2 row k)) (y (ix2 row k')) == 1#1 := by
    funext k k'
    rw [hal, hal]
  unfold Host.sort2
  rw [dif_pos (show (1 : ℕ) < ReferenceIdeal.S8320x8.rank from by decide)]
  constructor
  · exact (congrArg y (hal _)).trans (congrArg (fun B => y (ix2 row (sortedFrom B p))) hb)
  · exact (congrArg z (hal _)).trans ((hz _).trans (congrArg (fun B => BitVec.ofNat 32 (sortedFrom B p).val) hb))

/-- The host's top two along the second axis are the first two of the row's stable sort, with their positions. -/
theorem topK_apply (y : ReferenceIdeal.S8320x8.Idx → EReal) (gt : EReal → EReal → BitVec 1)
    (h : ReferenceIdeal.S8320x8.Slices (fun _ => 0) ReferenceIdeal.S8320x2) (j : Fin 2) :
    (Host.topK ReferenceIdeal.S8320x2 1 gt y h).1 (ix2 row j)
        = y (ix2 row (sortedFrom (fun k k' => gt (y (ix2 row k)) (y (ix2 row k')) == 1#1) ⟨j.val, by omega⟩))
      ∧ (Host.topK ReferenceIdeal.S8320x2 1 gt y h).2 (ix2 row j)
        = BitVec.ofNat 32 (sortedFrom (fun k k' => gt (y (ix2 row k)) (y (ix2 row k')) == 1#1) (⟨j.val, by omega⟩ : Fin 8)).val := by
  have hi : (fun a : Fin 2 => (⟨0 + ((ix2 row j : ReferenceIdeal.S8320x2.Idx) (a.cast h.1.symm)).val, by
      match a with
      | ⟨0, _⟩ => show 0 + row.val < 8320; omega
      | ⟨1, _⟩ => show 0 + j.val < 8; omega⟩ : Fin (ReferenceIdeal.S8320x8.size a))) = ix2 row (⟨j.val, by omega⟩ : Fin 8) := by
    funext a
    match a with
    | ⟨0, _⟩ => exact Fin.ext (Nat.zero_add _)
    | ⟨1, _⟩ => exact Fin.ext (Nat.zero_add _)
  unfold Host.topK extractStridedSlice
  have hs := sort2_apply row y (fun i => if hd : 1 < ReferenceIdeal.S8320x8.rank then iotaInDim ReferenceIdeal.S8320x8 32 ⟨1, hd⟩ i else 0#32)
    gt (fun k => rfl) ⟨j.val, by omega⟩
  exact ⟨(congrArg (Host.sort2 _ _ _ _ _).1 hi).trans hs.1, (congrArg (Host.sort2 _ _ _ _ _).2 hi).trans hs.2⟩

theorem ref_values (j : Fin 2) :
    val_main_values (F := Ideal) x nrm w (ix2 row j) = logits x nrm w row (sorted x nrm w row ⟨j.val, by omega⟩) := by
  rw [← ref_logits]
  unfold sorted
  rw [← ref_before]
  exact (topK_apply row _ _ _ j).1

theorem ref_indices (j : Fin 2) :
    val_main_indices (F := Ideal) x nrm w (ix2 row j) = BitVec.ofNat 32 (sorted x nrm w row ⟨j.val, by omega⟩).val := by
  unfold sorted
  rw [← ref_before]
  exact (topK_apply row _ _ _ j).2

variable {x nrm w row} {a b : Fin 8}

/-- The two sorted values are the top two logits, and their positions the top two experts. -/
theorem sorted_eq (h : TopTwo.IsTop2 (logits x nrm w row) a b) (j : Fin 2) :
    sorted x nrm w row ⟨j.val, by omega⟩ = (![a, b] : Fin 2 → Fin 8) j := by
  obtain ⟨h0, h1⟩ := TopTwo.sortedFrom_top2 h
  match j with
  | ⟨0, _⟩ => exact h0
  | ⟨1, _⟩ => exact h1

/-- The softmax of two real numbers, the greater first: the first weight is `1 / (1 + e)` and the second `e / (1 + e)`,
    with `e` the exponential of their difference. -/
theorem softmax_two (hf : ∀ j, Reals.IsReal (logits x nrm w row j)) (h : TopTwo.IsTop2 (logits x nrm w row) a b) (j : Fin 2) :
    val_main_v24 (F := Ideal) x nrm w (ix2 row j)
      = (![Ideal.div 1 (1 + Ideal.exp (logits x nrm w row b - logits x nrm w row a)),
          Ideal.exp (logits x nrm w row b - logits x nrm w row a)
            * Ideal.div 1 (1 + Ideal.exp (logits x nrm w row b - logits x nrm w row a))] : Fin 2 → EReal) j := by
  unfold val_main_v24 val_main_v23 val_main_v22 val_main_v21 val_main_v20 val_main_v19 val_main_v18 val_main_v17 val_main_v16
    val_main_v15 val_main_v14 val_main_cst_2 val_main_cst_3 val_main_cst_4
  pointwise
  simp only [ref_values, sorted_eq h, ofBits_negInf]
  have hmax : Finset.fold max ⊥ (fun k : Fin 2 => logits x nrm w row ((![a, b] : Fin 2 → Fin 8) k)) Finset.univ
      = logits x nrm w row a := TopTwo.fold_max_eq _ (0 : Fin 2) fun k => by
    match k with
    | ⟨0, _⟩ => exact le_rfl
    | ⟨1, _⟩ => exact h.max1 b
  rw [hmax, Fin.sum_univ_two]
  obtain ⟨p, hp⟩ := hf a
  obtain ⟨q, hq⟩ := hf b
  have e0 : Ideal.exp (logits x nrm w row a - logits x nrm w row a) = 1 := by
    rw [hp, ← EReal.coe_sub, sub_self, Ideal.exp_coe, Real.exp_zero]; rfl
  have hne : (1 : ℝ) + Real.exp (q - p) ≠ 0 := by positivity
  have e1 : (1 : EReal) + Ideal.exp (logits x nrm w row b - logits x nrm w row a) = ((1 + Real.exp (q - p) : ℝ) : EReal) := by
    rw [hp, hq, ← EReal.coe_sub, Ideal.exp_coe, EReal.coe_add]; rfl
  simp only [Matrix.cons_val_zero, Matrix.cons_val_one, max_eq_right (bot_le : ⊥ ≤ logits x nrm w row a), e0]
  match j with
  | ⟨0, _⟩ =>
    show Ideal.div (Ideal.exp (logits x nrm w row a - logits x nrm w row a)) _ = Ideal.div 1 _
    rw [e0]
  | ⟨1, _⟩ =>
    show Ideal.div (Ideal.exp (logits x nrm w row b - logits x nrm w row a)) _ = _ * Ideal.div 1 _
    rw [e1, Ideal.div_coe hne, Ideal.div_coe hne, one_mul]

/-- Whether two lane numbers are equal, as a float. -/
theorem uitofp_eq_word {p q : ℕ} (hp : p < 2 ^ 32) (hq : q < 2 ^ 32) :
    FloatOps.uitofp (F := Ideal) .f32 (IntOp.cmpi .eq (BitVec.ofNat 32 p) (BitVec.ofNat 32 q)) = if q = p then 1 else 0 := by
  by_cases h : p = q
  · subst h
    rw [if_pos rfl]
    show ((((BitVec.ofBool (_ == _)).toNat : ℝ)) : EReal) = 1
    simp
  · have h' : ¬ BitVec.ofNat 32 p = BitVec.ofNat 32 q := fun e => h ((Lanes.ofNat_eq_iff hp hq).1 e)
    rw [if_neg (Ne.symm h)]
    show ((((BitVec.ofBool (_ == _)).toNat : ℝ)) : EReal) = 0
    simp [beq_eq_false_iff_ne.2 h']

/-- The reference's weight of one expert lane. -/
theorem ref_gate (hf : ∀ j, Reals.IsReal (logits x nrm w row j)) (h : TopTwo.IsTop2 (logits x nrm w row) a b) (q : Fin 128) :
    val_main_v30 (F := Ideal) x nrm w (ix2 row q) = gate (logits x nrm w row) a b q := by
  unfold val_main_v30 val_main_v29 val_main_v28 val_main_v27 val_main_v26 val_main_v25 val_main_call0_v4 val_main_call0_v3 val_main_call0_v2 val_main_call0_v1 val_main_call0_v0 val_main_call1_v0 val_main_c val_main_cst_5
  pointwise
  unfold gate
  by_cases h8 : q.val < 8
  · rw [dif_pos h8]
    simp only [ref_indices, sorted_eq h, Fin.sum_univ_two, softmax_two hf h, Matrix.cons_val_zero, Matrix.cons_val_one]
    rw [uitofp_eq_word (by omega) (by omega), uitofp_eq_word (by omega) (by omega)]
    simp only [ite_mul, one_mul, zero_mul]
  · rw [dif_neg h8, if_neg (by omega), if_neg (by omega), add_zero]
    show (((((0#32 : BitVec 32).toInt : ℤ) : ℝ)) : EReal) = 0
    simp

/-- The reference's array. -/
theorem reference_eq (hf : ∀ row j, Reals.IsReal (logits x nrm w row j)) :
    val_main_v30 (F := Ideal) x nrm w = spec x nrm w := by
  funext i
  obtain ⟨row, q, rfl⟩ : ∃ (row : Fin 8320) (q : Fin 128), i = ix2 row q := ⟨i 0, i 1, eq_ix2 i⟩
  exact ref_gate (hf row) (isTop2 _) q

end Cert.Routing

end
-- ==== Proof.Routing.lean ====
/- The routing call: on finite inputs the kernel and the reference leave the same weights. -/
module

public import proofs.«01_k».proof.Proof.RoutingReference
public import proofs.«01_k».proof.Proof.Gen.ReferenceIdeal.Run
public import proofs.«01_k».proof.Proof.Gen.Pre_finite
public import proofs.«01_k».proof.Defs

@[expose] public section

noncomputable section

namespace Cert.Routing

open Idealize.ShloMosaic Idealize.SL.Sem Cert.KernelIdeal

/-- An ordered comparison of an absolute value with infinity that holds says the number is real. -/
theorem real_of_cmp {s : Shape} {x : s.Idx → EReal} {B : s.Idx → EReal} (hB : ∀ i, B i = ⊤)
    (h : cmpf (F := Ideal) (φ := .f32) .olt (Host.absf (F := Ideal) (φ := .f32) x) B = fun _ => 1#1) (i : s.Idx) : Reals.IsReal (x i) := by
  have h' : BitVec.ofBool (decide (max (x i) (-(x i)) < B i)) = 1#1 := congrFun h i
  rw [hB] at h'
  refine Reals.isReal_of_abs_lt_top ?_
  by_contra hn
  rw [decide_eq_false hn] at h'
  exact absurd h' (by decide)

theorem ofBits_inf : Ideal.ofBits .f32 0x7F800000#32 = ⊤ := by
  simp [Ideal.ofBits, Ideal.ieee]

/-- The precondition says that the three arrays hold real numbers. -/
theorem real_of_pre {m : (ℓ : Loc nD τ sig) → Buf (Elt Ideal) ℓ} (h : Cert.Pre_KernelIdeal_finite m) (c : Dev nD) :
    (∀ i, Reals.IsReal (m ((c.tc : Thread nD τ).loc main_arg0) i)) ∧ (∀ i, Reals.IsReal (m ((c.tc : Thread nD τ).loc main_arg1) i))
      ∧ ∀ i, Reals.IsReal (m ((c.tc : Thread nD τ).loc main_arg2) i) :=
  ⟨real_of_cmp (fun _ => ofBits_inf) (h c).1, real_of_cmp (fun _ => ofBits_inf) (h c).2.1, real_of_cmp (fun _ => ofBits_inf) (h c).2.2⟩

/-- The kernel and the reference leave the same array. -/
theorem algebraic : Cert.algebraic_KernelIdeal_ReferenceIdeal_pre_finite := by
  intro m g m' g' hpre hm
  have hreal : ∀ c : Dev nD, ∀ row j, Reals.IsReal (logits (m ((c.tc : Thread nD τ).loc main_arg0))
      (m ((c.tc : Thread nD τ).loc main_arg1)) (m ((c.tc : Thread nD τ).loc main_arg2)) row j) := fun c =>
    logits_real (real_of_pre hpre c).1 (real_of_pre hpre c).2.1 (real_of_pre hpre c).2.2
  refine ⟨fun c => spec (m ((c.tc : Thread nD τ).loc main_arg0)) (m ((c.tc : Thread nD τ).loc main_arg1))
      (m ((c.tc : Thread nD τ).loc main_arg2)), ?_, ?_⟩
  · refine (θ_run _ _ _).mono (fun r h c => ?_) (Cert.KernelIdeal.Value.run_blocks m g)
    exact ⟨(h c).1.trans (final m c fun row j => (hreal c row j).ne_bot), (h c).2⟩
  · refine (θ_run _ _ _).mono (fun r h c => ?_) (Cert.ReferenceIdeal.Value.run m' g')
    refine ⟨(h c).1.trans ?_, (h c).2⟩
    refine (Cert.ReferenceIdeal.Read.val_main_v30_eq _ _).trans ?_
    rw [(hm c).1, (hm c).2.1, (hm c).2.2]
    exact reference_eq (hreal c)

end Cert.Routing

end
-- ==== Proof.ExpertUpBlock.lean ====
/-
  The up-projection of the experts, one block: what the kernel body computes from the blocks it loads.
-/
module

public import proofs.«01_k».proof.Proof.Gen.Kernel2Ideal.Skeleton
public import Idealize.ShloMosaic.Lib.Pointwise
public import proofs.«01_k».proof.Proof.Lanes

@[expose] public section

noncomputable section

namespace Cert.ExpertUp

open Cert.Kernel2Ideal Cert.Kernel2Ideal.Gen Idealize.ShloMosaic

/-- Gated linear unit: `a · logistic a · u`. -/
def swiglu (a u : EReal) : EReal := a * Ideal.logistic a * u

theorem payload_apply (i : grid0.Coords) (h : Vec Ideal S1664x4096 .bf16) (wg wu : Vec Ideal S1x4096x256 .f32)
    (g : Vec Ideal S1664x128 .f32) (r : Fin 1664) (q : Fin 256) (e : Fin 128) (he : (i 1).val = e.val) :
    k0_pay1 i h wg wu g (ix2 r q)
      = swiglu (∑ k : Fin 4096, h (ix2 r k) * wg (ix3 0 k q)) (∑ k : Fin 4096, h (ix2 r k) * wu (ix3 0 k q)) * g (ix2 r e) := by
  unfold k0_pay1 swiglu
  pointwise [dot_S1664x4096_S4096x256_S1664x256_1_0_0_1_n_n]
  rw [he, Lanes.sum_select_lane (by norm_num)]

end Cert.ExpertUp

end
-- ==== Proof.ExpertUpArray.lean ====
/-
  The up-projection of the experts, the whole array: which block each grid point writes, and that the blocks together
  are the gated activations of every token under every expert.
-/
module

public import proofs.«01_k».proof.Proof.Gen.Kernel2Ideal.Value
public import proofs.«01_k».proof.Proof.ExpertUpBlock

@[expose] public section

noncomputable section

namespace Cert.ExpertUp

open Cert.Kernel2Ideal Cert.Kernel2Ideal.Gen Idealize.ShloMosaic Idealize.ShloMosaic.TcCoe Idealize.SL.Sem
open Idealize.ShloMosaic.Pipeline (Dat)

/-- What the call computes: column `i 1` belongs to expert `i 1 / 2048`; the entry is that expert's gated linear unit of
    the token, times the token's weight for the expert. -/
def spec (h : S8320x4096.Idx → EReal) (wg wu : S8x4096x2048.Idx → EReal) (g : S8320x128.Idx → EReal) : S8320x16384.Idx → EReal :=
  fun i =>
    have h0 : (i 0).val < 8320 := (i 0).isLt
    have h1 : (i 1).val < 16384 := (i 1).isLt
    let row : Fin 8320 := ⟨(i 0).val, h0⟩
    let e : Fin 8 := ⟨(i 1).val / 2048, by omega⟩
    let q : Fin 2048 := ⟨(i 1).val % 2048, by omega⟩
    swiglu (∑ k : Fin 4096, h (ix2 row k) * wg (ix3 e k q)) (∑ k : Fin 4096, h (ix2 row k) * wu (ix3 e k q))
      * g (ix2 row ⟨e.val, by omega⟩)

/-- The blocks each point reads and writes, by the point's number: row tile `t / 64`, expert `t / 8 % 8`, column tile `t % 8`. -/
theorem idx_facts : ∀ t : Fin cfg0.N, (grid0.coords t 1).val = t.val / 8 % 8
    ∧ win0_0.index t = ![t.val / 64, 0] ∧ win0_1.index t = ![t.val / 8 % 8, 0, t.val % 8]
    ∧ win0_2.index t = ![t.val / 8 % 8, 0, t.val % 8] ∧ win0_3.index t = ![t.val / 64, 0]
    ∧ win0_4.index t = ![t.val / 64, t.val % 64] ∧ win0_4.flush t = true :=
  (by decide +kernel : ∀ t : Fin grid0.N, _)

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The token block of a point: rows `1664 · (t / 64) …` of the tokens. -/
theorem rows_apply (c : Dev nD) (t : Fin cfg0.N) (r : Fin 1664) (k : Fin 4096) (row : Fin 8320)
    (hr : row.val = t.val / 64 * 1664 + r.val) :
    iblk m c 0 t (ix2 r k) = m ((c : Thread nD τ).loc main_arg0) (ix2 row k) := by
  obtain ⟨-, e0, -⟩ := idx_facts t
  refine congrArg (m ((c : Thread nD τ).loc main_arg0)) (funext fun a => Fin.ext ?_)
  match a with
  | ⟨0, _⟩ => show win0_0.index t 0 * 1664 + 1 * r.val = row.val; rw [e0, hr]; simp
  | ⟨1, _⟩ => show win0_0.index t 1 * 4096 + 1 * k.val = k.val; rw [e0]; simp

/-- The gate weights' block of a point: one expert's matrix, columns `256 · (t % 8) …`. -/
theorem gateW_apply (c : Dev nD) (t : Fin cfg0.N) (q : Fin 256) (k : Fin 4096) (e : Fin 8) (col : Fin 2048)
    (he : e.val = t.val / 8 % 8) (hc : col.val = t.val % 8 * 256 + q.val) :
    iblk m c 1 t (ix3 0 k q) = m ((c : Thread nD τ).loc main_arg1) (ix3 e k col) := by
  obtain ⟨-, -, e1, -⟩ := idx_facts t
  refine congrArg (m ((c : Thread nD τ).loc main_arg1)) (funext fun a => Fin.ext ?_)
  match a with
  | ⟨0, _⟩ => show win0_1.index t 0 * 1 + 1 * 0 = e.val; rw [e1, he]; simp
  | ⟨1, _⟩ => show win0_1.index t 1 * 4096 + 1 * k.val = k.val; rw [e1]; simp
  | ⟨2, _⟩ => show win0_1.index t 2 * 256 + 1 * q.val = col.val; rw [e1, hc]; simp

/-- The up weights' block of a point, the same part of the other matrix. -/
theorem upW_apply (c : Dev nD) (t : Fin cfg0.N) (q : Fin 256) (k : Fin 4096) (e : Fin 8) (col : Fin 2048)
    (he : e.val = t.val / 8 % 8) (hc : col.val = t.val % 8 * 256 + q.val) :
    iblk m c 2 t (ix3 0 k q) = m ((c : Thread nD τ).loc main_arg2) (ix3 e k col) := by
  obtain ⟨-, -, -, e2, -⟩ := idx_facts t
  refine congrArg (m ((c : Thread nD τ).loc main_arg2)) (funext fun a => Fin.ext ?_)
  match a with
  | ⟨0, _⟩ => show win0_2.index t 0 * 1 + 1 * 0 = e.val; rw [e2, he]; simp
  | ⟨1, _⟩ => show win0_2.index t 1 * 4096 + 1 * k.val = k.val; rw [e2]; simp
  | ⟨2, _⟩ => show win0_2.index t 2 * 256 + 1 * q.val = col.val; rw [e2, hc]; simp

/-- The routing weights' block of a point: the same rows as the tokens. -/
theorem gates_apply (c : Dev nD) (t : Fin cfg0.N) (r : Fin 1664) (e : Fin 128) (row : Fin 8320)
    (hr : row.val = t.val / 64 * 1664 + r.val) :
    iblk m c 3 t (ix2 r e) = m ((c : Thread nD τ).loc main_arg3) (ix2 row e) := by
  obtain ⟨-, -, -, -, e3, -⟩ := idx_facts t
  refine congrArg (m ((c : Thread nD τ).loc main_arg3)) (funext fun a => Fin.ext ?_)
  match a with
  | ⟨0, _⟩ => show win0_3.index t 0 * 1664 + 1 * r.val = row.val; rw [e3, hr]; simp
  | ⟨1, _⟩ => show win0_3.index t 1 * 128 + 1 * e.val = e.val; rw [e3]; simp

/-- What point `t` writes back is its block of `spec`. -/
theorem flushed_eq (c : Dev nD) (t : Fin cfg0.N) :
    (dats m 0 c).flushed 4 t = ((cfg0.win 4).blk t).view.read (Elt Ideal)
      (spec (m ((c : Thread nD τ).loc main_arg0)) (m ((c : Thread nD τ).loc main_arg1))
        (m ((c : Thread nD τ).loc main_arg2)) (m ((c : Thread nD τ).loc main_arg3))) := by
  rw [Value.flushed4]
  obtain ⟨ec, e0, e1, e2, e3, e4, -⟩ := idx_facts t
  have ht : t.val < 320 := lt_of_lt_of_eq t.isLt N_0
  funext y
  obtain ⟨r, q, rfl⟩ : ∃ (r : Fin 1664) (q : Fin 256), y = ix2 r q := ⟨y 0, y 1, eq_ix2 y⟩
  show out0_4 _ _ _ _ _ (ix2 r q) = _
  unfold out0_4
  rw [View.canon_unit_zero hz2]
  rw [View.ld_unit_zero hz2, View.ld_unit_zero hz3, View.ld_unit_zero hz3, View.ld_unit_zero hz2]
  rw [payload_apply _ _ _ _ _ r q ⟨t.val / 8 % 8, by omega⟩ ec]
  have hi : ((cfg0.win 4).blk t).view.emb (ix2 r q)
      = ix2 (⟨t.val / 64 * 1664 + r.val, by omega⟩ : Fin 8320) (⟨t.val % 64 * 256 + q.val, by omega⟩ : Fin 16384) := by
    funext a; apply Fin.ext
    match a with
    | ⟨0, _⟩ => show win0_4.index t 0 * 1664 + 1 * r.val = _; rw [e4]; simp
    | ⟨1, _⟩ => show win0_4.index t 1 * 256 + 1 * q.val = _; rw [e4]; simp
  show _ = spec _ _ _ _ (((cfg0.win 4).blk t).view.emb (ix2 r q))
  rw [hi]
  have he : (t.val % 64 * 256 + q.val) / 2048 = t.val / 8 % 8 := by omega
  have hq : (t.val % 64 * 256 + q.val) % 2048 = t.val % 8 * 256 + q.val := by omega
  simp only [spec]
  congr 1
  · congr 1
    · refine Finset.sum_congr rfl fun k _ => ?_
      rw [rows_apply m c t r k ⟨t.val / 64 * 1664 + r.val, by omega⟩ rfl,
        gateW_apply m c t q k ⟨(t.val % 64 * 256 + q.val) / 2048, by omega⟩ ⟨(t.val % 64 * 256 + q.val) % 2048, by omega⟩ he hq]
      rfl
    · refine Finset.sum_congr rfl fun k _ => ?_
      rw [rows_apply m c t r k ⟨t.val / 64 * 1664 + r.val, by omega⟩ rfl,
        upW_apply m c t q k ⟨(t.val % 64 * 256 + q.val) / 2048, by omega⟩ ⟨(t.val % 64 * 256 + q.val) % 2048, by omega⟩ he hq]
      rfl
  · rw [gates_apply m c t r _ ⟨t.val / 64 * 1664 + r.val, by omega⟩ rfl]
    exact congrArg _ (congrArg (ix2 _) (Fin.ext he.symm))

/-- An entry lies in a point's block when each coordinate is in the block's range. -/
theorem mem_block (t : Fin cfg0.N) (i : S8320x16384.Idx) :
    i ∈ ((cfg0.win 4).blk t).view.set ↔ ∀ a : Fin 2, win0_4.index t a * S1664x256.size a ≤ (i a).val
      ∧ (i a).val < win0_4.index t a * S1664x256.size a + S1664x256.size a := by
  show i ∈ ((View.whole main_v0).slice (win0_4.rect t)).set ↔ _
  rw [View.set_slice_whole, Rect.mem_set_unit]
  exact Iff.rfl

/-- Every entry lies in the block of some point. -/
theorem covered (i : S8320x16384.Idx) :
    ∃ t : Fin cfg0.N, (cfg0.win 4).flush t = true ∧ i ∈ ((cfg0.win 4).blk t).view.set := by
  have h0 : (i 0).val < 8320 := (i 0).isLt
  have h1 : (i 1).val < 16384 := (i 1).isLt
  have hN : cfg0.N = 320 := N_0
  obtain ⟨t, ht⟩ : ∃ t : Fin cfg0.N, t.val = (i 0).val / 1664 * 64 + (i 1).val / 256 :=
    ⟨⟨(i 0).val / 1664 * 64 + (i 1).val / 256, by omega⟩, rfl⟩
  obtain ⟨-, -, -, -, -, e4, hf⟩ := idx_facts t
  refine ⟨t, hf, (mem_block t i).2 fun a => ?_⟩
  rw [e4]
  match a with
  | ⟨0, _⟩ => show t.val / 64 * 1664 ≤ (i 0).val ∧ (i 0).val < t.val / 64 * 1664 + 1664; omega
  | ⟨1, _⟩ => show t.val % 64 * 256 ≤ (i 1).val ∧ (i 1).val < t.val % 64 * 256 + 256; omega

/-- The result array after the run. -/
theorem final (c : Dev nD) :
    (dats m 0 c).arrAt 4 cfg0.N = spec (m ((c : Thread nD τ).loc main_arg0)) (m ((c : Thread nD τ).loc main_arg1))
      (m ((c : Thread nD τ).loc main_arg2)) (m ((c : Thread nD τ).loc main_arg3)) :=
  (dats m 0 c).arrAt_eq_of_cover 4 _ (fun t _ => flushed_eq m c t) covered

end Cert.ExpertUp

end
-- ==== Proof.ExpertUp.lean ====
/- The experts' up projections: the reference computes the same array, and so the two programs agree. -/
module

public import proofs.«01_k».proof.Proof.ExpertUpArray
public import proofs.«01_k».proof.Proof.Gen.Reference2Ideal.Run
public import proofs.«01_k».proof.Proof.Gen.Reference2Ideal.Read
public import proofs.«01_k».proof.Defs

@[expose] public section

noncomputable section

namespace Cert.ExpertUp

open Idealize.ShloMosaic Idealize.SL.Sem Cert.Kernel2Ideal

/-- The reference's array: its logistic is spelled with the exponential, and its products come in another order. -/
theorem reference_eq (h : S8320x4096.Idx → EReal) (wg wu : S8x4096x2048.Idx → EReal) (g : S8320x128.Idx → EReal) :
    Cert.Reference2Ideal.Read.val_main_v10 (F := Ideal) h wg wu g = spec h wg wu g := by
  funext i
  have h0 : (i 0).val < 8320 := (i 0).isLt
  have h1 : (i 1).val < 16384 := (i 1).isLt
  unfold Cert.Reference2Ideal.Read.val_main_v10 Cert.Reference2Ideal.Read.val_main_v9 Cert.Reference2Ideal.Read.val_main_v8
    Cert.Reference2Ideal.Read.val_main_v7 Cert.Reference2Ideal.Read.val_main_v6 Cert.Reference2Ideal.Read.val_main_v5
    Cert.Reference2Ideal.Read.val_main_v4 Cert.Reference2Ideal.Read.val_main_v3 Cert.Reference2Ideal.Read.val_main_call0_v5
    Cert.Reference2Ideal.Read.val_main_call0_v4 Cert.Reference2Ideal.Read.val_main_call0_v3 Cert.Reference2Ideal.Read.val_main_call0_v2
    Cert.Reference2Ideal.Read.val_main_call0_v1 Cert.Reference2Ideal.Read.val_main_call0_v0 Cert.Reference2Ideal.Read.val_main_call0_cst
    Cert.Reference2Ideal.Read.val_main_call0_cst_0 Cert.Reference2Ideal.Read.val_main_v2 Cert.Reference2Ideal.Read.val_main_v1
    Cert.Reference2Ideal.Read.val_main_v0 spec swiglu Ideal.logistic
  pointwise [Cert.Reference2Ideal.dot_S8320x4096_S8x4096x2048_S8320x8x2048_1_1_0_02_n_n]
  rw [mul_comm]

/-- The kernel and the reference leave the same array. -/
theorem algebraic : Cert.algebraic_Kernel2Ideal_Reference2Ideal := by
  intro m g m' g' _ hm
  refine ⟨fun c => spec (m ((c.tc : Thread nD τ).loc main_arg0)) (m ((c.tc : Thread nD τ).loc main_arg1))
      (m ((c.tc : Thread nD τ).loc main_arg2)) (m ((c.tc : Thread nD τ).loc main_arg3)), ?_, ?_⟩
  · refine (θ_run _ _ _).mono (fun r h c => ?_) (Cert.Kernel2Ideal.Value.run_blocks m g)
    exact ⟨(h c).1.trans (final m c), (h c).2⟩
  · refine (θ_run _ _ _).mono (fun r h c => ?_) (Cert.Reference2Ideal.Value.run m' g')
    refine ⟨(h c).1.trans ?_, (h c).2⟩
    refine (Cert.Reference2Ideal.Read.val_main_v10_eq _ _ _ _).trans ((reference_eq _ _ _ _).trans ?_)
    rw [(hm c).1, (hm c).2.1, (hm c).2.2.1, (hm c).2.2.2]

end Cert.ExpertUp

end
-- ==== Proof.ExpertDownBlock.lean ====
/- The experts' down projection, one grid point: what the kernel's body leaves in its accumulator and in its output block,
   in each of the three cases (first, middle and last point of a block's run), and what those blocks hold at an index. -/
module

public import proofs.«01_k».proof.Proof.Gen.Kernel3Ideal.Value
public import Idealize.ShloMosaic.Lib.Pointwise
public import Idealize.ShloMosaic.Lib.Tactic

@[expose] public section

noncomputable section

namespace Cert.ExpertDown

open Idealize.ShloMosaic Idealize.ShloMosaic.TcCoe Idealize.SL.Sem Cert.Kernel3Ideal Cert.Kernel3Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl

section Cases

variable {F : FTy → Type} [FloatOps F]
variable (c : Dev nD) (i : grid0.Coords)
  (a3 : Memref sig .tc .vmem S1664x2048 .bf16) (h3 : a3.IsWhole) (a4 : Memref sig .tc .vmem S1x2048x512 .f32) (h4 : a4.IsWhole)
  (a5 : Memref sig .tc .vmem S1664x512 .f32) (h5 : a5.IsWhole) (a6 : Memref sig .tc .vmem S1664x512 .f32) (h6 : a6.IsWhole)
  (a7 : Memref sig .tc .vmem S1664x512 .f32) (h7 : a7.IsWhole)
  (x0 : Vec F S1664x2048 .bf16) (x1 : Vec F S1x2048x512 .f32) (x2 xs : Vec F S1664x512 .f32)

/-- The first point of a run clears the accumulator and adds its product. -/
theorem acc_first (hc0 : cond0_0 i) (hc1 : ¬cond0_1 i) :
    sout0_A_0 c i a3 h3 a4 h4 a5 h5 a6 h6 a7 h7 hc0 hc1 x0 x1 x2 = k0_pay2 (F := F) (k0_pay1 (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero hz2, View.readCov_unit_zero _ hz2]
  simp only [View.readAt_eq_ld, h3.read_unread, h4.read_unread, View.ld_unit_zero (S := S1664x512) hz2, View.ld_unit_zero (S := S1664x2048) hz2, View.ld_unit_zero (S := S1x2048x512) hz3]

/-- A middle point adds its product to the accumulator. -/
theorem acc_middle (hc0 : ¬cond0_0 i) (hc1 : ¬cond0_1 i) :
    sout0_B_0 c i a3 h3 a4 h4 a5 h5 a6 h6 a7 h7 hc0 hc1 x0 x1 x2 xs = k0_pay2 (F := F) xs x0 x1 := by
  unfold sout0_B_0
  rw [View.read_writes_eq_canon _ _ _ (scover0_B_0 c i a3 h3 a4 h4 a5 h5 a6 h6 a7 h7 hc0 hc1 x0 x1 x2 xs)]
  unfold kernelRun0_B
  dsimp only
  rw [View.canon_unit_zero hz2]
  simp only [View.readAt_eq_ld, h3.read_unread, h4.read_unread, h7.read_unread, View.ld_unit_zero (S := S1664x512) hz2, View.ld_unit_zero (S := S1664x2048) hz2, View.ld_unit_zero (S := S1x2048x512) hz3]

/-- The last point adds its product too. -/
theorem out_last (hc0 : ¬cond0_0 i) (hc1 : cond0_1 i) :
    out0_C_3 c i a3 h3 a4 h4 a5 h5 a6 h6 a7 h7 hc0 hc1 x0 x1 x2 xs = k0_pay3 (F := F) (k0_pay2 (F := F) xs x0 x1) x2 := by
  unfold out0_C_3
  rw [View.read_writes_eq_canon _ _ _ (cover0_C_3 c i a3 h3 a4 h4 a5 h5 a6 h6 a7 h7 hc0 hc1 x0 x1 x2 xs)]
  unfold kernelRun0_C
  dsimp only
  sl_unfold_words
  rw [View.canon_unit_zero hz2, View.readCov_unit_zero _ hz2]
  simp only [View.readAt_eq_ld, h3.read_unread, h4.read_unread, h5.read_unread, h7.read_unread, View.ld_unit_zero (S := S1664x512) hz2, View.ld_unit_zero (S := S1664x2048) hz2, View.ld_unit_zero (S := S1x2048x512) hz3]

end Cases

/-- The accumulator's step at an entry: a row of the activations times a column of the weights is added. -/
theorem step_apply (acc : Vec Ideal S1664x512 .f32) (x : Vec Ideal S1664x2048 .bf16) (w : Vec Ideal S1x2048x512 .f32) (r : Fin 1664) (q : Fin 512) :
    k0_pay2 (F := Ideal) acc x w (ix2 r q) = acc (ix2 r q) + ∑ k : Fin 2048, x (ix2 r k) * w (ix3 0 k q) := by
  unfold k0_pay2
  pointwise [dot_S1664x2048_S2048x512_S1664x512_1_0_0_1_n_n]

/-- The cleared accumulator. -/
theorem zero_apply (r : Fin 1664) (q : Fin 512) : k0_pay1 (F := Ideal) (ix2 r q) = 0 := by
  unfold k0_pay1
  pointwise

/-- The block written back at an entry: the accumulator and the residual. -/
theorem last_apply (acc x : Vec Ideal S1664x512 .f32) (r : Fin 1664) (q : Fin 512) :
    k0_pay3 (F := Ideal) acc x (ix2 r q) = acc (ix2 r q) + x (ix2 r q) := by
  unfold k0_pay3
  pointwise

end Cert.ExpertDown

end
-- ==== Proof.ExpertDownArray.lean ====
/- The experts' down projection, the whole array: the accumulator after each point is a partial sum over the experts, so the
   array written back is the residual plus, over all experts, activation row times weight column. -/
module

public import proofs.«01_k».proof.Proof.ExpertDownBlock

@[expose] public section

noncomputable section

namespace Cert.ExpertDown

open Idealize.ShloMosaic Idealize.ShloMosaic.TcCoe Idealize.SL.Sem Cert.Kernel3Ideal Cert.Kernel3Ideal.Gen

/-- One expert's contribution to an entry (nothing past the eight experts). -/
def expert (act : S8320x16384.Idx → EReal) (wd : S1x8x2048x4096.Idx → EReal) (row : Fin 8320) (col : Fin 4096) (s : ℕ) : EReal :=
  if h : s < 8 then ∑ k : Fin 2048, act (ix2 row (⟨s * 2048 + k.val, by omega⟩ : Fin 16384)) * wd (ix4 0 (⟨s, h⟩ : Fin 8) k col) else 0

/-- The result: the residual and every expert's contribution. -/
def spec (act : S8320x16384.Idx → EReal) (wd : S1x8x2048x4096.Idx → EReal) (x : S8320x4096.Idx → EReal) : S8320x4096.Idx → EReal :=
  fun i => (∑ s ∈ Finset.range 8, expert act wd (i 0) (i 1) s) + x i

variable (m : (ℓ : Loc nD τ sig) → Buf (Elt Ideal) ℓ)

/-- The block indices at a point: row block `t / 64`, column block `t / 8 % 8`, expert `t % 8`. -/
theorem idx_facts : ∀ t : Fin cfg0.N, win0_0.index t = ![t.val / 64, t.val % 8]
    ∧ win0_1.index t = ![0, t.val % 8, t.val / 8 % 8] ∧ win0_2.index t = ![t.val / 64, t.val / 8 % 8]
    ∧ win0_3.index t = ![t.val / 64, t.val / 8 % 8] :=
  (by decide +kernel : ∀ t : Fin grid0.N, _)

/-- The weights as the kernel stages them: the experts' matrices one below the other. -/
theorem weights_eq (c : Dev nD) : V m c main_v0 = shapeCast S1x16384x4096 (m ((c : Thread nD τ).loc main_arg1)) shapeCasts_S1x8x2048x4096_S1x16384x4096 := by
  show StableHlo.after hostOps0 (fun b => m (c, b)) (Proc.devRef .tc main_v0) = _
  after_results
  rfl

theorem weights_apply (c : Dev nD) (s : Fin 8) (k : Fin 2048) (col : Fin 4096) :
    V m c main_v0 (ix3 0 (⟨s.val * 2048 + k.val, by omega⟩ : Fin 16384) col) = m ((c : Thread nD τ).loc main_arg1) (ix4 0 s k col) := by
  rw [weights_eq]
  refine shapeCast_apply _ shapeCasts_S1x8x2048x4096_S1x16384x4096 _ (ix4 0 s k col) ?_
  rewrite [Shape.rowMajor_val_three, Shape.rowMajor_val_four]
  show ((0 * 8 + s.val) * 2048 + k.val) * 4096 + col.val = (0 * 16384 + (s.val * 2048 + k.val)) * 4096 + col.val
  omega

/-- The activations' block of a point: its rows, and the columns of its expert. -/
theorem act_apply (c : Dev nD) (t : Fin cfg0.N) (r : Fin 1664) (k : Fin 2048) (row : Fin 8320) (hr : row.val = t.val / 64 * 1664 + r.val) :
    iblk m c 0 t (ix2 r k) = m ((c : Thread nD τ).loc main_arg0) (ix2 row (⟨t.val % 8 * 2048 + k.val, by omega⟩ : Fin 16384)) := by
  obtain ⟨e0, -⟩ := idx_facts t
  rw [← V_main_arg0 m c]
  refine congrArg (V m c main_arg0) (funext fun a => Fin.ext ?_)
  match a with
  | ⟨0, _⟩ => show win0_0.index t 0 * 1664 + 1 * r.val = row.val; rw [e0, hr]; simp
  | ⟨1, _⟩ => show win0_0.index t 1 * 2048 + 1 * k.val = t.val % 8 * 2048 + k.val; rw [e0]; simp

/-- The weights' block of a point: its expert's matrix, the columns of its column block. -/
theorem weightBlock_apply (c : Dev nD) (t : Fin cfg0.N) (q : Fin 512) (k : Fin 2048) (col : Fin 4096) (hc : col.val = t.val / 8 % 8 * 512 + q.val) :
    iblk m c 1 t (ix3 0 k q) = m ((c : Thread nD τ).loc main_arg1) (ix4 0 (⟨t.val % 8, Nat.mod_lt _ (by decide)⟩ : Fin 8) k col) := by
  obtain ⟨-, e1, -⟩ := idx_facts t
  rw [← weights_apply m c]
  refine congrArg (V m c main_v0) (funext fun a => Fin.ext ?_)
  match a with
  | ⟨0, _⟩ => show win0_1.index t 0 * 1 + 1 * 0 = 0; rw [e1]; simp
  | ⟨1, _⟩ => show win0_1.index t 1 * 2048 + 1 * k.val = t.val % 8 * 2048 + k.val; rw [e1]; simp
  | ⟨2, _⟩ => show win0_1.index t 2 * 512 + 1 * q.val = col.val; rw [e1, hc]; simp

/-- The residual's block of a point. -/
theorem residual_apply (c : Dev nD) (t : Fin cfg0.N) (r : Fin 1664) (q : Fin 512) (row : Fin 8320) (col : Fin 4096)
    (hr : row.val = t.val / 64 * 1664 + r.val) (hc : col.val = t.val / 8 % 8 * 512 + q.val) :
    iblk m c 2 t (ix2 r q) = m ((c : Thread nD τ).loc main_arg2) (ix2 row col) := by
  obtain ⟨-, -, e2, -⟩ := idx_facts t
  rw [← V_main_arg2 m c]
  refine congrArg (V m c main_arg2) (funext fun a => Fin.ext ?_)
  match a with
  | ⟨0, _⟩ => show win0_2.index t 0 * 1664 + 1 * r.val = row.val; rw [e2, hr]; simp
  | ⟨1, _⟩ => show win0_2.index t 1 * 512 + 1 * q.val = col.val; rw [e2, hc]; simp

/-- The blocks of activations and weights a point multiplies. -/
abbrev actBlock (c : Dev nD) (t : Fin cfg0.N) : Vec Ideal S1664x2048 .bf16 := iblk m c 0 t
abbrev weightBlock (c : Dev nD) (t : Fin cfg0.N) : Vec Ideal S1x2048x512 .f32 := iblk m c 1 t

/-- A point's product is its expert's contribution. -/
theorem product_eq (c : Dev nD) (t : Fin cfg0.N) (r : Fin 1664) (q : Fin 512) (row : Fin 8320) (col : Fin 4096)
    (hr : row.val = t.val / 64 * 1664 + r.val) (hc : col.val = t.val / 8 % 8 * 512 + q.val) :
    ∑ k : Fin 2048, actBlock m c t (ix2 r k) * weightBlock m c t (ix3 0 k q)
      = expert (m ((c : Thread nD τ).loc main_arg0)) (m ((c : Thread nD τ).loc main_arg1)) row col (t.val % 8) := by
  unfold expert
  rw [dif_pos (Nat.mod_lt _ (by decide))]
  exact Finset.sum_congr rfl fun k _ => by
    rw [actBlock, weightBlock, act_apply m c t r k row hr, weightBlock_apply m c t q k col hc]

/-- The accumulator after a point that is not the last of its run: the experts up to the point's own. -/
theorem acc_eq (c : Dev nD) (r : Fin 1664) (q : Fin 512) : ∀ (n : ℕ) (hn : n < cfg0.N), n % 8 ≠ 7 → ∀ (row : Fin 8320) (col : Fin 4096),
    row.val = n / 64 * 1664 + r.val → col.val = n / 8 % 8 * 512 + q.val →
    (outsAt0 m c n hn).2 (ix2 r q)
      = ∑ s ∈ Finset.range (n % 8 + 1), expert (m ((c : Thread nD τ).loc main_arg0)) (m ((c : Thread nD τ).loc main_arg1)) row col s := by
  intro n
  induction n with
  | zero =>
    intro hn _ row col hr hc
    have hA := outsAt0_A m c ⟨0, hn⟩ rfl (by simp)
    rw [show outsAt0 m c 0 hn = _ from hA]
    dsimp only
    rw [acc_first, step_apply, zero_apply, zero_add, product_eq m c ⟨0, hn⟩ r q row col hr hc]
    simp
  | succ n ih =>
    intro hn h7 row col hr hc
    by_cases h0 : (n + 1) % 8 = 0
    · have hA := outsAt0_A m c ⟨n + 1, hn⟩ h0 h7
      rw [show outsAt0 m c (n + 1) hn = _ from hA]
      dsimp only
      rw [acc_first, step_apply, zero_apply, zero_add, product_eq m c ⟨n + 1, hn⟩ r q row col hr hc]
      simp [h0]
    · have hB := outsAt0_B m c ⟨n + 1, hn⟩ h0 h7
      rw [show outsAt0 m c (n + 1) hn = _ from hB]
      dsimp only
      rw [acc_middle, step_apply, product_eq m c ⟨n + 1, hn⟩ r q row col hr hc]
      have hm : (n + 1) % 8 = n % 8 + 1 := by omega
      rw [show (n + 1) % 8 + 1 = (n % 8 + 1) + 1 by omega, Finset.sum_range_succ, ← hm]
      congr 1
      rw [hm]
      exact ih (Nat.lt_of_succ_lt hn) (by omega) row col (by omega) (by omega)

/-- What a point that writes back writes: its block of the result. -/
theorem flushed_eq (c : Dev nD) (t : Fin cfg0.N) (hf : (cfg0.win 3).flush t = true) :
    (dats m 0 c).flushed 3 t = ((cfg0.win 3).blk t).view.read (Elt Ideal) (spec (m ((c : Thread nD τ).loc main_arg0))
      (m ((c : Thread nD τ).loc main_arg1)) (m ((c : Thread nD τ).loc main_arg2))) := by
  have h7 : t.val % 8 = 7 := (flush0_3 t).mp hf
  have hN : cfg0.N = 320 := N_0
  have ht := t.isLt
  obtain ⟨-, -, -, e3⟩ := idx_facts t
  rw [Cert.Kernel3Ideal.Value.flushed3_C m c t (by omega) h7, out_last]
  funext y
  obtain ⟨r, q, rfl⟩ : ∃ (r : Fin 1664) (q : Fin 512), y = ix2 r q := ⟨y 0, y 1, eq_ix2 y⟩
  have hi : ((cfg0.win 3).blk t).view.emb (ix2 r q)
      = ix2 (⟨t.val / 64 * 1664 + r.val, by omega⟩ : Fin 8320) (⟨t.val / 8 % 8 * 512 + q.val, by omega⟩ : Fin 4096) := by
    funext a; apply Fin.ext
    match a with
    | ⟨0, _⟩ => show win0_3.index t 0 * 1664 + 1 * r.val = _; rw [e3]; simp
    | ⟨1, _⟩ => show win0_3.index t 1 * 512 + 1 * q.val = _; rw [e3]; simp
  show _ = spec _ _ _ (((cfg0.win 3).blk t).view.emb (ix2 r q))
  rw [hi]
  show k0_pay3 (F := Ideal) _ _ (ix2 r q) = _
  rw [last_apply, step_apply, product_eq m c t r q (⟨t.val / 64 * 1664 + r.val, by omega⟩ : Fin 8320) (⟨t.val / 8 % 8 * 512 + q.val, by omega⟩ : Fin 4096) rfl rfl,
    residual_apply m c t r q (⟨t.val / 64 * 1664 + r.val, by omega⟩ : Fin 8320) (⟨t.val / 8 % 8 * 512 + q.val, by omega⟩ : Fin 4096) rfl rfl,
    acc_eq m c r q (t.val - 1) (by omega) (by omega) (⟨t.val / 64 * 1664 + r.val, by omega⟩ : Fin 8320)
      (⟨t.val / 8 % 8 * 512 + q.val, by omega⟩ : Fin 4096) (by dsimp only; omega) (by dsimp only; omega)]
  unfold spec
  rw [show (t.val - 1) % 8 + 1 = 7 by omega, h7, ← Finset.sum_range_succ]
  rfl

/-- The result array after the run. -/
theorem final (c : Dev nD) :
    (dats m 0 c).arrAt 3 cfg0.N = spec (m ((c : Thread nD τ).loc main_arg0)) (m ((c : Thread nD τ).loc main_arg1)) (m ((c : Thread nD τ).loc main_arg2)) :=
  (dats m 0 c).arrAt_eq_of_cover 3 _ (fun t hf => flushed_eq m c t hf) (fun i => (Cert.Kernel3Ideal.Value.covered_iff3 i).2
    ⟨Nat.zero_le _, (i 0).isLt, Nat.zero_le _, (i 1).isLt⟩)

end Cert.ExpertDown

end
-- ==== Proof.ExpertDown.lean ====
/- The experts' down projection: the reference computes the same array, and so the two programs agree. -/
module

public import proofs.«01_k».proof.Proof.ExpertDownArray
public import proofs.«01_k».proof.Proof.Gen.Reference3Ideal.Run
public import proofs.«01_k».proof.Proof.Gen.Reference3Ideal.Read
public import proofs.«01_k».proof.Defs

@[expose] public section

noncomputable section

namespace Cert.ExpertDown

open Idealize.ShloMosaic Idealize.SL.Sem Cert.Kernel3Ideal

/-- The reference's array: its one sum runs over expert and column together. -/
theorem reference_eq (act : S8320x16384.Idx → EReal) (wd : S1x8x2048x4096.Idx → EReal) (x : S8320x4096.Idx → EReal) :
    Cert.Reference3Ideal.Read.val_main_v4 (F := Ideal) act wd x = spec act wd x := by
  funext i
  unfold Cert.Reference3Ideal.Read.val_main_v4 Cert.Reference3Ideal.Read.val_main_v3
  pointwise [Cert.Reference3Ideal.dot_S8320x8x2048_S8x2048x4096_S8320x4096_12_01_0_2_n_n]
  rw [add_comm]
  unfold spec
  congr 1
  rw [Finset.sum_range]
  refine Finset.sum_congr rfl fun e _ => ?_
  unfold expert
  rw [dif_pos e.isLt]
  refine Finset.sum_congr rfl fun k _ => ?_
  rw [Cert.Reference3Ideal.Read.val_main_v1_apply, Cert.Reference3Ideal.Read.val_main_v2_apply, Cert.Reference3Ideal.Read.val_main_v0_apply]
  have h0 : (i 0).val < 8320 := (i 0).isLt
  have h1 : (i 1).val < 4096 := (i 1).isLt
  refine congrArg₂ (· * ·) (congrArg act (funext fun a => Fin.ext ?_)) (congrArg wd (funext fun a => Fin.ext ?_))
  · match a with
    | ⟨0, _⟩ => show (((i 0).val * 8 + e.val) * 2048 + k.val) / 16384 = (i 0).val; omega
    | ⟨1, _⟩ => show (((i 0).val * 8 + e.val) * 2048 + k.val) % 16384 = e.val * 2048 + k.val; omega
  · match a with
    | ⟨0, _⟩ => rfl
    | ⟨1, _⟩ => show ((e.val * 2048 + k.val) * 4096 + (i 1).val) / 8388608 % 8 = e.val; omega
    | ⟨2, _⟩ => show ((e.val * 2048 + k.val) * 4096 + (i 1).val) / 4096 % 2048 = k.val; omega
    | ⟨3, _⟩ => show ((e.val * 2048 + k.val) * 4096 + (i 1).val) % 4096 = (i 1).val; omega

/-- The kernel and the reference leave the same array. -/
theorem algebraic : Cert.algebraic_Kernel3Ideal_Reference3Ideal := by
  intro m g m' g' _ hm
  refine ⟨fun c => spec (m ((c.tc : Thread nD τ).loc main_arg0)) (m ((c.tc : Thread nD τ).loc main_arg1))
      (m ((c.tc : Thread nD τ).loc main_arg2)), ?_, ?_⟩
  · refine (θ_run _ _ _).mono (fun r h c => ?_) (Cert.Kernel3Ideal.Value.run m g)
    exact ⟨(h c).1.trans ((Cert.Kernel3Ideal.Value.final3 m c).symm.trans (final m c)), (h c).2⟩
  · refine (θ_run _ _ _).mono (fun r h c => ?_) (Cert.Reference3Ideal.Value.run m' g')
    refine ⟨(h c).1.trans ?_, (h c).2⟩
    refine (Cert.Reference3Ideal.Read.val_main_v4_eq _ _ _).trans ((reference_eq _ _ _).trans ?_)
    rw [(hm c).1, (hm c).2.1, (hm c).2.2]

end Cert.ExpertDown

end
-- ==== Proof.Columns.lean ====
/- Columns put in another order: a concatenation of runs of a matrix's columns, with zero columns between, read at one entry. -/
module

public import Idealize.ShloMosaic.Lib.Pointwise
public import Idealize.ShloMosaic.Lib.StableHlo.Run

@[expose] public section

noncomputable section

namespace Cert.Columns

open Idealize.ShloMosaic

/-- A matrix's shape. -/
abbrev mat (R n : ℕ) : Shape := ⟨2, ![R, n]⟩

/-- The runs of columns, each with its width and the old place of its first column, or none for a run of zero columns. -/
abbrev Layout : Type := List (ℕ × Option ℕ)

/-- The old place of a new column, or none for a zero column. -/
def source : Layout → ℕ → Option ℕ
  | [], _ => none
  | p :: l, c => if c < p.1 then p.2.map (· + c) else source l (c - p.1)

variable {R N : ℕ} (f : Fin R → Option ℕ → EReal)

/-- The runs as arrays, where `f r s` is row `r`'s entry from the old column `s`. -/
def pieces (l : Layout) : List ((s : Shape) × (s.Idx → EReal)) :=
  l.map fun p : ℕ × Option ℕ => ⟨mat R p.1, fun i : (mat R p.1).Idx => f (i 0) (p.2.map (· + (i 1).val))⟩

theorem at_source : ∀ (l : Layout) (r : Fin R) (j : Fin N) (hs : ∀ s ∈ (pieces f l).map (·.1), s.FitsOff (mat R N) 1)
    (c : ℕ) (hc : c < (axisSizes (mat R N) 1 (pieces f l)).sum),
    concatenateAt (mat R N) 1 (ix2 r j) (pieces f l) hs c hc = f r (source l c)
  | [], _, _, _, _, hc => absurd hc (Nat.not_lt_zero _)
  | [p], r, j, hs, c, hc => by
    have hlt : c < p.1 := by
      have h := hc
      simp only [pieces, List.map_cons, List.map_nil] at h hs
      rw [axisSizes_cons _ _ _ _ (hs _ List.mem_cons_self)] at h
      simpa using h
    refine (concatenateAt_singleton (t := mat R N) 1 (ix2 r j) _ hs c hc).trans ?_
    rw [source, if_pos hlt]
    rfl
  | p :: q :: l, r, j, hs, c, hc => by
    refine (concatenateAt_cons (t := mat R N) 1 (ix2 r j) _ _ _ hs c hc).trans ?_
    rw [source]
    by_cases hlt : c < p.1
    · rw [if_pos hlt]; exact dif_pos hlt
    · rw [if_neg hlt, ← at_source (q :: l) r j _ (c - p.1) _]; exact dif_neg hlt

/-- The concatenation of the runs, at one entry. -/
theorem concatenate_pieces (l : Layout) (r : Fin R) (j : Fin N) (h) :
    concatenate (mat R N) 1 (pieces f l) h (ix2 r j) = f r (source l j.val) := by
  rw [concatenate_apply]
  exact at_source f l r j _ _ _

/-- A list of arrays that are the runs gives the same concatenation. -/
theorem concatenate_of_pieces (l : Layout) (xs : List ((s : Shape) × (s.Idx → EReal))) (hxs : xs = pieces f l)
    (r : Fin R) (j : Fin N) (h) : concatenate (mat R N) 1 xs h (ix2 r j) = f r (source l j.val) := by
  subst hxs
  exact concatenate_pieces f l r j h

/-- A row's entry from an old column, zero where there is none. -/
def entry {n : ℕ} (x : (mat R n).Idx → EReal) (r : Fin R) : Option ℕ → EReal
  | some s => if h : s < n then x (ix2 r ⟨s, h⟩) else 0
  | none => 0

/-- A slice of a matrix's columns is a run. -/
theorem slice_run {n w : ℕ} (x : (mat R n).Idx → EReal) (o : ℕ) (h) :
    (⟨mat R w, extractStridedSlice (mat R w) ![0, o] x h⟩ : (s : Shape) × (s.Idx → EReal))
      = ⟨mat R w, fun i : (mat R w).Idx => entry x (i 0) ((some o).map (· + (i 1).val))⟩ := by
  refine congrArg (Sigma.mk _) (funext fun i => ?_)
  obtain ⟨r, q, rfl⟩ : ∃ r q, i = ix2 r q := ⟨_, _, eq_ix2 i⟩
  have hlt : o + q.val < n := by
    obtain ⟨_, h⟩ := h
    have h1 : o + w ≤ n := h 1
    have hq : q.val < w := q.isLt
    omega
  show _ = entry x r (some (o + q.val))
  rw [entry, dif_pos hlt]
  refine congrArg x (funext fun a => Fin.ext ?_)
  match a with
  | ⟨0, _⟩ => exact Nat.zero_add _
  | ⟨1, _⟩ => rfl

/-- A zero array is a run of zero columns. -/
theorem zero_run {n w : ℕ} (x : (mat R n).Idx → EReal) (z : (mat R w).Idx → EReal) (hz : ∀ i, z i = 0) :
    (⟨mat R w, z⟩ : (s : Shape) × (s.Idx → EReal)) = ⟨mat R w, fun i : (mat R w).Idx => entry x (i 0) ((none : Option ℕ).map (· + (i 1).val))⟩ :=
  congrArg (Sigma.mk _) (funext hz)

end Cert.Columns

end
-- ==== Proof.InputProjection.lean ====
/- The input projection: the host puts the weights' columns in the order that the later calls read, with zero columns between,
   and each grid point multiplies 1664 rows by 512 of those columns. The reference multiplies first and puts the product's
   columns in that order. -/
module

public import proofs.«01_k».proof.Proof.Gen.Kernel4Ideal.Value
public import proofs.«01_k».proof.Proof.Gen.Reference4Ideal.Run
public import proofs.«01_k».proof.Proof.Gen.Reference4Ideal.Read
public import proofs.«01_k».proof.Proof.Columns
public import proofs.«01_k».proof.Defs
public import Idealize.ShloMosaic.Lib.Pointwise
public import Idealize.ShloMosaic.Lib.StableHlo.RunRead
public import Idealize.ShloMosaic.Lib.Tactic

@[expose] public section

noncomputable section

namespace Cert.InputProjection

open Cert.Kernel4Ideal Cert.Kernel4Ideal.Gen Idealize.ShloMosaic Idealize.ShloMosaic.TcCoe Idealize.SL.Sem

/-- The new order of the columns. -/
def layout : Columns.Layout :=
  [(12288, some 9552), (1024, some 0), (1024, some 1024), (2048, some 2048), (2048, some 4096), (2048, some 7248), (768, some 6160),
    (256, some 6928), (128, some 9296), (128, some 9424), (64, some 7184), (64, none), (8, some 6144), (8, some 6152), (112, none)]

/-- The first layer's weights as a matrix. -/
def layer (w : S2x4096x21840.Idx → EReal) : S4096x21840.Idx → EReal :=
  shapeCast S4096x21840 (extractStridedSlice S1x4096x21840 ![0, 0, 0] w slices_S2x4096x21840_S1x4096x21840_0_0_0) shapeCasts_S1x4096x21840_S4096x21840

theorem layer_apply (w : S2x4096x21840.Idx → EReal) (k : Fin 4096) (j : Fin 21840) : layer w (ix2 k j) = w (ix3 0 k j) := by
  unfold layer
  pointwise

/-- An entry of the reordered weights. -/
def weight (w : S2x4096x21840.Idx → EReal) (k : Fin 4096) (j : ℕ) : EReal := Columns.entry (layer w) k (Columns.source layout j)

/-- The result: the row's product with the reordered weights. -/
def spec (x : S8320x4096.Idx → EReal) (w : S2x4096x21840.Idx → EReal) : S8320x22016.Idx → EReal :=
  fun i => ∑ k : Fin 4096, x (ix2 (i 0) k) * weight w k (i 1).val

theorem payload_apply (x : Vec Ideal S1664x4096 .bf16) (w : Vec Ideal S1x4096x512 .bf16) (r : Fin 1664) (q : Fin 512) :
    k0_pay1 (F := Ideal) x w (ix2 r q) = ∑ k : Fin 4096, x (ix2 r k) * w (ix3 0 k q) := by
  unfold k0_pay1
  pointwise [dot_S1664x4096_S4096x512_S1664x512_1_0_0_1_n_n]

/-- The blocks of a point: row tile `t / 43`, column tile `t % 43`. -/
theorem idx_facts : ∀ t : Fin cfg0.N, win0_0.index t = ![t.val / 43, 0] ∧ win0_1.index t = ![0, 0, t.val % 43]
    ∧ win0_2.index t = ![t.val / 43, t.val % 43] ∧ win0_2.flush t = true :=
  (by decide +kernel : ∀ t : Fin grid0.N, _)

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

theorem rows_apply (c : Dev nD) (t : Fin cfg0.N) (r : Fin 1664) (k : Fin 4096) (row : Fin 8320)
    (hr : row.val = t.val / 43 * 1664 + r.val) :
    iblk m c 0 t (ix2 r k) = m ((c : Thread nD τ).loc main_arg0) (ix2 row k) := by
  obtain ⟨e0, -⟩ := idx_facts t
  rw [← V_main_arg0 m c]
  refine congrArg (V m c main_arg0) (funext fun a => Fin.ext ?_)
  match a with
  | ⟨0, _⟩ => show win0_0.index t 0 * 1664 + 1 * r.val = row.val; rw [e0, hr]; simp
  | ⟨1, _⟩ => show win0_0.index t 1 * 4096 + 1 * k.val = k.val; rw [e0]; simp

/-- The reordered weights, as the host builds them. -/
def staged (w : S2x4096x21840.Idx → EReal) : S1x4096x22016.Idx → EReal :=
  broadcastInDim S1x4096x22016 ![1, 2] bcast_S4096x22016_S1x4096x22016_1_2
    (concatenate S4096x22016 1 [⟨S4096x12288, extractStridedSlice S4096x12288 ![0, 9552] (layer w) slices_S4096x21840_S4096x12288_0_9552⟩,
      ⟨S4096x1024, extractStridedSlice S4096x1024 ![0, 0] (layer w) slices_S4096x21840_S4096x1024_0_0⟩,
      ⟨S4096x1024, extractStridedSlice S4096x1024 ![0, 1024] (layer w) slices_S4096x21840_S4096x1024_0_1024⟩,
      ⟨S4096x2048, extractStridedSlice S4096x2048 ![0, 2048] (layer w) slices_S4096x21840_S4096x2048_0_2048⟩,
      ⟨S4096x2048, extractStridedSlice S4096x2048 ![0, 4096] (layer w) slices_S4096x21840_S4096x2048_0_4096⟩,
      ⟨S4096x2048, extractStridedSlice S4096x2048 ![0, 7248] (layer w) slices_S4096x21840_S4096x2048_0_7248⟩,
      ⟨S4096x768, extractStridedSlice S4096x768 ![0, 6160] (layer w) slices_S4096x21840_S4096x768_0_6160⟩,
      ⟨S4096x256, extractStridedSlice S4096x256 ![0, 6928] (layer w) slices_S4096x21840_S4096x256_0_6928⟩,
      ⟨S4096x128, extractStridedSlice S4096x128 ![0, 9296] (layer w) slices_S4096x21840_S4096x128_0_9296⟩,
      ⟨S4096x128, extractStridedSlice S4096x128 ![0, 9424] (layer w) slices_S4096x21840_S4096x128_0_9424⟩,
      ⟨S4096x64, extractStridedSlice S4096x64 ![0, 7184] (layer w) slices_S4096x21840_S4096x64_0_7184⟩,
      ⟨S4096x64, broadcastInDim S4096x64 ![] bcast_S_S4096x64 (constant (F := Ideal) S_ .f32 0x00000000#32)⟩,
      ⟨S4096x8, extractStridedSlice S4096x8 ![0, 6144] (layer w) slices_S4096x21840_S4096x8_0_6144⟩,
      ⟨S4096x8, extractStridedSlice S4096x8 ![0, 6152] (layer w) slices_S4096x21840_S4096x8_0_6152⟩,
      ⟨S4096x112, broadcastInDim S4096x112 ![] bcast_S_S4096x112 (constant (F := Ideal) S_ .f32 0x00000000#32)⟩]
      concatenates_S4096x12288_S4096x1024_S4096x1024_S4096x2048_S4096x2048_S4096x2048_S4096x768_S4096x256_S4096x128_S4096x128_S4096x64_S4096x64_S4096x8_S4096x8_S4096x112_S4096x22016_d1)

set_option maxHeartbeats 1000000 in
theorem staged_eq (c : Dev nD) : (V m c main_v19 : S1x4096x22016.Idx → EReal) = staged (m ((c : Thread nD τ).loc main_arg1)) := by
  show StableHlo.after hostOps0 (fun b => m (c, b)) (Proc.devRef .tc main_v19) = _
  generalize hW : (fun b => m (c, b) : Valuation τ sig (Elt Ideal)) = W
  have hw : m ((c : Thread nD τ).loc main_arg1) = W (Proc.devRef .tc main_arg1) := by rw [← hW]
  rw [hw]
  after_reads_simp
  rfl

/-- A zero array's entry. -/
theorem zeros_apply {s : Shape} (h) (i : s.Idx) : broadcastInDim s ![] h (constant (F := Ideal) S_ .f32 0x00000000#32) i = (0 : EReal) := by
  unfold broadcastInDim constant
  simp [Ideal.ofBits, Ideal.ieee]

/-- An entry of the reordered weights, from the host's array. -/
theorem staged_apply (w : S2x4096x21840.Idx → EReal) (k : Fin 4096) (j : Fin 22016) : staged w (ix3 0 k j) = weight w k j.val := by
  unfold staged weight
  have hi : (broadcastInDim S1x4096x22016 ![1, 2] bcast_S4096x22016_S1x4096x22016_1_2 · (ix3 0 k j)) = fun y : S4096x22016.Idx → EReal => y (ix2 k j) :=
    funext fun y => congrArg y (funext fun a => match a with | ⟨0, _⟩ => rfl | ⟨1, _⟩ => rfl)
  refine (congrFun hi _).trans (Columns.concatenate_of_pieces (Columns.entry (layer w)) layout _ ?_ k j _)
  repeat' (refine congrArg₂ List.cons ?_ ?_)
  all_goals first | exact Columns.slice_run (layer w) _ _ | exact Columns.zero_run (layer w) _ (zeros_apply _) | rfl

theorem weights_apply (c : Dev nD) (t : Fin cfg0.N) (k : Fin 4096) (q : Fin 512) :
    iblk m c 1 t (ix3 0 k q) = weight (m ((c : Thread nD τ).loc main_arg1)) k (t.val % 43 * 512 + q.val) := by
  obtain ⟨-, e1, -⟩ := idx_facts t
  have hq := q.isLt
  rw [← staged_apply _ _ ⟨t.val % 43 * 512 + q.val, by omega⟩, ← staged_eq m c]
  refine congrArg (V m c main_v19) (funext fun a => Fin.ext ?_)
  match a with
  | ⟨0, _⟩ => show win0_1.index t 0 * 1 + 1 * 0 = 0; rw [e1]; simp
  | ⟨1, _⟩ => show win0_1.index t 1 * 4096 + 1 * k.val = k.val; rw [e1]; simp
  | ⟨2, _⟩ => show win0_1.index t 2 * 512 + 1 * q.val = t.val % 43 * 512 + q.val; rw [e1]; simp

/-- What point `t` writes back is its block of `spec`. -/
theorem flushed_eq (c : Dev nD) (t : Fin cfg0.N) :
    (dats m 0 c).flushed 2 t = ((cfg0.win 2).blk t).view.read (Elt Ideal)
      (spec (m ((c : Thread nD τ).loc main_arg0)) (m ((c : Thread nD τ).loc main_arg1))) := by
  rw [Value.flushed2]
  obtain ⟨-, -, e2, -⟩ := idx_facts t
  have ht : t.val < 215 := lt_of_lt_of_eq t.isLt N_0
  funext y
  obtain ⟨r, q, rfl⟩ : ∃ (r : Fin 1664) (q : Fin 512), y = ix2 r q := ⟨y 0, y 1, eq_ix2 y⟩
  have hi : ((cfg0.win 2).blk t).view.emb (ix2 r q)
      = ix2 (⟨t.val / 43 * 1664 + r.val, by omega⟩ : Fin 8320) (⟨t.val % 43 * 512 + q.val, by omega⟩ : Fin 22016) := by
    funext a; apply Fin.ext
    match a with
    | ⟨0, _⟩ => show win0_2.index t 0 * 1664 + 1 * r.val = _; rw [e2]; simp
    | ⟨1, _⟩ => show win0_2.index t 1 * 512 + 1 * q.val = _; rw [e2]; simp
  show out0_2 _ _ (ix2 r q) = _
  unfold out0_2
  rw [View.canon_unit_zero hz2, View.ld_unit_zero hz2, View.ld_unit_zero hz3, payload_apply]
  show _ = spec _ _ (((cfg0.win 2).blk t).view.emb (ix2 r q))
  rw [hi]
  unfold spec
  refine Finset.sum_congr rfl fun k _ => congrArg₂ (· * ·) ?_ ?_
  · exact rows_apply m c t r k _ rfl
  · exact weights_apply m c t k q

theorem mem_block (t : Fin cfg0.N) (i : S8320x22016.Idx) :
    i ∈ ((cfg0.win 2).blk t).view.set ↔ ∀ a : Fin 2, win0_2.index t a * S1664x512.size a ≤ (i a).val
      ∧ (i a).val < win0_2.index t a * S1664x512.size a + S1664x512.size a := by
  show i ∈ ((View.whole main_v20).slice (win0_2.rect t)).set ↔ _
  rw [View.set_slice_whole, Rect.mem_set_unit]
  exact Iff.rfl

theorem covered (i : S8320x22016.Idx) :
    ∃ t : Fin cfg0.N, (cfg0.win 2).flush t = true ∧ i ∈ ((cfg0.win 2).blk t).view.set := by
  have h0 : (i 0).val < 8320 := (i 0).isLt
  have h1 : (i 1).val < 22016 := (i 1).isLt
  have hN : cfg0.N = 215 := N_0
  obtain ⟨t, ht⟩ : ∃ t : Fin cfg0.N, t.val = (i 0).val / 1664 * 43 + (i 1).val / 512 :=
    ⟨⟨(i 0).val / 1664 * 43 + (i 1).val / 512, by omega⟩, rfl⟩
  obtain ⟨-, -, e2, hf⟩ := idx_facts t
  refine ⟨t, hf, (mem_block t i).2 fun a => ?_⟩
  rw [e2]
  match a with
  | ⟨0, _⟩ => show t.val / 43 * 1664 ≤ (i 0).val ∧ (i 0).val < t.val / 43 * 1664 + 1664; omega
  | ⟨1, _⟩ => show t.val % 43 * 512 ≤ (i 1).val ∧ (i 1).val < t.val % 43 * 512 + 512; omega

/-- The result array after the run. -/
theorem final (c : Dev nD) :
    (dats m 0 c).arrAt 2 cfg0.N = spec (m ((c : Thread nD τ).loc main_arg0)) (m ((c : Thread nD τ).loc main_arg1)) :=
  (dats m 0 c).arrAt_eq_of_cover 2 _ (fun t _ => flushed_eq m c t) covered

open Cert.Reference4Ideal.Read in
/-- The reference's product, before its columns are put in order. -/
theorem product_apply (x : S8320x4096.Idx → EReal) (w : S2x4096x21840.Idx → EReal) (r : Fin 8320) (j : Fin 21840) :
    val_main_v3 (F := Ideal) x w (ix2 r j) = ∑ k : Fin 4096, x (ix2 r k) * layer w (ix2 k j) := by
  have hl : val_main_v2 (F := Ideal) w = layer w := rfl
  unfold val_main_v3 val_main_v0
  rw [hl]
  pointwise [Cert.Reference4Ideal.dot_S8320x4096_S4096x21840_S8320x21840_1_0_0_1_n_n]

/-- A product's column in the new order is the row's product with the weights' column in that order. -/
theorem entry_product (x : S8320x4096.Idx → EReal) (w : S2x4096x21840.Idx → EReal) (y : Cert.Reference4Ideal.S8320x21840.Idx → EReal)
    (hy : ∀ r j, y (ix2 r j) = ∑ k : Fin 4096, x (ix2 r k) * layer w (ix2 k j)) (r : Fin 8320) (o : Option ℕ) :
    Columns.entry y r o = ∑ k : Fin 4096, x (ix2 r k) * Columns.entry (layer w) k o := by
  match o with
  | none => simp [Columns.entry]
  | some s =>
    by_cases hs : s < 21840
    · simp only [Columns.entry, dif_pos hs, hy]
    · simp [Columns.entry, dif_neg hs]

open Cert.Reference4Ideal.Read in
/-- The reference's array. -/
theorem reference_eq (x : S8320x4096.Idx → EReal) (w : S2x4096x21840.Idx → EReal) :
    val_main_v19 (F := Ideal) x w = spec x w := by
  funext i
  obtain ⟨r, j, rfl⟩ : ∃ (r : Fin 8320) (j : Fin 22016), i = ix2 r j := ⟨i 0, i 1, eq_ix2 i⟩
  unfold val_main_v19
  refine Eq.trans (Columns.concatenate_of_pieces (Columns.entry (val_main_v3 (F := Ideal) x w)) layout _ ?_ r j _)
    (entry_product x w _ (product_apply x w) r _)
  repeat' (refine congrArg₂ List.cons ?_ ?_)
  all_goals first
    | exact Columns.slice_run (val_main_v3 (F := Ideal) x w) _ _
    | exact Columns.zero_run (val_main_v3 (F := Ideal) x w) _ (zeros_apply _)
    | rfl

/-- The kernel and the reference leave the same array. -/
theorem algebraic : Cert.algebraic_Kernel4Ideal_Reference4Ideal := by
  intro m g m' g' _ hm
  refine ⟨fun c => spec (m ((c.tc : Thread nD τ).loc main_arg0)) (m ((c.tc : Thread nD τ).loc main_arg1)), ?_, ?_⟩
  · refine (θ_run _ _ _).mono (fun r h c => ?_) (Cert.Kernel4Ideal.Value.run_blocks m g)
    exact ⟨(h c).1.trans (final m c), (h c).2⟩
  · refine (θ_run _ _ _).mono (fun r h c => ?_) (Cert.Reference4Ideal.Value.run m' g')
    refine ⟨(h c).1.trans ?_, (h c).2⟩
    refine (Cert.Reference4Ideal.Read.val_main_v19_eq _ _).trans ((reference_eq _ _).trans ?_)
    rw [(hm c).1, (hm c).2]

end Cert.InputProjection

end
-- ==== Proof.DenseUp.lean ====
/- The dense layers' up projection: each grid point computes the gated linear unit of 1664 tokens in 256 of the 11008 columns. -/
module

public import proofs.«01_k».proof.Proof.Gen.Kernel5Ideal.Value
public import proofs.«01_k».proof.Proof.Gen.Reference5Ideal.Run
public import proofs.«01_k».proof.Proof.Gen.Reference5Ideal.Read
public import proofs.«01_k».proof.Proof.ExpertUpBlock
public import proofs.«01_k».proof.Defs

@[expose] public section

noncomputable section

namespace Cert.DenseUp

open Cert.Kernel5Ideal Cert.Kernel5Ideal.Gen Idealize.ShloMosaic Idealize.ShloMosaic.TcCoe Idealize.SL.Sem
open Cert.ExpertUp (swiglu)

/-- The result: the gated linear unit of every token in every column. -/
def spec (h : S8320x4096.Idx → EReal) (wg wu : S1x4096x11008.Idx → EReal) : S8320x11008.Idx → EReal :=
  fun i => swiglu (∑ k : Fin 4096, h (ix2 (i 0) k) * wg (ix3 0 k (i 1))) (∑ k : Fin 4096, h (ix2 (i 0) k) * wu (ix3 0 k (i 1)))

theorem payload_apply (h : Vec Ideal S1664x4096 .bf16) (wg wu : Vec Ideal S1x4096x256 .f32) (r : Fin 1664) (q : Fin 256) :
    k0_pay1 (F := Ideal) h wg wu (ix2 r q)
      = swiglu (∑ k : Fin 4096, h (ix2 r k) * wg (ix3 0 k q)) (∑ k : Fin 4096, h (ix2 r k) * wu (ix3 0 k q)) := by
  unfold k0_pay1 swiglu
  pointwise [dot_S1664x4096_S4096x256_S1664x256_1_0_0_1_n_n]

/-- The blocks of a point: row tile `t / 43`, column tile `t % 43`. -/
theorem idx_facts : ∀ t : Fin cfg0.N, win0_0.index t = ![t.val / 43, 0] ∧ win0_1.index t = ![0, 0, t.val % 43]
    ∧ win0_2.index t = ![0, 0, t.val % 43] ∧ win0_3.index t = ![t.val / 43, t.val % 43] ∧ win0_3.flush t = true :=
  (by decide +kernel : ∀ t : Fin grid0.N, _)

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

theorem rows_apply (c : Dev nD) (t : Fin cfg0.N) (r : Fin 1664) (k : Fin 4096) (row : Fin 8320)
    (hr : row.val = t.val / 43 * 1664 + r.val) :
    iblk m c 0 t (ix2 r k) = m ((c : Thread nD τ).loc main_arg0) (ix2 row k) := by
  obtain ⟨e0, -⟩ := idx_facts t
  refine congrArg (m ((c : Thread nD τ).loc main_arg0)) (funext fun a => Fin.ext ?_)
  match a with
  | ⟨0, _⟩ => show win0_0.index t 0 * 1664 + 1 * r.val = row.val; rw [e0, hr]; simp
  | ⟨1, _⟩ => show win0_0.index t 1 * 4096 + 1 * k.val = k.val; rw [e0]; simp

/-- A weight entry's place in its block. -/
theorem place (n : Fin 3 → ℕ) (t : Fin cfg0.N) (hn : n = ![0, 0, t.val % 43]) (k : Fin 4096) (q : Fin 256) (col : Fin 11008)
    (hc : col.val = t.val % 43 * 256 + q.val) :
    n 0 * 1 + 1 * 0 = 0 ∧ n 1 * 4096 + 1 * k.val = k.val ∧ n 2 * 256 + 1 * q.val = col.val := by
  subst hn
  simp [hc]

theorem gateW_apply (c : Dev nD) (t : Fin cfg0.N) (k : Fin 4096) (q : Fin 256) (col : Fin 11008)
    (hc : col.val = t.val % 43 * 256 + q.val) :
    iblk m c 1 t (ix3 0 k q) = m ((c : Thread nD τ).loc main_arg1) (ix3 0 k col) := by
  obtain ⟨p0, p1, p2⟩ := place (win0_1.index t) t (idx_facts t).2.1 k q col hc
  refine congrArg (m ((c : Thread nD τ).loc main_arg1)) (funext fun a => Fin.ext ?_)
  match a with
  | ⟨0, _⟩ => exact p0
  | ⟨1, _⟩ => exact p1
  | ⟨2, _⟩ => exact p2

theorem upW_apply (c : Dev nD) (t : Fin cfg0.N) (k : Fin 4096) (q : Fin 256) (col : Fin 11008)
    (hc : col.val = t.val % 43 * 256 + q.val) :
    iblk m c 2 t (ix3 0 k q) = m ((c : Thread nD τ).loc main_arg2) (ix3 0 k col) := by
  obtain ⟨p0, p1, p2⟩ := place (win0_2.index t) t (idx_facts t).2.2.1 k q col hc
  refine congrArg (m ((c : Thread nD τ).loc main_arg2)) (funext fun a => Fin.ext ?_)
  match a with
  | ⟨0, _⟩ => exact p0
  | ⟨1, _⟩ => exact p1
  | ⟨2, _⟩ => exact p2

/-- What point `t` writes back is its block of `spec`. -/
theorem flushed_eq (c : Dev nD) (t : Fin cfg0.N) :
    (dats m 0 c).flushed 3 t = ((cfg0.win 3).blk t).view.read (Elt Ideal)
      (spec (m ((c : Thread nD τ).loc main_arg0)) (m ((c : Thread nD τ).loc main_arg1)) (m ((c : Thread nD τ).loc main_arg2))) := by
  rw [Value.flushed3]
  obtain ⟨-, -, -, e3, -⟩ := idx_facts t
  have ht : t.val < 215 := lt_of_lt_of_eq t.isLt N_0
  funext y
  obtain ⟨r, q, rfl⟩ : ∃ (r : Fin 1664) (q : Fin 256), y = ix2 r q := ⟨y 0, y 1, eq_ix2 y⟩
  have hi : ((cfg0.win 3).blk t).view.emb (ix2 r q)
      = ix2 (⟨t.val / 43 * 1664 + r.val, by omega⟩ : Fin 8320) (⟨t.val % 43 * 256 + q.val, by omega⟩ : Fin 11008) := by
    funext a; apply Fin.ext
    match a with
    | ⟨0, _⟩ => show win0_3.index t 0 * 1664 + 1 * r.val = _; rw [e3]; simp
    | ⟨1, _⟩ => show win0_3.index t 1 * 256 + 1 * q.val = _; rw [e3]; simp
  show out0_3 _ _ _ (ix2 r q) = _
  unfold out0_3
  rw [View.canon_unit_zero hz2, View.ld_unit_zero hz2, View.ld_unit_zero hz3, View.ld_unit_zero hz3, payload_apply]
  show _ = spec _ _ _ (((cfg0.win 3).blk t).view.emb (ix2 r q))
  rw [hi]
  unfold spec
  refine congrArg₂ swiglu (Finset.sum_congr rfl fun k _ => congrArg₂ (· * ·) ?_ ?_)
    (Finset.sum_congr rfl fun k _ => congrArg₂ (· * ·) ?_ ?_)
  · exact rows_apply m c t r k _ rfl
  · exact gateW_apply m c t k q _ rfl
  · exact rows_apply m c t r k _ rfl
  · exact upW_apply m c t k q _ rfl

theorem mem_block (t : Fin cfg0.N) (i : S8320x11008.Idx) :
    i ∈ ((cfg0.win 3).blk t).view.set ↔ ∀ a : Fin 2, win0_3.index t a * S1664x256.size a ≤ (i a).val
      ∧ (i a).val < win0_3.index t a * S1664x256.size a + S1664x256.size a := by
  show i ∈ ((View.whole main_v0).slice (win0_3.rect t)).set ↔ _
  rw [View.set_slice_whole, Rect.mem_set_unit]
  exact Iff.rfl

theorem covered (i : S8320x11008.Idx) :
    ∃ t : Fin cfg0.N, (cfg0.win 3).flush t = true ∧ i ∈ ((cfg0.win 3).blk t).view.set := by
  have h0 : (i 0).val < 8320 := (i 0).isLt
  have h1 : (i 1).val < 11008 := (i 1).isLt
  have hN : cfg0.N = 215 := N_0
  obtain ⟨t, ht⟩ : ∃ t : Fin cfg0.N, t.val = (i 0).val / 1664 * 43 + (i 1).val / 256 :=
    ⟨⟨(i 0).val / 1664 * 43 + (i 1).val / 256, by omega⟩, rfl⟩
  obtain ⟨-, -, -, e3, hf⟩ := idx_facts t
  refine ⟨t, hf, (mem_block t i).2 fun a => ?_⟩
  rw [e3]
  match a with
  | ⟨0, _⟩ => show t.val / 43 * 1664 ≤ (i 0).val ∧ (i 0).val < t.val / 43 * 1664 + 1664; omega
  | ⟨1, _⟩ => show t.val % 43 * 256 ≤ (i 1).val ∧ (i 1).val < t.val % 43 * 256 + 256; omega

/-- The result array after the run. -/
theorem final (c : Dev nD) :
    (dats m 0 c).arrAt 3 cfg0.N = spec (m ((c : Thread nD τ).loc main_arg0)) (m ((c : Thread nD τ).loc main_arg1))
      (m ((c : Thread nD τ).loc main_arg2)) :=
  (dats m 0 c).arrAt_eq_of_cover 3 _ (fun t _ => flushed_eq m c t) covered

/-- The reference's array: its logistic is spelled with the exponential. -/
theorem reference_eq (h : S8320x4096.Idx → EReal) (wg wu : S1x4096x11008.Idx → EReal) :
    Cert.Reference5Ideal.Read.val_main_v7 (F := Ideal) h wg wu = spec h wg wu := by
  funext i
  unfold Cert.Reference5Ideal.Read.val_main_v7 Cert.Reference5Ideal.Read.val_main_v6 Cert.Reference5Ideal.Read.val_main_v5 Cert.Reference5Ideal.Read.val_main_v4 Cert.Reference5Ideal.Read.val_main_v3 Cert.Reference5Ideal.Read.val_main_call0_v5 Cert.Reference5Ideal.Read.val_main_call0_v4 Cert.Reference5Ideal.Read.val_main_call0_v3 Cert.Reference5Ideal.Read.val_main_call0_v2 Cert.Reference5Ideal.Read.val_main_call0_v1 Cert.Reference5Ideal.Read.val_main_call0_v0 Cert.Reference5Ideal.Read.val_main_call0_cst Cert.Reference5Ideal.Read.val_main_call0_cst_0 Cert.Reference5Ideal.Read.val_main_v2 Cert.Reference5Ideal.Read.val_main_v1 Cert.Reference5Ideal.Read.val_main_v0 spec swiglu Ideal.logistic
  pointwise [Cert.Reference5Ideal.dot_S8320x4096_S4096x11008_S8320x11008_1_0_0_1_n_n]

/-- The kernel and the reference leave the same array. -/
theorem algebraic : Cert.algebraic_Kernel5Ideal_Reference5Ideal := by
  intro m g m' g' _ hm
  refine ⟨fun c => spec (m ((c.tc : Thread nD τ).loc main_arg0)) (m ((c.tc : Thread nD τ).loc main_arg1))
      (m ((c.tc : Thread nD τ).loc main_arg2)), ?_, ?_⟩
  · refine (θ_run _ _ _).mono (fun r h c => ?_) (Cert.Kernel5Ideal.Value.run_blocks m g)
    exact ⟨(h c).1.trans (final m c), (h c).2⟩
  · refine (θ_run _ _ _).mono (fun r h c => ?_) (Cert.Reference5Ideal.Value.run m' g')
    refine ⟨(h c).1.trans ?_, (h c).2⟩
    refine (Cert.Reference5Ideal.Read.val_main_v7_eq _ _ _).trans ((reference_eq _ _ _).trans ?_)
    rw [(hm c).1, (hm c).2.1, (hm c).2.2]

end Cert.DenseUp

end
-- ==== Proof.DenseDown.lean ====
/- The dense layers' down projection: two grid points in turn write each block, the first multiplies the first half of the
   activation rows and clears the accumulator before, the second adds the other half and the residual. -/
module

public import proofs.«01_k».proof.Proof.Gen.Kernel6Ideal.Value
public import proofs.«01_k».proof.Proof.Gen.Reference6Ideal.Run
public import proofs.«01_k».proof.Proof.Gen.Reference6Ideal.Read
public import proofs.«01_k».proof.Defs
public import Idealize.ShloMosaic.Lib.Pointwise
public import Idealize.ShloMosaic.Lib.Tactic

@[expose] public section

noncomputable section

namespace Cert.DenseDown

open Idealize.ShloMosaic Idealize.ShloMosaic.TcCoe Idealize.SL.Sem Cert.Kernel6Ideal Cert.Kernel6Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl

section Cases

variable {F : FTy → Type} [FloatOps F]
variable (c : Dev nD) (i : grid0.Coords)
  (a3 : Memref sig .tc .vmem S640x5504 .bf16) (h3 : a3.IsWhole) (a4 : Memref sig .tc .vmem S1x5504x512 .bf16) (h4 : a4.IsWhole)
  (a5 : Memref sig .tc .vmem S640x512 .f32) (h5 : a5.IsWhole) (a6 : Memref sig .tc .vmem S640x512 .f32) (h6 : a6.IsWhole)
  (a7 : Memref sig .tc .vmem S640x512 .f32) (h7 : a7.IsWhole)
  (x0 : Vec F S640x5504 .bf16) (x1 : Vec F S1x5504x512 .bf16) (x2 xs : Vec F S640x512 .f32)

/-- The first point clears the accumulator and adds its product. -/
theorem acc_first (hc0 : cond0_0 i) (hc1 : ¬cond0_1 i) :
    sout0_A_0 c i a3 h3 a4 h4 a5 h5 a6 h6 a7 h7 hc0 hc1 x0 x1 x2 = k0_pay2 (F := F) (k0_pay1 (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero hz2, View.readCov_unit_zero _ hz2]
  simp only [View.readAt_eq_ld, h3.read_unread, h4.read_unread, View.ld_unit_zero (S := S640x512) hz2, View.ld_unit_zero (S := S640x5504) hz2, View.ld_unit_zero (S := S1x5504x512) hz3]

/-- The second point adds its product, and writes back. -/
theorem out_last (hc0 : ¬cond0_0 i) (hc1 : cond0_1 i) :
    out0_B_3 c i a3 h3 a4 h4 a5 h5 a6 h6 a7 h7 hc0 hc1 x0 x1 x2 xs = k0_pay3 (F := F) (k0_pay2 (F := F) xs x0 x1) x2 := by
  unfold out0_B_3
  rw [View.read_writes_eq_canon _ _ _ (cover0_B_3 c i a3 h3 a4 h4 a5 h5 a6 h6 a7 h7 hc0 hc1 x0 x1 x2 xs)]
  unfold kernelRun0_B
  dsimp only
  sl_unfold_words
  rw [View.canon_unit_zero hz2, View.readCov_unit_zero _ hz2]
  simp only [View.readAt_eq_ld, h3.read_unread, h4.read_unread, h5.read_unread, h7.read_unread, View.ld_unit_zero (S := S640x512) hz2, View.ld_unit_zero (S := S640x5504) hz2, View.ld_unit_zero (S := S1x5504x512) hz3]

end Cases

/-- The accumulator's step at an entry: a row of the activations times a column of the weights is added. -/
theorem step_apply (acc : Vec Ideal S640x512 .f32) (x : Vec Ideal S640x5504 .bf16) (w : Vec Ideal S1x5504x512 .bf16) (r : Fin 640) (q : Fin 512) :
    k0_pay2 (F := Ideal) acc x w (ix2 r q) = acc (ix2 r q) + ∑ k : Fin 5504, x (ix2 r k) * w (ix3 0 k q) := by
  unfold k0_pay2
  pointwise [dot_S640x5504_S5504x512_S640x512_1_0_0_1_n_n]

/-- The cleared accumulator. -/
theorem zero_apply (r : Fin 640) (q : Fin 512) : k0_pay1 (F := Ideal) (ix2 r q) = 0 := by
  unfold k0_pay1
  pointwise

/-- The block written back at an entry: the accumulator and the residual. -/
theorem last_apply (acc x : Vec Ideal S640x512 .f32) (r : Fin 640) (q : Fin 512) :
    k0_pay3 (F := Ideal) acc x (ix2 r q) = acc (ix2 r q) + x (ix2 r q) := by
  unfold k0_pay3
  pointwise

/-- A sum in two halves. -/
theorem halves {n N : ℕ} (h : N = n + n) (f : Fin N → EReal) (lo hi : Fin n → Fin N) (hlo : ∀ k, (lo k).val = k.val)
    (hhi : ∀ k, (hi k).val = n + k.val) : (∑ k, f (lo k)) + ∑ k, f (hi k) = ∑ k, f k := by
  subst h
  rw [Fin.sum_univ_add]
  exact congrArg₂ (· + ·) (Finset.sum_congr rfl fun k _ => congrArg f (Fin.ext (hlo k)))
    (Finset.sum_congr rfl fun k _ => congrArg f (Fin.ext (hhi k)))

/-- One term of an entry's sum. -/
def term (act : S8320x11008.Idx → EReal) (wd : S1x11008x4096.Idx → EReal) (row : Fin 8320) (col : Fin 4096) (k : Fin 11008) : EReal :=
  act (ix2 row k) * wd (ix3 0 k col)

/-- The result: the residual, and every activation row times the weights. -/
def spec (act : S8320x11008.Idx → EReal) (wd : S1x11008x4096.Idx → EReal) (x : S8320x4096.Idx → EReal) : S8320x4096.Idx → EReal :=
  fun i => (∑ k : Fin 11008, term act wd (i 0) (i 1) k) + x i

/-- The blocks of a point: row tile `t / 16`, column tile `t / 2 % 8`, half `t % 2`. -/
theorem idx_facts : ∀ t : Fin cfg0.N, win0_0.index t = ![t.val / 16, t.val % 2]
    ∧ win0_1.index t = ![0, t.val % 2, t.val / 2 % 8] ∧ win0_2.index t = ![t.val / 16, t.val / 2 % 8]
    ∧ win0_3.index t = ![t.val / 16, t.val / 2 % 8] :=
  (by decide +kernel : ∀ t : Fin grid0.N, _)

variable (m : (ℓ : Loc nD τ sig) → Buf (Elt Ideal) ℓ)

/-- The weights as the kernel receives them: the same extended reals. -/
theorem weights_eq (c : Dev nD) : (V m c main_v0 : S1x11008x4096.Idx → EReal) = m ((c : Thread nD τ).loc main_arg1) := by
  show StableHlo.after hostOps0 (fun b => m (c, b)) (Proc.devRef .tc main_v0) = _
  after_results
  rfl

/-- The activations and weights that a point multiplies. -/
abbrev actBlock (c : Dev nD) (t : Fin cfg0.N) : Vec Ideal S640x5504 .bf16 := iblk m c 0 t
abbrev weightBlock (c : Dev nD) (t : Fin cfg0.N) : Vec Ideal S1x5504x512 .bf16 := iblk m c 1 t

theorem act_apply (c : Dev nD) (t : Fin cfg0.N) (r : Fin 640) (k : Fin 5504) (row : Fin 8320) (col : Fin 11008)
    (hr : row.val = t.val / 16 * 640 + r.val) (hk : col.val = t.val % 2 * 5504 + k.val) :
    actBlock m c t (ix2 r k) = m ((c : Thread nD τ).loc main_arg0) (ix2 row col) := by
  obtain ⟨e0, -⟩ := idx_facts t
  rw [← V_main_arg0 m c]
  refine congrArg (V m c main_arg0) (funext fun a => Fin.ext ?_)
  match a with
  | ⟨0, _⟩ => show win0_0.index t 0 * 640 + 1 * r.val = row.val; rw [e0, hr]; simp
  | ⟨1, _⟩ => show win0_0.index t 1 * 5504 + 1 * k.val = col.val; rw [e0, hk]; simp

theorem weight_apply (c : Dev nD) (t : Fin cfg0.N) (k : Fin 5504) (q : Fin 512) (row : Fin 11008) (col : Fin 4096)
    (hk : row.val = t.val % 2 * 5504 + k.val) (hc : col.val = t.val / 2 % 8 * 512 + q.val) :
    weightBlock m c t (ix3 0 k q) = m ((c : Thread nD τ).loc main_arg1) (ix3 0 row col) := by
  obtain ⟨-, e1, -⟩ := idx_facts t
  refine Eq.trans ?_ (congrFun (weights_eq m c) _)
  refine congrArg (V m c main_v0) (funext fun a => Fin.ext ?_)
  match a with
  | ⟨0, _⟩ => show win0_1.index t 0 * 1 + 1 * 0 = 0; rw [e1]; simp
  | ⟨1, _⟩ => show win0_1.index t 1 * 5504 + 1 * k.val = row.val; rw [e1, hk]; simp
  | ⟨2, _⟩ => show win0_1.index t 2 * 512 + 1 * q.val = col.val; rw [e1, hc]; simp

theorem residual_apply (c : Dev nD) (t : Fin cfg0.N) (r : Fin 640) (q : Fin 512) (row : Fin 8320) (col : Fin 4096)
    (hr : row.val = t.val / 16 * 640 + r.val) (hc : col.val = t.val / 2 % 8 * 512 + q.val) :
    iblk m c 2 t (ix2 r q) = m ((c : Thread nD τ).loc main_arg2) (ix2 row col) := by
  obtain ⟨-, -, e2, -⟩ := idx_facts t
  rw [← V_main_arg2 m c]
  refine congrArg (V m c main_arg2) (funext fun a => Fin.ext ?_)
  match a with
  | ⟨0, _⟩ => show win0_2.index t 0 * 640 + 1 * r.val = row.val; rw [e2, hr]; simp
  | ⟨1, _⟩ => show win0_2.index t 1 * 512 + 1 * q.val = col.val; rw [e2, hc]; simp

/-- A point's product: its half of the sum. -/
theorem product_eq (c : Dev nD) (t : Fin cfg0.N) (r : Fin 640) (q : Fin 512) (row : Fin 8320) (col : Fin 4096)
    (hr : row.val = t.val / 16 * 640 + r.val) (hc : col.val = t.val / 2 % 8 * 512 + q.val)
    (half : Fin 5504 → Fin 11008) (hh : ∀ k, (half k).val = t.val % 2 * 5504 + k.val) :
    ∑ k : Fin 5504, actBlock m c t (ix2 r k) * weightBlock m c t (ix3 0 k q)
      = ∑ k : Fin 5504, term (m ((c : Thread nD τ).loc main_arg0)) (m ((c : Thread nD τ).loc main_arg1)) row col (half k) :=
  Finset.sum_congr rfl fun k _ => by
    rw [act_apply m c t r k row (half k) hr (hh k), weight_apply m c t k q (half k) col (hh k) hc, term]

/-- The accumulator after the first of two points. -/
theorem acc_eq (c : Dev nD) (t : Fin cfg0.N) (h0 : t.val % 2 = 0) (r : Fin 640) (q : Fin 512) :
    (outsAt0 m c t.val t.isLt).2 (ix2 r q) = ∑ k : Fin 5504, actBlock m c t (ix2 r k) * weightBlock m c t (ix3 0 k q) := by
  rw [outsAt0_A m c t h0 (by omega)]
  dsimp only
  rw [acc_first, step_apply, zero_apply, zero_add]

/-- What a point that writes back writes: its block of the result. -/
theorem flushed_eq (c : Dev nD) (t : Fin cfg0.N) (hf : (cfg0.win 3).flush t = true) :
    (dats m 0 c).flushed 3 t = ((cfg0.win 3).blk t).view.read (Elt Ideal) (spec (m ((c : Thread nD τ).loc main_arg0))
      (m ((c : Thread nD τ).loc main_arg1)) (m ((c : Thread nD τ).loc main_arg2))) := by
  have h1 : t.val % 2 = 1 := (flush0_3 t).mp hf
  have hN : cfg0.N = 208 := N_0
  have ht := t.isLt
  obtain ⟨-, -, -, e3⟩ := idx_facts t
  rw [Cert.Kernel6Ideal.Value.flushed3_B m c t (by omega) h1, out_last]
  funext y
  obtain ⟨r, q, rfl⟩ : ∃ (r : Fin 640) (q : Fin 512), y = ix2 r q := ⟨y 0, y 1, eq_ix2 y⟩
  have hi : ((cfg0.win 3).blk t).view.emb (ix2 r q)
      = ix2 (⟨t.val / 16 * 640 + r.val, by omega⟩ : Fin 8320) (⟨t.val / 2 % 8 * 512 + q.val, by omega⟩ : Fin 4096) := by
    funext a; apply Fin.ext
    match a with
    | ⟨0, _⟩ => show win0_3.index t 0 * 640 + 1 * r.val = _; rw [e3]; simp
    | ⟨1, _⟩ => show win0_3.index t 1 * 512 + 1 * q.val = _; rw [e3]; simp
  show _ = spec _ _ _ (((cfg0.win 3).blk t).view.emb (ix2 r q))
  rw [hi]
  show k0_pay3 (F := Ideal) _ _ (ix2 r q) = _
  rw [last_apply, step_apply, residual_apply m c t r q (⟨t.val / 16 * 640 + r.val, by omega⟩ : Fin 8320) (⟨t.val / 2 % 8 * 512 + q.val, by omega⟩ : Fin 4096) rfl rfl,
    product_eq m c t r q (⟨t.val / 16 * 640 + r.val, by omega⟩ : Fin 8320) (⟨t.val / 2 % 8 * 512 + q.val, by omega⟩ : Fin 4096) rfl rfl (fun k => ⟨5504 + k.val, by omega⟩)
      (fun k => by show 5504 + k.val = t.val % 2 * 5504 + k.val; omega),
    acc_eq m c ⟨t.val - 1, by omega⟩ (by dsimp only; omega) r q,
    product_eq m c ⟨t.val - 1, by omega⟩ r q (⟨t.val / 16 * 640 + r.val, by omega⟩ : Fin 8320) (⟨t.val / 2 % 8 * 512 + q.val, by omega⟩ : Fin 4096)
      (by dsimp only; omega) (by dsimp only; omega) (fun k => ⟨k.val, by omega⟩) (fun k => by show k.val = (t.val - 1) % 2 * 5504 + k.val; omega)]
  rw [halves (n := 5504) rfl (term _ _ _ _) _ _ (fun k => rfl) (fun k => rfl)]
  rfl

/-- The result array after the run. -/
theorem final (c : Dev nD) :
    (dats m 0 c).arrAt 3 cfg0.N = spec (m ((c : Thread nD τ).loc main_arg0)) (m ((c : Thread nD τ).loc main_arg1)) (m ((c : Thread nD τ).loc main_arg2)) :=
  (dats m 0 c).arrAt_eq_of_cover 3 _ (fun t hf => flushed_eq m c t hf) (fun i => (Cert.Kernel6Ideal.Value.covered_iff3 i).2
    ⟨Nat.zero_le _, (i 0).isLt, Nat.zero_le _, (i 1).isLt⟩)

open Cert.Reference6Ideal.Read in
/-- The reference's array. -/
theorem reference_eq (act : S8320x11008.Idx → EReal) (wd : S1x11008x4096.Idx → EReal) (x : S8320x4096.Idx → EReal) :
    val_main_v3 (F := Ideal) act wd x = spec act wd x := by
  funext i
  unfold val_main_v3 val_main_v2 val_main_v1 val_main_v0 spec term
  pointwise [Cert.Reference6Ideal.dot_S8320x11008_S11008x4096_S8320x4096_1_0_0_1_n_n]
  rw [add_comm]

/-- The kernel and the reference leave the same array. -/
theorem algebraic : Cert.algebraic_Kernel6Ideal_Reference6Ideal := by
  intro m g m' g' _ hm
  refine ⟨fun c => spec (m ((c.tc : Thread nD τ).loc main_arg0)) (m ((c.tc : Thread nD τ).loc main_arg1))
      (m ((c.tc : Thread nD τ).loc main_arg2)), ?_, ?_⟩
  · refine (θ_run _ _ _).mono (fun r h c => ?_) (Cert.Kernel6Ideal.Value.run m g)
    exact ⟨(h c).1.trans ((Cert.Kernel6Ideal.Value.final3 m c).symm.trans (final m c)), (h c).2⟩
  · refine (θ_run _ _ _).mono (fun r h c => ?_) (Cert.Reference6Ideal.Value.run m' g')
    refine ⟨(h c).1.trans ?_, (h c).2⟩
    refine (Cert.Reference6Ideal.Read.val_main_v3_eq _ _ _).trans ((reference_eq _ _ _).trans ?_)
    rw [(hm c).1, (hm c).2.1, (hm c).2.2]

end Cert.DenseDown

end
-- ==== Proof.Merge.lean ====
/- The gated merge of the three branches: each grid point adds, over the branches, 640 rows' projections to 512 columns, each
   times the logistic of its gate. -/
module

public import proofs.«01_k».proof.Proof.Gen.Kernel7Ideal.Value
public import proofs.«01_k».proof.Proof.Gen.Reference7Ideal.Run
public import proofs.«01_k».proof.Proof.Gen.Reference7Ideal.Read
public import proofs.«01_k».proof.Defs
public import Idealize.ShloMosaic.Lib.Pointwise
public import Idealize.ShloMosaic.Lib.Tactic

@[expose] public section

noncomputable section

namespace Cert.Merge

open Cert.Kernel7Ideal Cert.Kernel7Ideal.Gen Idealize.ShloMosaic Idealize.ShloMosaic.TcCoe Idealize.SL.Sem

/-- One branch's part of an entry: the gate's logistic times the row's projection. -/
def branch (h : S8320x2048.Idx → EReal) (w : S2x2048x4096.Idx → EReal) (g : EReal) (row : Fin 8320) (col : Fin 4096) : EReal :=
  Ideal.logistic g * ∑ k : Fin 2048, h (ix2 row k) * w (ix3 0 k col)

/-- A branch's gate: branch `b`'s gates stand in columns `4096 b …`. -/
def gate (proj : S8320x22016.Idx → EReal) (b : Fin 3) (row : Fin 8320) (col : Fin 4096) : EReal :=
  proj (ix2 row ⟨b.val * 4096 + col.val, by omega⟩)

/-- The result. -/
def spec (h0 h1 h2 : S8320x2048.Idx → EReal) (w0 w1 w2 : S2x2048x4096.Idx → EReal) (proj : S8320x22016.Idx → EReal) : S8320x4096.Idx → EReal :=
  fun i => branch h0 w0 (gate proj 0 (i 0) (i 1)) (i 0) (i 1) + branch h1 w1 (gate proj 1 (i 0) (i 1)) (i 0) (i 1)
    + branch h2 w2 (gate proj 2 (i 0) (i 1)) (i 0) (i 1)

/-- A branch's part of a block's entry. -/
def part (g : Vec Ideal S640x512 .f32) (h : Vec Ideal S640x2048 .bf16) (w : Vec Ideal S1x2048x512 .bf16) (r : Fin 640) (q : Fin 512) : EReal :=
  Ideal.logistic (g (ix2 r q)) * ∑ k : Fin 2048, h (ix2 r k) * w (ix3 0 k q)

theorem payload_apply (g0 g1 g2 : Vec Ideal S640x512 .f32) (h0 h1 h2 : Vec Ideal S640x2048 .bf16) (w0 w1 w2 : Vec Ideal S1x2048x512 .bf16)
    (r : Fin 640) (q : Fin 512) :
    k0_pay1 (F := Ideal) g0 h0 w0 g1 h1 w1 g2 h2 w2 (ix2 r q) = part g0 h0 w0 r q + part g1 h1 w1 r q + part g2 h2 w2 r q := by
  unfold k0_pay1 part
  pointwise [dot_S640x2048_S2048x512_S640x512_1_0_0_1_n_n]

/-- The blocks of a point: row tile `t / 8`, column tile `t % 8`, and for the gates the branch's eight column tiles. -/
theorem idx_facts : ∀ t : Fin cfg0.N, (win0_0.index t = ![t.val / 8, 0] ∧ win0_1.index t = ![t.val / 8, 0] ∧ win0_2.index t = ![t.val / 8, 0])
    ∧ (win0_3.index t = ![0, 0, t.val % 8] ∧ win0_4.index t = ![0, 0, t.val % 8] ∧ win0_5.index t = ![0, 0, t.val % 8])
    ∧ (win0_6.index t = ![t.val / 8, t.val % 8] ∧ win0_7.index t = ![t.val / 8, 8 + t.val % 8] ∧ win0_8.index t = ![t.val / 8, 16 + t.val % 8])
    ∧ win0_9.index t = ![t.val / 8, t.val % 8] ∧ win0_9.flush t = true :=
  (by decide +kernel : ∀ t : Fin grid0.N, _)

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The place of a block's entry in its array, for a block of rows, of weights, and of gates. -/
theorem rows_place (t : Fin cfg0.N) (r : Fin 640) (k : Fin 2048) (row : Fin 8320) (hr : row.val = t.val / 8 * 640 + r.val)
    (n : Fin 2 → ℕ) (hn : n = ![t.val / 8, 0]) (e : S8320x2048.Idx) (h0 : (e 0).val = n 0 * 640 + 1 * r.val)
    (h1 : (e 1).val = n 1 * 2048 + 1 * k.val) : e = ix2 row k := by
  subst hn
  funext a
  match a with
  | ⟨0, _⟩ => exact Fin.ext (h0.trans (by show t.val / 8 * 640 + 1 * r.val = row.val; omega))
  | ⟨1, _⟩ => exact Fin.ext (h1.trans (by simp))

theorem weights_place (t : Fin cfg0.N) (k : Fin 2048) (q : Fin 512) (col : Fin 4096) (hc : col.val = t.val % 8 * 512 + q.val)
    (n : Fin 3 → ℕ) (hn : n = ![0, 0, t.val % 8]) (e : S2x2048x4096.Idx) (h0 : (e 0).val = n 0 * 1 + 1 * 0)
    (h1 : (e 1).val = n 1 * 2048 + 1 * k.val) (h2 : (e 2).val = n 2 * 512 + 1 * q.val) : e = ix3 0 k col := by
  subst hn
  funext a
  match a with
  | ⟨0, _⟩ => exact Fin.ext (h0.trans (by simp))
  | ⟨1, _⟩ => exact Fin.ext (h1.trans (by simp))
  | ⟨2, _⟩ => exact Fin.ext (h2.trans (by show t.val % 8 * 512 + 1 * q.val = col.val; omega))

theorem gates_place (t : Fin cfg0.N) (r : Fin 640) (q : Fin 512) (row : Fin 8320) (col : Fin 22016) (b : ℕ)
    (hr : row.val = t.val / 8 * 640 + r.val) (hc : col.val = b * 4096 + (t.val % 8 * 512 + q.val)) (n : Fin 2 → ℕ)
    (hn : n = ![t.val / 8, b * 8 + t.val % 8]) (e : S8320x22016.Idx) (h0 : (e 0).val = n 0 * 640 + 1 * r.val)
    (h1 : (e 1).val = n 1 * 512 + 1 * q.val) : e = ix2 row col := by
  subst hn
  funext a
  match a with
  | ⟨0, _⟩ => exact Fin.ext (h0.trans (by show t.val / 8 * 640 + 1 * r.val = row.val; omega))
  | ⟨1, _⟩ => exact Fin.ext (h1.trans (by show (b * 8 + t.val % 8) * 512 + 1 * q.val = col.val; omega))

/-- The weights as the kernel receives them: the same extended reals. -/
theorem weights_eq (c : Dev nD) : (V m c main_v0 : S2x2048x4096.Idx → EReal) = m ((c : Thread nD τ).loc main_arg3)
    ∧ (V m c main_v1 : S2x2048x4096.Idx → EReal) = m ((c : Thread nD τ).loc main_arg4)
    ∧ (V m c main_v2 : S2x2048x4096.Idx → EReal) = m ((c : Thread nD τ).loc main_arg5) := by
  refine ⟨?_, ?_, ?_⟩
  · show StableHlo.after hostOps0 (fun b => m (c, b)) (Proc.devRef .tc main_v0) = _
    after_results
    rfl
  · show StableHlo.after hostOps0 (fun b => m (c, b)) (Proc.devRef .tc main_v1) = _
    after_results
    rfl
  · show StableHlo.after hostOps0 (fun b => m (c, b)) (Proc.devRef .tc main_v2) = _
    after_results
    rfl

/-- A block's part is its branch's, once the block's entries are known. -/
theorem part_eq (g : Vec Ideal S640x512 .f32) (h : Vec Ideal S640x2048 .bf16) (w : Vec Ideal S1x2048x512 .bf16) (r : Fin 640) (q : Fin 512)
    (H : S8320x2048.Idx → EReal) (W : S2x2048x4096.Idx → EReal) (G : EReal) (row : Fin 8320) (col : Fin 4096)
    (hg : g (ix2 r q) = G) (hh : ∀ k, h (ix2 r k) = H (ix2 row k)) (hw : ∀ k, w (ix3 0 k q) = W (ix3 0 k col)) :
    part g h w r q = branch H W G row col := by
  unfold part branch
  rw [hg]
  exact congrArg _ (Finset.sum_congr rfl fun k _ => congrArg₂ (· * ·) (hh k) (hw k))

/-- What point `t` writes back is its block of `spec`. -/
theorem flushed_eq (c : Dev nD) (t : Fin cfg0.N) :
    (dats m 0 c).flushed 9 t = ((cfg0.win 9).blk t).view.read (Elt Ideal)
      (spec (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))) := by
  rw [Value.flushed9]
  obtain ⟨⟨e0, e1, e2⟩, ⟨e3, e4, e5⟩, ⟨e6, e7, e8⟩, e9, -⟩ := idx_facts t
  obtain ⟨v0, v1, v2⟩ := weights_eq m c
  have ht : t.val < 104 := lt_of_lt_of_eq t.isLt N_0
  funext y
  obtain ⟨r, q, rfl⟩ : ∃ (r : Fin 640) (q : Fin 512), y = ix2 r q := ⟨y 0, y 1, eq_ix2 y⟩
  have hi : ((cfg0.win 9).blk t).view.emb (ix2 r q)
      = ix2 (⟨t.val / 8 * 640 + r.val, by omega⟩ : Fin 8320) (⟨t.val % 8 * 512 + q.val, by omega⟩ : Fin 4096) := by
    funext a; apply Fin.ext
    match a with
    | ⟨0, _⟩ => show win0_9.index t 0 * 640 + 1 * r.val = _; rw [e9]; simp
    | ⟨1, _⟩ => show win0_9.index t 1 * 512 + 1 * q.val = _; rw [e9]; simp
  show out0_9 _ _ _ _ _ _ _ _ _ (ix2 r q) = _
  unfold out0_9
  rw [View.canon_unit_zero hz2, payload_apply]
  simp only [View.ld_unit_zero (S := S640x512) hz2, View.ld_unit_zero (S := S640x2048) hz2, View.ld_unit_zero (S := S1x2048x512) hz3]
  show _ = spec _ _ _ _ _ _ _ (((cfg0.win 9).blk t).view.emb (ix2 r q))
  rw [hi]
  unfold spec
  refine congrArg₂ (· + ·) (congrArg₂ (· + ·) ?_ ?_) ?_
  · refine part_eq _ _ _ r q _ _ _ _ _ ?_ (fun k => ?_) (fun k => ?_)
    · rw [← V_main_arg6 m c]
      exact congrArg (V m c main_arg6) (gates_place t r q _ _ 0 rfl rfl (win0_6.index t) (by rw [e6]; simp) _ rfl rfl)
    · rw [← V_main_arg0 m c]
      exact congrArg (V m c main_arg0) (rows_place t r k _ rfl (win0_0.index t) e0 _ rfl rfl)
    · rw [← v0]
      exact congrArg (V m c main_v0) (weights_place t k q _ rfl (win0_3.index t) e3 _ rfl rfl rfl)
  · refine part_eq _ _ _ r q _ _ _ _ _ ?_ (fun k => ?_) (fun k => ?_)
    · rw [← V_main_arg6 m c]
      exact congrArg (V m c main_arg6) (gates_place t r q _ _ 1 rfl rfl (win0_7.index t) e7 _ rfl rfl)
    · rw [← V_main_arg1 m c]
      exact congrArg (V m c main_arg1) (rows_place t r k _ rfl (win0_1.index t) e1 _ rfl rfl)
    · rw [← v1]
      exact congrArg (V m c main_v1) (weights_place t k q _ rfl (win0_4.index t) e4 _ rfl rfl rfl)
  · refine part_eq _ _ _ r q _ _ _ _ _ ?_ (fun k => ?_) (fun k => ?_)
    · rw [← V_main_arg6 m c]
      exact congrArg (V m c main_arg6) (gates_place t r q _ _ 2 rfl rfl (win0_8.index t) e8 _ rfl rfl)
    · rw [← V_main_arg2 m c]
      exact congrArg (V m c main_arg2) (rows_place t r k _ rfl (win0_2.index t) e2 _ rfl rfl)
    · rw [← v2]
      exact congrArg (V m c main_v2) (weights_place t k q _ rfl (win0_5.index t) e5 _ rfl rfl rfl)

theorem mem_block (t : Fin cfg0.N) (i : S8320x4096.Idx) :
    i ∈ ((cfg0.win 9).blk t).view.set ↔ ∀ a : Fin 2, win0_9.index t a * S640x512.size a ≤ (i a).val
      ∧ (i a).val < win0_9.index t a * S640x512.size a + S640x512.size a := by
  show i ∈ ((View.whole main_v3).slice (win0_9.rect t)).set ↔ _
  rw [View.set_slice_whole, Rect.mem_set_unit]
  exact Iff.rfl

theorem covered (i : S8320x4096.Idx) :
    ∃ t : Fin cfg0.N, (cfg0.win 9).flush t = true ∧ i ∈ ((cfg0.win 9).blk t).view.set := by
  have h0 : (i 0).val < 8320 := (i 0).isLt
  have h1 : (i 1).val < 4096 := (i 1).isLt
  have hN : cfg0.N = 104 := N_0
  obtain ⟨t, ht⟩ : ∃ t : Fin cfg0.N, t.val = (i 0).val / 640 * 8 + (i 1).val / 512 :=
    ⟨⟨(i 0).val / 640 * 8 + (i 1).val / 512, by omega⟩, rfl⟩
  obtain ⟨-, -, -, e9, hf⟩ := idx_facts t
  refine ⟨t, hf, (mem_block t i).2 fun a => ?_⟩
  rw [e9]
  match a with
  | ⟨0, _⟩ => show t.val / 8 * 640 ≤ (i 0).val ∧ (i 0).val < t.val / 8 * 640 + 640; omega
  | ⟨1, _⟩ => show t.val % 8 * 512 ≤ (i 1).val ∧ (i 1).val < t.val % 8 * 512 + 512; omega

/-- The result array after the run. -/
theorem final (c : Dev nD) :
    (dats m 0 c).arrAt 9 cfg0.N = spec (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) :=
  (dats m 0 c).arrAt_eq_of_cover 9 _ (fun t _ => flushed_eq m c t) covered

open Cert.Reference7Ideal.Read in
/-- The reference's gates: the logistic, spelled with the exponential, of a branch's column. -/
theorem gates_eq (proj : S8320x22016.Idx → EReal) (row : Fin 8320) (b : Fin 3) (col : Fin 4096) :
    val_main_v7 (F := Ideal) proj (ix3 row b col) = Ideal.logistic (gate proj b row col) := by
  unfold val_main_v7 val_main_v6 val_main_v5 val_main_v4 val_main_v3 val_main_v2 val_main_v1 val_main_v0 val_main_cst val_main_cst_0
    gate Ideal.logistic
  pointwise

open Cert.Reference7Ideal.Read in
/-- The reference's array. -/
theorem reference_eq (h0 h1 h2 : S8320x2048.Idx → EReal) (w0 w1 w2 : S2x2048x4096.Idx → EReal) (proj : S8320x22016.Idx → EReal) :
    val_main_v31 (F := Ideal) h0 h1 h2 w0 w1 w2 proj = spec h0 h1 h2 w0 w1 w2 proj := by
  funext i
  unfold val_main_v31 val_main_v30 val_main_v29 val_main_v28 val_main_v27 val_main_v26 val_main_v25 val_main_v24 val_main_v23 val_main_v22
    val_main_v21 val_main_v20 val_main_v19 val_main_v18 val_main_v17 val_main_v16 val_main_v15 val_main_v14 val_main_v13 val_main_v12
    val_main_v11 val_main_v10 val_main_v9 val_main_v8 spec branch
  pointwise [Cert.Reference7Ideal.dot_S8320x2048_S2048x4096_S8320x4096_1_0_0_1_n_n, gates_eq]

/-- The kernel and the reference leave the same array. -/
theorem algebraic : Cert.algebraic_Kernel7Ideal_Reference7Ideal := by
  intro m g m' g' _ hm
  refine ⟨fun c => spec (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)), ?_, ?_⟩
  · refine (θ_run _ _ _).mono (fun r h c => ?_) (Cert.Kernel7Ideal.Value.run_blocks m g)
    exact ⟨(h c).1.trans (final m c), (h c).2⟩
  · refine (θ_run _ _ _).mono (fun r h c => ?_) (Cert.Reference7Ideal.Value.run m' g')
    refine ⟨(h c).1.trans ?_, (h c).2⟩
    refine (Cert.Reference7Ideal.Read.val_main_v31_eq _ _ _ _ _ _ _).trans ((reference_eq _ _ _ _ _ _ _).trans ?_)
    obtain ⟨e0, e1, e2, e3, e4, e5, e6⟩ := hm c
    rw [e0, e1, e2, e3, e4, e5, e6]

end Cert.Merge

end
-- ==== Proof.OutputProjection.lean ====
/- The output projection: each grid point multiplies 640 rows by 512 columns and adds the residual; together the blocks are
   the residual plus the product, which is the reference's array. -/
module

public import proofs.«01_k».proof.Proof.Gen.Kernel8Ideal.Value
public import proofs.«01_k».proof.Proof.Gen.Reference8Ideal.Run
public import proofs.«01_k».proof.Proof.Gen.Reference8Ideal.Read
public import proofs.«01_k».proof.Defs
public import Idealize.ShloMosaic.Lib.Pointwise
public import Idealize.ShloMosaic.Lib.Tactic

@[expose] public section

noncomputable section

namespace Cert.OutputProjection

open Cert.Kernel8Ideal Cert.Kernel8Ideal.Gen Idealize.ShloMosaic Idealize.ShloMosaic.TcCoe Idealize.SL.Sem

/-- The result: the residual, and the row's product with the first layer's weights. -/
def spec (x : S8320x4096.Idx → EReal) (w : S2x4096x4096.Idx → EReal) (res : S8320x4096.Idx → EReal) : S8320x4096.Idx → EReal :=
  fun i => (∑ k : Fin 4096, x (ix2 (i 0) k) * w (ix3 0 k (i 1))) + res i

theorem payload_apply (x : Vec Ideal S640x4096 .bf16) (w : Vec Ideal S1x4096x512 .bf16) (res : Vec Ideal S640x512 .f32)
    (r : Fin 640) (q : Fin 512) :
    k0_pay1 (F := Ideal) x w res (ix2 r q) = (∑ k : Fin 4096, x (ix2 r k) * w (ix3 0 k q)) + res (ix2 r q) := by
  unfold k0_pay1
  pointwise [dot_S640x4096_S4096x512_S640x512_1_0_0_1_n_n]

/-- The blocks of a point: row tile `t / 8`, column tile `t % 8`. -/
theorem idx_facts : ∀ t : Fin cfg0.N, win0_0.index t = ![t.val / 8, 0] ∧ win0_1.index t = ![0, 0, t.val % 8]
    ∧ win0_2.index t = ![t.val / 8, t.val % 8] ∧ win0_3.index t = ![t.val / 8, t.val % 8] ∧ win0_3.flush t = true :=
  (by decide +kernel : ∀ t : Fin grid0.N, _)

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

theorem rows_apply (c : Dev nD) (t : Fin cfg0.N) (r : Fin 640) (k : Fin 4096) (row : Fin 8320)
    (hr : row.val = t.val / 8 * 640 + r.val) :
    iblk m c 0 t (ix2 r k) = m ((c : Thread nD τ).loc main_arg0) (ix2 row k) := by
  obtain ⟨e0, -⟩ := idx_facts t
  rw [← V_main_arg0 m c]
  refine congrArg (V m c main_arg0) (funext fun a => Fin.ext ?_)
  match a with
  | ⟨0, _⟩ => show win0_0.index t 0 * 640 + 1 * r.val = row.val; rw [e0, hr]; simp
  | ⟨1, _⟩ => show win0_0.index t 1 * 4096 + 1 * k.val = k.val; rw [e0]; simp

/-- The weights as the kernel stages them: over the reals their cast changes nothing. -/
theorem weights_eq (c : Dev nD) : (V m c main_v0 : S2x4096x4096.Idx → EReal) = m ((c : Thread nD τ).loc main_arg1) := by
  show StableHlo.after hostOps0 (fun b => m (c, b)) (Proc.devRef .tc main_v0) = _
  after_results
  rfl

theorem weights_apply (c : Dev nD) (t : Fin cfg0.N) (q : Fin 512) (k : Fin 4096) (col : Fin 4096)
    (hc : col.val = t.val % 8 * 512 + q.val) :
    iblk m c 1 t (ix3 0 k q) = m ((c : Thread nD τ).loc main_arg1) (ix3 0 k col) := by
  obtain ⟨-, e1, -⟩ := idx_facts t
  refine Eq.trans ?_ (congrFun (weights_eq m c) _)
  refine congrArg (V m c main_v0) (funext fun a => Fin.ext ?_)
  match a with
  | ⟨0, _⟩ => show win0_1.index t 0 * 1 + 1 * 0 = 0; rw [e1]; simp
  | ⟨1, _⟩ => show win0_1.index t 1 * 4096 + 1 * k.val = k.val; rw [e1]; simp
  | ⟨2, _⟩ => show win0_1.index t 2 * 512 + 1 * q.val = col.val; rw [e1, hc]; simp

theorem residual_apply (c : Dev nD) (t : Fin cfg0.N) (r : Fin 640) (q : Fin 512) (row : Fin 8320) (col : Fin 4096)
    (hr : row.val = t.val / 8 * 640 + r.val) (hc : col.val = t.val % 8 * 512 + q.val) :
    iblk m c 2 t (ix2 r q) = m ((c : Thread nD τ).loc main_arg2) (ix2 row col) := by
  obtain ⟨-, -, e2, -⟩ := idx_facts t
  rw [← V_main_arg2 m c]
  refine congrArg (V m c main_arg2) (funext fun a => Fin.ext ?_)
  match a with
  | ⟨0, _⟩ => show win0_2.index t 0 * 640 + 1 * r.val = row.val; rw [e2, hr]; simp
  | ⟨1, _⟩ => show win0_2.index t 1 * 512 + 1 * q.val = col.val; rw [e2, hc]; simp

/-- What point `t` writes back is its block of `spec`. -/
theorem flushed_eq (c : Dev nD) (t : Fin cfg0.N) :
    (dats m 0 c).flushed 3 t = ((cfg0.win 3).blk t).view.read (Elt Ideal)
      (spec (m ((c : Thread nD τ).loc main_arg0)) (m ((c : Thread nD τ).loc main_arg1)) (m ((c : Thread nD τ).loc main_arg2))) := by
  rw [Value.flushed3]
  obtain ⟨e0, e1, e2, e3, -⟩ := idx_facts t
  have ht : t.val < 104 := lt_of_lt_of_eq t.isLt N_0
  funext y
  obtain ⟨r, q, rfl⟩ : ∃ (r : Fin 640) (q : Fin 512), y = ix2 r q := ⟨y 0, y 1, eq_ix2 y⟩
  have hi : ((cfg0.win 3).blk t).view.emb (ix2 r q)
      = ix2 (⟨t.val / 8 * 640 + r.val, by omega⟩ : Fin 8320) (⟨t.val % 8 * 512 + q.val, by omega⟩ : Fin 4096) := by
    funext a; apply Fin.ext
    match a with
    | ⟨0, _⟩ => show win0_3.index t 0 * 640 + 1 * r.val = _; rw [e3]; simp
    | ⟨1, _⟩ => show win0_3.index t 1 * 512 + 1 * q.val = _; rw [e3]; simp
  show out0_3 _ _ _ (ix2 r q) = _
  unfold out0_3
  rw [View.canon_unit_zero hz2, View.ld_unit_zero hz2, View.ld_unit_zero hz3, View.ld_unit_zero hz2, payload_apply]
  show _ = spec _ _ _ (((cfg0.win 3).blk t).view.emb (ix2 r q))
  rw [hi]
  unfold spec
  refine congrArg₂ (· + ·) (Finset.sum_congr rfl fun k _ => congrArg₂ (· * ·) ?_ ?_) ?_
  · exact rows_apply m c t r k _ rfl
  · exact weights_apply m c t q k _ rfl
  · exact residual_apply m c t r q _ _ rfl rfl

theorem mem_block (t : Fin cfg0.N) (i : S8320x4096.Idx) :
    i ∈ ((cfg0.win 3).blk t).view.set ↔ ∀ a : Fin 2, win0_3.index t a * S640x512.size a ≤ (i a).val
      ∧ (i a).val < win0_3.index t a * S640x512.size a + S640x512.size a := by
  show i ∈ ((View.whole main_v1).slice (win0_3.rect t)).set ↔ _
  rw [View.set_slice_whole, Rect.mem_set_unit]
  exact Iff.rfl

theorem covered (i : S8320x4096.Idx) :
    ∃ t : Fin cfg0.N, (cfg0.win 3).flush t = true ∧ i ∈ ((cfg0.win 3).blk t).view.set := by
  have h0 : (i 0).val < 8320 := (i 0).isLt
  have h1 : (i 1).val < 4096 := (i 1).isLt
  have hN : cfg0.N = 104 := N_0
  obtain ⟨t, ht⟩ : ∃ t : Fin cfg0.N, t.val = (i 0).val / 640 * 8 + (i 1).val / 512 :=
    ⟨⟨(i 0).val / 640 * 8 + (i 1).val / 512, by omega⟩, rfl⟩
  obtain ⟨-, -, -, e3, hf⟩ := idx_facts t
  refine ⟨t, hf, (mem_block t i).2 fun a => ?_⟩
  rw [e3]
  match a with
  | ⟨0, _⟩ => show t.val / 8 * 640 ≤ (i 0).val ∧ (i 0).val < t.val / 8 * 640 + 640; omega
  | ⟨1, _⟩ => show t.val % 8 * 512 ≤ (i 1).val ∧ (i 1).val < t.val % 8 * 512 + 512; omega

/-- The result array after the run. -/
theorem final (c : Dev nD) :
    (dats m 0 c).arrAt 3 cfg0.N = spec (m ((c : Thread nD τ).loc main_arg0)) (m ((c : Thread nD τ).loc main_arg1))
      (m ((c : Thread nD τ).loc main_arg2)) :=
  (dats m 0 c).arrAt_eq_of_cover 3 _ (fun t _ => flushed_eq m c t) covered

/-- The reference's array. -/
theorem reference_eq (x : S8320x4096.Idx → EReal) (w : S2x4096x4096.Idx → EReal) (res : S8320x4096.Idx → EReal) :
    Cert.Reference8Ideal.Read.val_main_v4 (F := Ideal) x w res = spec x w res := by
  funext i
  unfold Cert.Reference8Ideal.Read.val_main_v4 Cert.Reference8Ideal.Read.val_main_v3 Cert.Reference8Ideal.Read.val_main_v2
    Cert.Reference8Ideal.Read.val_main_v1 Cert.Reference8Ideal.Read.val_main_v0 spec
  pointwise [Cert.Reference8Ideal.dot_S8320x4096_S4096x4096_S8320x4096_1_0_0_1_n_n]
  rw [add_comm]

/-- The kernel and the reference leave the same array. -/
theorem algebraic : Cert.algebraic_Kernel8Ideal_Reference8Ideal := by
  intro m g m' g' _ hm
  refine ⟨fun c => spec (m ((c.tc : Thread nD τ).loc main_arg0)) (m ((c.tc : Thread nD τ).loc main_arg1))
      (m ((c.tc : Thread nD τ).loc main_arg2)), ?_, ?_⟩
  · refine (θ_run _ _ _).mono (fun r h c => ?_) (Cert.Kernel8Ideal.Value.run_blocks m g)
    exact ⟨(h c).1.trans (final m c), (h c).2⟩
  · refine (θ_run _ _ _).mono (fun r h c => ?_) (Cert.Reference8Ideal.Value.run m' g')
    refine ⟨(h c).1.trans ?_, (h c).2⟩
    refine (Cert.Reference8Ideal.Read.val_main_v4_eq _ _ _).trans ((reference_eq _ _ _).trans ?_)
    rw [(hm c).1, (hm c).2.1, (hm c).2.2]

end Cert.OutputProjection

end
-- ==== Proof.MixerPieces.lean ====
/- The mixers' inputs, one grid point: what each stored piece of the kernel's body holds at an index. -/
module

public import proofs.«01_k».proof.Proof.Gen.Kernel9Ideal.Skeleton
public import Idealize.ShloMosaic.Lib.Pointwise
public import Idealize.ShloMosaic.Lib.Tactic

@[expose] public section

noncomputable section

namespace Cert.Mixer

open Idealize.ShloMosaic Idealize.ShloMosaic.TcCoe Idealize.SL.Sem Cert.Kernel9Ideal Cert.Kernel9Ideal.Gen

/-- The small number added under each inverse root. -/
def eps : EReal := Ideal.ofBits .f32 0x358637BD#32

/-- The normed latent at an entry. -/
theorem latent_apply (x : Vec Ideal S320x256 .f32) (g : Vec Ideal S1x256 .f32) (r : Fin 320) (q : Fin 256) :
    k0_pay4 (F := Ideal) x g (ix2 r q)
      = x (ix2 r q) * Ideal.rsqrt (Ideal.div (∑ k : Fin 256, x (ix2 r k) * x (ix2 r k)) (Ideal.ofBits .f32 0x43800000#32) + eps)
        * g (ix2 0 q) := by
  unfold k0_pay4 eps
  pointwise

/-- The lane test of the shared key: whether the lane is one of the first 64. -/
theorem lane_test (l : Fin 128) : IntOp.cmpi CmpIPredicate.slt (BitVec.ofNat 32 (l : ℕ)) 64#32 = if (l : ℕ) < 64 then 1#1 else 0#1 := by
  revert l
  decide +kernel

/-- A sum over 128 lanes of which the upper 64 are cleared. -/
theorem sum_low (f : Fin 128 → EReal) : (∑ k : Fin 128, if (k : ℕ) < 64 then f k else 0) = ∑ k : Fin 64, f ⟨k, by omega⟩ := by
  rw [show (∑ k : Fin 128, if (k : ℕ) < 64 then f k else 0) = _ from Fin.sum_univ_add (a := 64) (b := 64) _]
  rw [Finset.sum_congr rfl fun (k : Fin 64) _ => if_pos (show ((Fin.castAdd 64 k : Fin 128) : ℕ) < 64 from k.2),
    Finset.sum_congr rfl fun (k : Fin 64) _ => if_neg (show ¬ ((Fin.natAdd 64 k : Fin 128) : ℕ) < 64 by simp), Finset.sum_const_zero, add_zero]
  rfl

/-- The shared key before its gain, its upper lanes cleared. -/
theorem key_apply (x : Vec Ideal S320x128 .f32) (r : Fin 320) (q : Fin 128) :
    k0_pay5 (F := Ideal) x (ix2 r q)
      = if (q : ℕ) < 64 then x (ix2 r q) * Ideal.rsqrt ((∑ k : Fin 64, x (ix2 r ⟨k, by omega⟩) * x (ix2 r ⟨k, by omega⟩))
          * Ideal.ofBits .f32 0x3C800000#32 + eps) else 0 := by
  unfold k0_pay5 eps
  pointwise
  simp only [lane_test]
  have hs : ∀ (p : Prop) [Decidable p] (a b : EReal), Scalar.select (if p then 1#1 else 0#1) a b = if p then a else b := by
    intro p _ a b
    split <;> rfl
  simp only [hs]
  have hh : ∀ (p : Prop) [Decidable p] (a b : EReal), (if p then if p then a else b else b) = if p then a else b := by
    intro p _ a b
    split <;> simp_all
  simp only [hh]
  rw [sum_low fun k => x (ix2 r k) * x (ix2 r k)]

/-- The rotation of a row by a half of its first 64 lanes, on the tables the kernel is given: the entry 32 lanes below and the
    one 32 lanes above are added and multiplied by the second table. -/
def turn (c s x : Fin 128 → EReal) (q : Fin 128) : EReal :=
  x q * c q + (x ⟨((q : ℕ) + 128 - 32) % 128, Nat.mod_lt _ (by norm_num)⟩ + x ⟨((q : ℕ) + 128 - 96) % 128, Nat.mod_lt _ (by norm_num)⟩) * s q

/-- The shared key with its gain, rotated. -/
theorem turned_apply (c s x : Vec Ideal S320x128 .f32) (g : Vec Ideal S1x128 .f32) (r : Fin 320) (q : Fin 128) :
    k0_pay6 (F := Ideal) c s x g (ix2 r q)
      = turn (fun l => c (ix2 r l)) (fun l => s (ix2 r l)) (fun l => x (ix2 r l) * g (ix2 0 l)) q := by
  unfold k0_pay6 turn
  pointwise

/-- A key of two halves, each normed by itself through the product with the block-of-ones matrix. -/
theorem halves_apply (o : Vec Ideal S128x128 .f32) (x : Vec Ideal S320x128 .f32) (g : Vec Ideal S1x128 .f32) (r : Fin 320) (q : Fin 128) :
    k0_pay10 (F := Ideal) o x g (ix2 r q)
      = x (ix2 r q) * Ideal.rsqrt ((∑ k : Fin 128, x (ix2 r k) * x (ix2 r k) * o (ix2 k q)) * Ideal.ofBits .f32 0x3C800000#32 + eps) * g (ix2 0 q) := by
  unfold k0_pay10 k0_pay9 eps
  pointwise [dot_S320x128_S128x128_S320x128_1_0_0_1_n_n]

/-- The same for a head's query, and scaled. -/
theorem query_halves_apply (o : Vec Ideal S128x128 .f32) (x : Vec Ideal S320x128 .f32) (g : Vec Ideal S1x128 .f32) (r : Fin 320) (q : Fin 128) :
    k0_pay14 (F := Ideal) o g x (ix3 0 r q)
      = x (ix2 r q) * Ideal.rsqrt ((∑ k : Fin 128, x (ix2 r k) * x (ix2 r k) * o (ix2 k q)) * Ideal.ofBits .f32 0x3C800000#32 + eps) * g (ix2 0 q)
        * Ideal.ofBits .f32 0x3E000000#32 := by
  unfold k0_pay14 k0_pay13 eps
  pointwise [dot_S320x128_S128x128_S320x128_1_0_0_1_n_n]

/-- The queries' up projection of the normed row. -/
theorem up_apply (x : Vec Ideal S320x768 .f32) (g : Vec Ideal S1x768 .f32) (w : Vec Ideal S768x4096 .bf16) (r : Fin 320) (q : Fin 4096) :
    k0_pay36 (F := Ideal) x g w (ix2 r q)
      = ∑ k : Fin 768, x (ix2 r k) * Ideal.rsqrt (Ideal.div (∑ k : Fin 768, x (ix2 r k) * x (ix2 r k)) (Ideal.ofBits .f32 0x44400000#32) + eps)
        * g (ix2 0 k) * w (ix2 k q) := by
  unfold k0_pay36 eps
  pointwise [dot_S320x768_S768x4096_S320x4096_1_0_0_1_n_n]

/-- A head's inverse root mean square, over its 128 plain lanes and its 128 rotated ones (the upper 64 of which are zero). -/
def headScale {F : FTy → Type} [FloatOps F] [Named F] (n p : FVec F S320x128 .f32) : FVec F S320x1 .f32 :=
  rsqrt (addf (mulf (addf
      (shapeCast S320x1 (multiReduction .add [1] S320 (mulf n n) 0x00000000#32 reduces_S320x128_S320 (.inl rfl) rfl) shapeCasts_S320_S320x1)
      (shapeCast S320x1 (multiReduction .add [1] S320 (mulf p p) 0x00000000#32 reduces_S320x128_S320 (.inl rfl) rfl) shapeCasts_S320_S320x1))
    (broadcast S320x1 (Named.named κ "width" 0x3BAAAAAB#32))) (broadcast S320x1 (Scalar.ofBits .f32 0x358637BD#32)))

/-- A head's query in the latent's space, as the kernel's body stores it. -/
def headLatent {F : FTy → Type} [FloatOps F] [Named F] (n p : FVec F S320x128 .f32) (g : FVec F S1x128 .f32) (w : Vec F S1x128x256 .bf16) :
    FVec F S1x320x256 .bf16 :=
  shapeCast S1x320x256 (truncf .bf16 (mulf (matmul dot_S320x128_S128x256_S320x256_1_0_0_1_n_n none
      (truncf .bf16 (mulf (mulf n (broadcastTo S320x128 (headScale n p) broadcasts_S320x1_S320x128)) (broadcastTo S320x128 g broadcasts_S1x128_S320x128)) bitsLt_bf16_f32)
      (shapeCast S128x256 w shapeCasts_S1x128x256_S128x256) (constant S320x256 .f32 0x00000000#32))
    (broadcast S320x256 (Named.named κ "root" 0x3D93CD3A#32))) bitsLt_bf16_f32) shapeCasts_S320x256_S1x320x256

/-- A head's rotated query, as the kernel's body stores it. -/
def headTurned {F : FTy → Type} [FloatOps F] [Named F] (c s n p : FVec F S320x128 .f32) (g : FVec F S1x128 .f32) : FVec F S1x320x128 .bf16 :=
  have x : FVec F S320x128 .f32 := mulf (mulf p (broadcastTo S320x128 (headScale n p) broadcasts_S320x1_S320x128)) (broadcastTo S320x128 g broadcasts_S1x128_S320x128)
  shapeCast S1x320x128 (truncf .bf16 (mulf (addf (mulf x c)
      (mulf (addf (dynamicRotate 1 32#32 none x rotates_S320x128_d1) (dynamicRotate 1 96#32 none x rotates_S320x128_d1)) s))
    (broadcast S320x128 (Named.named κ "root" 0x3D93CD3A#32))) bitsLt_bf16_f32) shapeCasts_S320x128_S1x320x128

/-- The two named constants. -/
def width : EReal := Named.named (F := Ideal) κ "width" (φ := .f32) 0x3BAAAAAB#32
def root : EReal := Named.named (F := Ideal) κ "root" (φ := .f32) 0x3D93CD3A#32

/-- A head's inverse root mean square at a row. -/
def rowScale (n p : Fin 128 → EReal) : EReal :=
  Ideal.rsqrt (((∑ k, n k * n k) + ∑ k, p k * p k) * width + eps)

theorem headLatent_apply (n p : FVec Ideal S320x128 .f32) (g : FVec Ideal S1x128 .f32) (w : Vec Ideal S1x128x256 .bf16) (r : Fin 320) (q : Fin 256) :
    headLatent n p g w (ix3 0 r q)
      = (∑ k : Fin 128, n (ix2 r k) * rowScale (fun l => n (ix2 r l)) (fun l => p (ix2 r l)) * g (ix2 0 k) * w (ix3 0 k q)) * root := by
  unfold headLatent headScale rowScale width root eps
  pointwise [dot_S320x128_S128x256_S320x256_1_0_0_1_n_n]

theorem headTurned_apply (c s n p : FVec Ideal S320x128 .f32) (g : FVec Ideal S1x128 .f32) (r : Fin 320) (q : Fin 128) :
    headTurned c s n p g (ix3 0 r q)
      = turn (fun l => c (ix2 r l)) (fun l => s (ix2 r l))
          (fun l => p (ix2 r l) * rowScale (fun l => n (ix2 r l)) (fun l => p (ix2 r l)) * g (ix2 0 l)) q * root := by
  unfold headTurned headScale rowScale width root eps turn
  pointwise

end Cert.Mixer

end
-- ==== Proof.MixerRows.lean ====
/- The mixers' inputs, one row: the functions of a row of the input projection that the eight results hold, on the tables
   and gains the kernel's body is given. -/
module

public import proofs.«01_k».proof.Proof.MixerPieces

@[expose] public section

noncomputable section

namespace Cert.Mixer

open Idealize.ShloMosaic Cert.Kernel9Ideal Cert.Kernel9Ideal.Gen

/-- A row normed by its root mean square, with a gain; `N` is the row's width. -/
def normed {n : ℕ} (N : EReal) (x g : Fin n → EReal) (q : Fin n) : EReal :=
  x q * Ideal.rsqrt (Ideal.div (∑ k, x k * x k) N + eps) * g q

/-- The first 64 lanes normed, the others cleared. -/
def cleared (x : Fin 128 → EReal) (q : Fin 128) : EReal :=
  if (q : ℕ) < 64 then x q * Ideal.rsqrt ((∑ k : Fin 64, x ⟨k, by omega⟩ * x ⟨k, by omega⟩) * Ideal.ofBits .f32 0x3C800000#32 + eps) else 0

/-- The shared rotary key. -/
def sharedKey (c s x g : Fin 128 → EReal) (q : Fin 128) : EReal := turn c s (fun l => cleared x l * g l) q

/-- Two halves, each normed by itself; `o` is the block-of-ones matrix. -/
def halves (o : Fin 128 → Fin 128 → EReal) (x g : Fin 128 → EReal) (q : Fin 128) : EReal :=
  x q * Ideal.rsqrt ((∑ k, x k * x k * o k q) * Ideal.ofBits .f32 0x3C800000#32 + eps) * g q

/-- The latent queries after their up projection. -/
def upRow (x g : Fin 768 → EReal) (w : Fin 768 → Fin 4096 → EReal) (q : Fin 4096) : EReal :=
  ∑ k, normed (Ideal.ofBits .f32 0x44400000#32) x g k * w k q

/-- Head `h`'s plain lanes and its rotated ones within the up-projected row. -/
def plainLanes (h : Fin 16) (u : Fin 4096 → EReal) (l : Fin 128) : EReal := u ⟨128 * h + l, by omega⟩
def rotaryLanes (h : Fin 16) (u : Fin 4096 → EReal) (l : Fin 128) : EReal := u ⟨2048 + 128 * h + l, by omega⟩

/-- A head's query in the latent's space. -/
def latentQuery (n p g : Fin 128 → EReal) (w : Fin 128 → Fin 256 → EReal) (q : Fin 256) : EReal :=
  (∑ k, n k * rowScale n p * g k * w k q) * root

/-- A head's rotated query. -/
def turnedQuery (c s n p g : Fin 128 → EReal) (q : Fin 128) : EReal := turn c s (fun l => p l * rowScale n p * g l) q * root

/-- Head `h`'s query: the latent part in 256 lanes, then the rotated part in 128. -/
def query (c s g g' : Fin 128 → EReal) (w : Fin 16 → Fin 128 → Fin 256 → EReal) (u : Fin 4096 → EReal) (h : Fin 16) (q : Fin 384) : EReal :=
  if hq : (q : ℕ) < 256 then latentQuery (plainLanes h u) (rotaryLanes h u) g (w h) ⟨q, hq⟩
  else turnedQuery c s (plainLanes h u) (rotaryLanes h u) g' ⟨(q : ℕ) - 256, by omega⟩

theorem query_low (c s g g' w u) (h : Fin 16) (q : Fin 256) :
    query c s g g' w u h ⟨q, by omega⟩ = latentQuery (plainLanes h u) (rotaryLanes h u) g (w h) q := by
  unfold query
  rw [dif_pos (show ((⟨q, by omega⟩ : Fin 384) : ℕ) < 256 from q.2)]

theorem query_high (c s g g' w u) (h : Fin 16) (q : Fin 128) :
    query c s g g' w u h ⟨256 + q, by omega⟩ = turnedQuery c s (plainLanes h u) (rotaryLanes h u) g' q := by
  unfold query
  rw [dif_neg (show ¬ ((⟨256 + q, by omega⟩ : Fin 384) : ℕ) < 256 by simp)]
  simp only [Nat.add_sub_cancel_left]

/-- All the block's queries, on the up-projected block. -/
def queries (c s : Vec Ideal S320x128 .f32) (g g' : Vec Ideal S1x128 .f32) (w : Vec Ideal S16x128x256 .bf16) (u : FVec Ideal S320x4096 .f32)
    (y : S16x320x384.Idx) : EReal :=
  query (fun l => c (ix2 (n0 := 320) (y 1) l)) (fun l => s (ix2 (n0 := 320) (y 1) l)) (fun l => g (ix2 0 l)) (fun l => g' (ix2 0 l))
    (fun h k q => w (ix3 h k q)) (fun l => u (ix2 (n0 := 320) (y 1) l)) (y 0) (y 2)

/-- Head `h`'s 128 columns of a row of 2048. -/
def headLanes (h : Fin 16) (x : Fin 2048 → EReal) (l : Fin 128) : EReal := x ⟨128 * h + l, by omega⟩

/-- All the block's differential queries. -/
def halfQueries (o : Vec Ideal S128x128 .f32) (g : Vec Ideal S1x128 .f32) (x : Vec Ideal S320x2048 .f32) (y : S16x320x128.Idx) : EReal :=
  halves (fun k l => o (ix2 k l)) (headLanes (y 0) (fun l => x (ix2 (n0 := 320) (y 1) l))) (fun l => g (ix2 0 l)) (y 2)
    * Ideal.ofBits .f32 0x3E000000#32

theorem sharedKey_apply (c s x : Vec Ideal S320x128 .f32) (g : Vec Ideal S1x128 .f32) (r : Fin 320) (q : Fin 128) :
    k0_pay6 (F := Ideal) c s (k0_pay5 x) g (ix2 r q)
      = sharedKey (fun l => c (ix2 r l)) (fun l => s (ix2 r l)) (fun l => x (ix2 r l)) (fun l => g (ix2 0 l)) q := by
  rw [turned_apply]
  simp only [key_apply]
  rfl

theorem sharedKey_stored (c s x : Vec Ideal S320x128 .f32) (g : Vec Ideal S1x128 .f32) (r : Fin 320) (q : Fin 128) :
    k0_pay8 (F := Ideal) (k0_pay2 c) (k0_pay3 s) (k0_pay5 x) g (ix2 r q)
      = sharedKey (fun l => c (ix2 r l)) (fun l => s (ix2 r l)) (fun l => x (ix2 r l)) (fun l => g (ix2 0 l)) q := by
  rw [← sharedKey_apply]
  unfold k0_pay8 k0_pay6 k0_pay2 k0_pay3
  pointwise

/-- The kernel's casts of a loaded block to its own shape. -/
theorem pay2_eq (x : Vec Ideal S320x128 .f32) : k0_pay2 (F := Ideal) x = x := by
  funext i
  obtain ⟨r, q, rfl⟩ : ∃ (r : Fin 320) (q : Fin 128), i = ix2 r q := ⟨i 0, i 1, funext fun a => by fin_cases a <;> rfl⟩
  unfold k0_pay2
  pointwise

theorem pay3_eq (x : Vec Ideal S320x128 .f32) : k0_pay3 (F := Ideal) x = x := pay2_eq x

theorem pay37_eq (x : Vec Ideal S1x128 .f32) : k0_pay37 (F := Ideal) x = x := by
  funext i
  obtain ⟨r, q, rfl⟩ : ∃ (r : Fin 1) (q : Fin 128), i = ix2 r q := ⟨i 0, i 1, funext fun a => by fin_cases a <;> rfl⟩
  unfold k0_pay37
  pointwise

theorem pay38_eq (x : Vec Ideal S1x128 .f32) : k0_pay38 (F := Ideal) x = x := pay37_eq x

theorem pay9_eq (x : Vec Ideal S128x128 .f32) : k0_pay9 (F := Ideal) x = x := by
  funext i
  obtain ⟨r, q, rfl⟩ : ∃ (r : Fin 128) (q : Fin 128), i = ix2 r q := ⟨i 0, i 1, funext fun a => by fin_cases a <;> rfl⟩
  unfold k0_pay9
  pointwise

/-- A load of a head's columns, of a slab, of the queries' and of the latent's columns. -/
theorem latent_load (x : Vec Ideal S320x1024 .f32) (r : Fin 320) (k : Fin 256) (h) :
    View.ld x (Rect.unit (s := S320x1024) ![0, 768] ![320, 256] h) (ix2 r k) = x (ix2 r ⟨768 + k, by omega⟩) :=
  congrArg x (funext fun a => by fin_cases a <;> exact Fin.ext (by simp))

theorem queries_load (x : Vec Ideal S320x1024 .f32) (r : Fin 320) (k : Fin 768) (h) :
    View.ld x (Rect.unit (s := S320x1024) ![0, 0] ![320, 768] h) (ix2 r k) = x (ix2 r ⟨k, by omega⟩) :=
  congrArg x (funext fun a => by fin_cases a <;> exact Fin.ext (by simp))

theorem head_load (x : Vec Ideal S320x2048 .f32) (h : ℕ) (hh : h < 16) (r : Fin 320) (k : Fin 128) (hi) :
    View.ld x (Rect.unit (s := S320x2048) ![0, 128 * h] ![320, 128] hi) (ix2 r k) = headLanes ⟨h, hh⟩ (fun l => x (ix2 r l)) k :=
  congrArg x (funext fun a => by fin_cases a <;> exact Fin.ext (by simp))

theorem slab_load (x : Vec Ideal S16x128x256 .bf16) (h : ℕ) (hh : h < 16) (k : Fin 128) (q : Fin 256) (hi) :
    View.ld x (Rect.unit (s := S16x128x256) ![h, 0, 0] ![1, 128, 256] hi) (ix3 (0 : Fin 1) k q) = x (ix3 ⟨h, hh⟩ k q) :=
  congrArg x (funext fun a => by fin_cases a <;> exact Fin.ext (by simp))

theorem latent_row (x : Vec Ideal S320x1024 .f32) (X : Vec Ideal S320x256 .f32) (g : Vec Ideal S1x256 .f32)
    (hX : ∀ r k, X (ix2 r k) = x (ix2 r ⟨768 + k, by omega⟩)) (r : Fin 320) (q : Fin 256) :
    k0_pay4 (F := Ideal) X g (ix2 r q)
      = normed (Ideal.ofBits .f32 0x43800000#32) (fun k => x (ix2 r ⟨768 + k, by omega⟩)) (fun k => g (ix2 0 k)) q := by
  rw [latent_apply]
  simp only [hX]
  rfl

theorem latent_stored (x : Vec Ideal S320x1024 .f32) (X : Vec Ideal S320x256 .f32) (g : Vec Ideal S1x256 .f32)
    (hX : ∀ r k, X (ix2 r k) = x (ix2 r ⟨768 + k, by omega⟩)) (r : Fin 320) (q : Fin 256) :
    k0_pay7 (F := Ideal) (k0_pay4 X g) (ix2 r q)
      = normed (Ideal.ofBits .f32 0x43800000#32) (fun k => x (ix2 r ⟨768 + k, by omega⟩)) (fun k => g (ix2 0 k)) q :=
  latent_row x X g hX r q

/-- The up-projected block, from the first window's block. -/
def upBlock (x : Vec Ideal S320x1024 .f32) (g : Vec Ideal S1x768 .f32) (w : Vec Ideal S768x4096 .bf16) : FVec Ideal S320x4096 .f32 :=
  k0_pay36 (View.ld x (Rect.unit (s := S320x1024) ![0, 0] ![320, 768] inb_S320x1024_S320x768_0_0)) g w

theorem upBlock_apply (x : Vec Ideal S320x1024 .f32) (g : Vec Ideal S1x768 .f32) (w : Vec Ideal S768x4096 .bf16) (r : Fin 320) (q : Fin 4096) :
    upBlock x g w (ix2 r q) = upRow (fun k => x (ix2 r ⟨k, by omega⟩)) (fun k => g (ix2 0 k)) (fun k q => w (ix2 k q)) q := by
  have h : ∀ X : Vec Ideal S320x768 .f32, (∀ r k, X (ix2 r k) = x (ix2 r ⟨k, by omega⟩)) → k0_pay36 (F := Ideal) X g w (ix2 r q)
      = upRow (fun k => x (ix2 r ⟨k, by omega⟩)) (fun k => g (ix2 0 k)) (fun k q => w (ix2 k q)) q := by
    intro X hX
    rw [up_apply]
    simp only [hX]
    rfl
  exact h _ fun r k => queries_load x r k _

/-- A row of 384 lanes made of 256 and 128. -/
def stacked (f : Fin 256 → EReal) (g : Fin 128 → EReal) (q : Fin 384) : EReal :=
  if hq : (q : ℕ) < 256 then f ⟨q, hq⟩ else g ⟨(q : ℕ) - 256, by omega⟩

/-- A block of such rows. -/
def stackedBlock (f : Fin 320 → Fin 256 → EReal) (g : Fin 320 → Fin 128 → EReal) (y : S320x384.Idx) : EReal :=
  stacked (f (y 0)) (g (y 0)) (y 1)

theorem stacked_low (f : Fin 320 → Fin 256 → EReal) (g : Fin 320 → Fin 128 → EReal) (v : Vec Ideal S320x256 .bf16)
    (hv : ∀ r q, v (ix2 r q) = f r q) (hi : ∀ a, (![0, 0] : Fin 2 → ℕ) a + S320x256.size a ≤ S320x384.size a) (x : S320x256.Idx) :
    v x = stackedBlock f g ((Rect.unit (s := S320x384) ![0, 0] S320x256.size hi).emb x) := by
  obtain ⟨r, q, rfl⟩ : ∃ (r : Fin 320) (q : Fin 256), x = ix2 r q := ⟨x 0, x 1, funext fun a => by fin_cases a <;> rfl⟩
  have hq : (Rect.unit (s := S320x384) ![0, 0] S320x256.size hi).emb (ix2 r q) = ix2 r ⟨q, by omega⟩ :=
    funext fun a => by fin_cases a <;> exact Fin.ext (by simp)
  rw [hq, hv]
  show _ = stacked (f r) (g r) ⟨q, by omega⟩
  unfold stacked
  rw [dif_pos (show ((⟨q, by omega⟩ : Fin 384) : ℕ) < 256 from q.2)]

theorem stacked_high (f : Fin 320 → Fin 256 → EReal) (g : Fin 320 → Fin 128 → EReal) (v : Vec Ideal S320x128 .bf16)
    (hv : ∀ r q, v (ix2 r q) = g r q) (hi : ∀ a, (![0, 256] : Fin 2 → ℕ) a + S320x128.size a ≤ S320x384.size a) (x : S320x128.Idx) :
    v x = stackedBlock f g ((Rect.unit (s := S320x384) ![0, 256] S320x128.size hi).emb x) := by
  obtain ⟨r, q, rfl⟩ : ∃ (r : Fin 320) (q : Fin 128), x = ix2 r q := ⟨x 0, x 1, funext fun a => by fin_cases a <;> rfl⟩
  have hq : (Rect.unit (s := S320x384) ![0, 256] S320x128.size hi).emb (ix2 r q) = ix2 r ⟨256 + q, by omega⟩ :=
    funext fun a => by fin_cases a <;> exact Fin.ext (by simp)
  rw [hq, hv]
  show _ = stacked (f r) (g r) ⟨256 + q, by omega⟩
  unfold stacked
  rw [dif_neg (show ¬ ((⟨256 + q, by omega⟩ : Fin 384) : ℕ) < 256 by simp)]
  simp only [Nat.add_sub_cancel_left]

/-- A head's slice of the up-projected block. -/
theorem slice_at (u : FVec Ideal S320x4096 .f32) (o : ℕ) (h) (r : Fin 320) (l : Fin 128) (ho : o + 128 ≤ 4096) :
    extractStridedSlice S320x128 ![0, o] u h (ix2 r l) = u (ix2 r ⟨o + l, by omega⟩) :=
  congrArg u (funext fun a => by fin_cases a <;> exact Fin.ext (by simp))

/-- A stored latent part is a piece of the queries. -/
theorem latent_piece (h : ℕ) (hh : h < 16) (c s : Vec Ideal S320x128 .f32) (u : FVec Ideal S320x4096 .f32) (g g' : Vec Ideal S1x128 .f32)
    (w : Vec Ideal S16x128x256 .bf16) (W : Vec Ideal S1x128x256 .bf16) (hW : ∀ k q, W (ix3 0 k q) = w (ix3 ⟨h, hh⟩ k q)) (ha hb) (hi : ∀ a, (![h, 0, 0] : Fin 3 → ℕ) a + S1x320x256.size a ≤ S16x320x384.size a) (x : S1x320x256.Idx) :
    headLatent (extractStridedSlice S320x128 ![0, 128 * h] u ha) (extractStridedSlice S320x128 ![0, 2048 + 128 * h] u hb) g W x
      = queries c s g g' w u ((Rect.unit (s := S16x320x384) ![h, 0, 0] S1x320x256.size hi).emb x) := by
  obtain ⟨z, r, q, rfl⟩ : ∃ (z : Fin 1) (r : Fin 320) (q : Fin 256), x = ix3 z r q := ⟨x 0, x 1, x 2, funext fun a => by fin_cases a <;> rfl⟩
  obtain rfl : z = 0 := Subsingleton.elim _ _
  rw [headLatent_apply]
  simp only [slice_at _ _ _ _ _ (show 128 * h + 128 ≤ 4096 by omega), slice_at _ _ _ _ _ (show 2048 + 128 * h + 128 ≤ 4096 by omega), hW]
  have hq : (Rect.unit (s := S16x320x384) ![h, 0, 0] S1x320x256.size hi).emb (ix3 0 r q) = ix3 ⟨h, hh⟩ r ⟨q, by omega⟩ :=
    funext fun a => by fin_cases a <;> exact Fin.ext (by simp)
  rw [hq]
  exact (query_low (fun l => c (ix2 r l)) (fun l => s (ix2 r l)) (fun l => g (ix2 0 l)) (fun l => g' (ix2 0 l)) (fun h k q => w (ix3 h k q))
    (fun l => u (ix2 r l)) ⟨h, hh⟩ q).symm

/-- A stored rotated part is a piece of the queries. -/
theorem turned_piece (h : ℕ) (hh : h < 16) (c s : Vec Ideal S320x128 .f32) (u : FVec Ideal S320x4096 .f32) (g g' : Vec Ideal S1x128 .f32)
    (w : Vec Ideal S16x128x256 .bf16) (ha hb) (hi : ∀ a, (![h, 0, 256] : Fin 3 → ℕ) a + S1x320x128.size a ≤ S16x320x384.size a) (x : S1x320x128.Idx) :
    headTurned c s (extractStridedSlice S320x128 ![0, 128 * h] u ha) (extractStridedSlice S320x128 ![0, 2048 + 128 * h] u hb) g' x
      = queries c s g g' w u ((Rect.unit (s := S16x320x384) ![h, 0, 256] S1x320x128.size hi).emb x) := by
  obtain ⟨z, r, q, rfl⟩ : ∃ (z : Fin 1) (r : Fin 320) (q : Fin 128), x = ix3 z r q := ⟨x 0, x 1, x 2, funext fun a => by fin_cases a <;> rfl⟩
  obtain rfl : z = 0 := Subsingleton.elim _ _
  rw [headTurned_apply]
  simp only [slice_at _ _ _ _ _ (show 128 * h + 128 ≤ 4096 by omega), slice_at _ _ _ _ _ (show 2048 + 128 * h + 128 ≤ 4096 by omega)]
  have hq : (Rect.unit (s := S16x320x384) ![h, 0, 256] S1x320x128.size hi).emb (ix3 0 r q) = ix3 ⟨h, hh⟩ r ⟨256 + q, by omega⟩ :=
    funext fun a => by fin_cases a <;> exact Fin.ext (by simp)
  rw [hq]
  exact (query_high (fun l => c (ix2 r l)) (fun l => s (ix2 r l)) (fun l => g (ix2 0 l)) (fun l => g' (ix2 0 l)) (fun h k q => w (ix3 h k q))
    (fun l => u (ix2 r l)) ⟨h, hh⟩ q).symm

/-- A stored differential query is a piece of the differential queries. -/
theorem halves_piece (h : ℕ) (hh : h < 16) (o : Vec Ideal S128x128 .f32) (g : Vec Ideal S1x128 .f32) (y : Vec Ideal S320x2048 .f32) (Y : Vec Ideal S320x128 .f32)
    (hY : ∀ r l, Y (ix2 r l) = headLanes ⟨h, hh⟩ (fun l => y (ix2 r l)) l)
    (hi : ∀ a, (![h, 0, 0] : Fin 3 → ℕ) a + S1x320x128.size a ≤ S16x320x128.size a) (x : S1x320x128.Idx) :
    k0_pay14 (F := Ideal) o g Y x
      = halfQueries o g y ((Rect.unit (s := S16x320x128) ![h, 0, 0] S1x320x128.size hi).emb x) := by
  obtain ⟨z, r, q, rfl⟩ : ∃ (z : Fin 1) (r : Fin 320) (q : Fin 128), x = ix3 z r q := ⟨x 0, x 1, x 2, funext fun a => by fin_cases a <;> rfl⟩
  obtain rfl : z = 0 := Subsingleton.elim _ _
  rw [query_halves_apply]
  have hq : (Rect.unit (s := S16x320x128) ![h, 0, 0] S1x320x128.size hi).emb (ix3 0 r q) = ix3 ⟨h, hh⟩ r q :=
    funext fun a => by fin_cases a <;> exact Fin.ext (by simp)
  rw [hq]
  simp only [hY]
  rfl

end Cert.Mixer
-- ==== Proof.MixerReference.lean ====
/- The mixers' inputs, the reference: its stages at an entry, as functions of a row of the input projection. -/
module

public import proofs.«01_k».proof.Proof.MixerRows
public import proofs.«01_k».proof.Proof.Gen.Reference9Ideal.Read

@[expose] public section

noncomputable section

namespace Cert.Mixer.Ref

open Idealize.ShloMosaic Idealize.ShloMosaic.TcCoe Idealize.SL.Sem Cert.Reference9Ideal Cert.Reference9Ideal.Read Cert.Mixer

variable (x0 : Vec Ideal S8320x22016 .f32) (x1 : Vec Ideal S2x768 .f32) (x2 : Vec Ideal S2x768x3072 .f32) (x3 : Vec Ideal S2x192 .f32)
  (x4 : Vec Ideal S2x256 .f32) (x5 : Vec Ideal S2x64 .f32) (x6 : Vec Ideal S2x256x16x128 .f32) (x7 x8 : Vec Ideal S2x64 .f32)

/-- The tables of the rotation: the cosines and the sines at a position. -/
def cosines (r : Fin 8320) (k : Fin 32) : EReal := val_main_v22 (F := Ideal) (ix2 r k)
def sines (r : Fin 8320) (k : Fin 32) : EReal := val_main_v23 (F := Ideal) (ix2 r k)

/-- The rotation of 64 lanes, the first half against the second. -/
def rotated (c s : Fin 32 → EReal) (x : Fin 64 → EReal) (q : Fin 64) : EReal :=
  if h : (q : ℕ) < 32 then x q * c ⟨q, h⟩ - x ⟨32 + q, by omega⟩ * s ⟨q, h⟩
  else x ⟨q - 32, by omega⟩ * s ⟨q - 32, by omega⟩ + x ⟨32 + (q - 32), by omega⟩ * c ⟨q - 32, by omega⟩

theorem queryRow (r : Fin 8320) (q : Fin 768) :
    val_main_v44 (F := Ideal) x0 x1 (ix2 r q) = normed (Ideal.ofBits .f32 0x44400000#32) (fun k => x0 (ix2 r ⟨20480 + k, by omega⟩)) (fun k => x1 (ix2 0 k)) q := by
  unfold val_main_v44 val_main_v43 val_main_v42 val_main_v41 val_main_v40 val_main_v39 val_main_v38 val_main_v37 val_main_cst_5 val_main_v36 val_main_v35 val_main_cst_4 val_main_v34 val_main_v33 val_main_cst_3 val_main_v32 val_main_v31 val_main_v30 val_main_v25 normed eps
  pointwise

theorem latent (r : Fin 8320) (q : Fin 256) :
    val_main_v95 (F := Ideal) x0 x4 (ix2 r q) = normed (Ideal.ofBits .f32 0x43800000#32) (fun k => x0 (ix2 r ⟨21248 + k, by omega⟩)) (fun k => x4 (ix2 0 k)) q := by
  unfold val_main_v95 val_main_v94 val_main_v93 val_main_v92 val_main_v91 val_main_v90 val_main_v89 val_main_v88 val_main_cst_11 val_main_v87 val_main_v86 val_main_cst_10 val_main_v85 val_main_v84 val_main_cst_9 val_main_v83 val_main_v82 val_main_v81 val_main_v26 normed eps
  pointwise

theorem keyNormed (r : Fin 8320) (q : Fin 64) :
    val_main_v110 (F := Ideal) x0 x5 (ix2 r q) = normed (Ideal.ofBits .f32 0x42800000#32) (fun k => x0 (ix2 r ⟨21760 + k, by omega⟩)) (fun k => x5 (ix2 0 k)) q := by
  unfold val_main_v110 val_main_v109 val_main_v108 val_main_v107 val_main_v106 val_main_v105 val_main_v104 val_main_v103 val_main_cst_14 val_main_v102 val_main_v101 val_main_cst_13 val_main_v100 val_main_v99 val_main_cst_12 val_main_v98 val_main_v97 val_main_v96 val_main_v29 normed eps
  pointwise

theorem keyTurned (r : Fin 8320) (q : Fin 64) :
    val_main_v119 (F := Ideal) x0 x5 (ix2 r q) = rotated (cosines r) (sines r) (fun k => val_main_v110 (F := Ideal) x0 x5 (ix2 r k)) q := by
  unfold val_main_v119 val_main_v118 val_main_v117 val_main_v116 val_main_v115 val_main_v114 val_main_v113 val_main_v112 val_main_v111 rotated cosines sines
  pointwise

theorem keyPadded (r : Fin 8320) (q : Fin 128) :
    val_main_v159 (F := Ideal) x0 x5 (ix2 r q) = if h : (q : ℕ) < 64 then val_main_v119 (F := Ideal) x0 x5 (ix2 r ⟨q, h⟩) else 0 := by
  unfold val_main_v159 val_main_v158 val_main_cst_21
  pointwise

theorem up (r : Fin 8320) (h : Fin 16) (q : Fin 192) :
    val_main_v48 (F := Ideal) x0 x1 x2 (ix3 r h q) = ∑ k : Fin 768, val_main_v44 (F := Ideal) x0 x1 (ix2 r k) * x2 (ix3 0 k ⟨h * 192 + q, by omega⟩) := by
  unfold val_main_v48 val_main_v47 val_main_v46 val_main_v45
  pointwise [dot_S8320x768_S768x3072_S8320x3072_1_0_0_1_n_n]

theorem full (r : Fin 8320) (h : Fin 16) (q : Fin 192) :
    val_main_v63 (F := Ideal) x0 x1 x2 x3 (ix3 r h q) = normed (Ideal.ofBits .f32 0x43400000#32) (fun k => val_main_v48 (F := Ideal) x0 x1 x2 (ix3 r h k)) (fun k => x3 (ix2 0 k)) q := by
  unfold val_main_v63 val_main_v62 val_main_v61 val_main_v60 val_main_v59 val_main_v58 val_main_v57 val_main_v56 val_main_cst_8 val_main_v55 val_main_v54 val_main_cst_7 val_main_v53 val_main_v52 val_main_cst_6 val_main_v51 val_main_v50 val_main_v49 normed eps
  pointwise

theorem queryTurned (r : Fin 8320) (h : Fin 16) (q : Fin 64) :
    val_main_v80 (F := Ideal) x0 x1 x2 x3 (ix3 r h q) = rotated (cosines r) (sines r) (fun k => val_main_v63 (F := Ideal) x0 x1 x2 x3 (ix3 r h ⟨128 + k, by omega⟩)) q := by
  unfold val_main_v80 val_main_v79 val_main_v78 val_main_v77 val_main_v76 val_main_v75 val_main_v74 val_main_v73 val_main_v72 val_main_v71 val_main_v70 val_main_v69 val_main_v68 val_main_v67 val_main_v66 val_main_v65 rotated cosines sines
  pointwise

theorem queryLatent (r : Fin 8320) (h : Fin 16) (q : Fin 256) :
    val_main_v123 (F := Ideal) x0 x1 x2 x3 x6 (ix3 r h q) = ∑ k : Fin 128, x6 (ix4 0 q h k) * val_main_v63 (F := Ideal) x0 x1 x2 x3 (ix3 r h ⟨k, by omega⟩) := by
  unfold val_main_v123 val_main_v122 val_main_v121 val_main_v120 val_main_v64
  pointwise [dot_S256x16x128_S8320x16x128_S16x256x8320_2_2_0_0_1_1]

theorem queries (h : Fin 16) (r : Fin 8320) (q : Fin 384) :
    val_main_v173 (F := Ideal) x0 x1 x2 x3 x6 (ix3 h r q) = if h1 : (q : ℕ) < 256 then val_main_v123 (F := Ideal) x0 x1 x2 x3 x6 (ix3 r h ⟨q, h1⟩) * val_main_v161 (F := Ideal) ix0
      else if h2 : (q : ℕ) - 256 < 64 then val_main_v80 (F := Ideal) x0 x1 x2 x3 (ix3 r h ⟨q - 256, by omega⟩) * val_main_v161 (F := Ideal) ix0 else 0 := by
  unfold val_main_v173 val_main_v172 val_main_v167 val_main_v166 val_main_cst_24 val_main_v165 val_main_v164 val_main_v163 val_main_v162
  pointwise

theorem halfQuery (h : Fin 16) (r : Fin 8320) (q : Fin 128) :
    val_main_v177 (F := Ideal) x0 x7 (ix3 h r q) = normed (Ideal.ofBits .f32 0x42800000#32) (fun k : Fin 64 => x0 (ix2 r ⟨18432 + (h * 128 + q / 64 * 64 + k), by omega⟩)) (fun k => x7 (ix2 0 k))
      ⟨q % 64, Nat.mod_lt _ (by norm_num)⟩ * Ideal.ofBits .f32 0x3E000000#32 := by
  unfold val_main_v177 val_main_v176 val_main_v175 val_main_v174 val_main_cst_25 val_main_v140 val_main_v139 val_main_v138 val_main_v137 val_main_v136 val_main_v135 val_main_v134 val_main_v133 val_main_v132 val_main_cst_17 val_main_v131 val_main_v130 val_main_cst_16 val_main_v129 val_main_v128 val_main_cst_15 val_main_v127 val_main_v126 val_main_v125 val_main_v124 val_main_v24 normed eps
  pointwise

theorem halfKey (r : Fin 8320) (q : Fin 128) :
    val_main_v157 (F := Ideal) x0 x8 (ix2 r q) = normed (Ideal.ofBits .f32 0x42800000#32) (fun k : Fin 64 => x0 (ix2 r ⟨21504 + (q / 64 * 64 + k), by omega⟩)) (fun k => x8 (ix2 0 k))
      ⟨q % 64, Nat.mod_lt _ (by norm_num)⟩ := by
  unfold val_main_v157 val_main_v156 val_main_v155 val_main_v154 val_main_v153 val_main_v152 val_main_v151 val_main_v150 val_main_v149 val_main_cst_20 val_main_v148 val_main_v147 val_main_cst_19 val_main_v146 val_main_v145 val_main_cst_18 val_main_v144 val_main_v143 val_main_v142 val_main_v141 val_main_v27 normed eps
  pointwise
  simp only [Nat.div_add_mod']

theorem value (r : Fin 8320) (q : Fin 128) :
    val_main_v171 (F := Ideal) x0 (ix2 r q) = x0 (ix2 r ⟨21632 + q, by omega⟩) := by
  unfold val_main_v171 val_main_v28
  pointwise

theorem stackedKeys (r : Fin 8320) (q : Fin 384) :
    val_main_v169 (F := Ideal) x0 x4 x5 (ix2 r q) = stacked (fun k => val_main_v95 (F := Ideal) x0 x4 (ix2 r k)) (fun k => val_main_v159 (F := Ideal) x0 x5 (ix2 r k)) q := by
  unfold val_main_v169 val_main_v168 stacked
  pointwise

end Cert.Mixer.Ref
-- ==== Proof.MixerAgree.lean ====
/- The mixers' inputs: the kernel's rows, on the prepared arrays, are the reference's. -/
module

public import proofs.«01_k».proof.Proof.MixerReference

@[expose] public section

noncomputable section

namespace Cert.Mixer

open Idealize.ShloMosaic Cert.Mixer.Ref

/-- Dividing by 64 is multiplying by the literal 1/64. -/
theorem over64 (x : EReal) : x * Ideal.ofBits .f32 0x3C800000#32 = Ideal.div x (Ideal.ofBits .f32 0x42800000#32) := by
  have h1 : Ideal.ofBits .f32 0x3C800000#32 = ((1 / 64 : ℝ) : EReal) := by
    simp [Ideal.ofBits, Ideal.ieee, -EReal.coe_mul]; norm_num
  have h2 : Ideal.ofBits .f32 0x42800000#32 = ((64 : ℝ) : EReal) := by
    simp [Ideal.ofBits, Ideal.ieee, -EReal.coe_mul]; norm_num
  rw [h1, h2, Ideal.div, if_neg (by norm_cast), ← EReal.coe_inv]
  norm_num

theorem width_eq : width = ((1 / 192 : ℝ) : EReal) := rfl

theorem root_eq : root = (((Real.sqrt 192)⁻¹ : ℝ) : EReal) := rfl

/-- Dividing by 192 is multiplying by the named 1/192. -/
theorem over192 (x : EReal) : x * width = Ideal.div x (Ideal.ofBits .f32 0x43400000#32) := by
  have h2 : Ideal.ofBits .f32 0x43400000#32 = ((192 : ℝ) : EReal) := by
    simp [Ideal.ofBits, Ideal.ieee, -EReal.coe_mul]; norm_num
  rw [width_eq, h2, Ideal.div, if_neg (by norm_cast), ← EReal.coe_inv]
  norm_num

/-- The reference's scale is the named 1/√192. -/
theorem scale_eq : Reference9Ideal.Read.val_main_v161 (F := Ideal) ix0 = root := by
  unfold Reference9Ideal.Read.val_main_v161 Reference9Ideal.Read.val_main_v160 Reference9Ideal.Read.val_main_cst_22 Reference9Ideal.Read.val_main_cst_23
  pointwise
  have h2 : Ideal.ofBits .f32 0x43400000#32 = ((192 : ℝ) : EReal) := by
    simp [Ideal.ofBits, Ideal.ieee, -EReal.coe_mul]; norm_num
  show Ideal.div 1 (Ideal.sqrt (Ideal.ofBits .f32 0x43400000#32)) = root
  rw [h2, root_eq, show Ideal.sqrt ((192 : ℝ) : EReal) = ((Real.sqrt 192 : ℝ) : EReal) from if_neg (by norm_num),
    Ideal.div, if_neg (by norm_cast; positivity), ← EReal.coe_inv, one_mul]

/-- The kernel's rotation over padded lanes is the reference's over the first 64, and zero over the others. -/
theorem turn_eq (c s : Fin 32 → EReal) (C S y : Fin 128 → EReal) (z : Fin 64 → EReal)
    (hC : ∀ l, C l = if h : (l : ℕ) < 32 then c ⟨l, h⟩ else if h : (l : ℕ) - 32 < 32 then c ⟨l - 32, h⟩ else 0)
    (hS : ∀ l, S l = if h : (l : ℕ) < 32 then -s ⟨l, h⟩ else if h : (l : ℕ) - 32 < 32 then s ⟨l - 32, h⟩ else 0)
    (hy : ∀ l, y l = if h : (l : ℕ) < 64 then z ⟨l, h⟩ else 0) (q : Fin 128) :
    turn C S y q = if h : (q : ℕ) < 64 then rotated c s z ⟨q, h⟩ else 0 := by
  obtain ⟨q, hq⟩ := q
  unfold turn rotated
  simp only [hC, hS, hy]
  by_cases h1 : q < 32
  · have e1 : ¬ (q + 128 - 32) % 128 < 64 := by omega
    have e2 : (q + 128 - 96) % 128 = 32 + q := by omega
    have e3 : 32 + q < 64 := by omega
    have e4 : q < 64 := by omega
    simp only [h1, e1, e2, e3, e4, dif_pos, dif_neg, not_false_eq_true, zero_add, mul_neg, sub_eq_add_neg]
  · by_cases h2 : q < 64
    · have e1 : (q + 128 - 32) % 128 = q - 32 := by omega
      have e2 : ¬ (q + 128 - 96) % 128 < 64 := by omega
      have e3 : q - 32 < 64 := by omega
      have e4 : q - 32 < 32 := by omega
      have e5 : 32 + (q - 32) = q := by omega
      simp only [h1, h2, e1, e2, e3, e4, e5, dif_pos, dif_neg, not_false_eq_true, add_zero]
      exact add_comm _ _
    · have e4 : ¬ q - 32 < 32 := by omega
      simp only [h1, h2, e4, dif_neg, not_false_eq_true, zero_mul, mul_zero, add_zero]

/-- The shared key. -/
theorem sharedKey_eq (c s : Fin 32 → EReal) (C S x g : Fin 128 → EReal) (g' : Fin 64 → EReal)
    (hC : ∀ l, C l = if h : (l : ℕ) < 32 then c ⟨l, h⟩ else if h : (l : ℕ) - 32 < 32 then c ⟨l - 32, h⟩ else 0)
    (hS : ∀ l, S l = if h : (l : ℕ) < 32 then -s ⟨l, h⟩ else if h : (l : ℕ) - 32 < 32 then s ⟨l - 32, h⟩ else 0)
    (hg : ∀ l, g l = if h : (l : ℕ) < 64 then g' ⟨l, h⟩ else 0) (q : Fin 128) :
    sharedKey C S x g q = if h : (q : ℕ) < 64
      then rotated c s (normed (Ideal.ofBits .f32 0x42800000#32) (fun k => x ⟨k, by omega⟩) g') ⟨q, h⟩ else 0 := by
  unfold sharedKey
  refine turn_eq c s C S _ _ hC hS (fun l => ?_) q
  unfold cleared normed
  rw [hg, over64]
  by_cases h : (l : ℕ) < 64
  · simp only [h, if_true, dif_pos]
  · simp only [h, if_false, dif_neg, not_false_eq_true, mul_zero]

/-- A sum over the lanes of one half. -/
theorem sum_half (f : Fin 128 → EReal) (q : Fin 128) :
    (∑ k : Fin 128, f k * (if (k : ℕ) / 64 = (q : ℕ) / 64 then 1 else 0)) = ∑ k : Fin 64, f ⟨(q : ℕ) / 64 * 64 + k, by omega⟩ := by
  rw [show (∑ k : Fin 128, f k * (if (k : ℕ) / 64 = (q : ℕ) / 64 then 1 else 0)) = _ from Fin.sum_univ_add (a := 64) (b := 64) _]
  have hl : ∀ k : Fin 64, ((Fin.castAdd 64 k : Fin 128) : ℕ) / 64 = 0 := fun k => by simp only [Fin.val_castAdd]; omega
  have hh : ∀ k : Fin 64, ((Fin.natAdd 64 k : Fin 128) : ℕ) / 64 = 1 := fun k => by rw [Fin.val_natAdd]; omega
  simp only [hl, hh]
  have hq : (q : ℕ) / 64 = 0 ∨ (q : ℕ) / 64 = 1 := by omega
  rcases hq with hq | hq
  · simp only [hq, if_true, mul_one, one_ne_zero, if_false, mul_zero, Finset.sum_const_zero, add_zero]
    exact Finset.sum_congr rfl fun k _ => congrArg f (Fin.ext (by simp [hq]))
  · simp only [hq, if_true, mul_one, zero_ne_one, if_false, mul_zero, Finset.sum_const_zero, zero_add]
    exact Finset.sum_congr rfl fun k _ => congrArg f (Fin.ext (by simp only [Fin.val_natAdd]))

/-- Two halves, each normed by itself. -/
theorem halves_eq (o : Fin 128 → Fin 128 → EReal) (x g : Fin 128 → EReal) (g' : Fin 64 → EReal)
    (ho : ∀ k l, o k l = if (k : ℕ) / 64 = (l : ℕ) / 64 then 1 else 0) (hg : ∀ l, g l = g' ⟨(l : ℕ) % 64, Nat.mod_lt _ (by norm_num)⟩) (q : Fin 128) :
    halves o x g q = normed (Ideal.ofBits .f32 0x42800000#32) (fun k : Fin 64 => x ⟨(q : ℕ) / 64 * 64 + k, by omega⟩) g'
      ⟨(q : ℕ) % 64, Nat.mod_lt _ (by norm_num)⟩ := by
  unfold halves normed
  simp only [ho, hg, sum_half, over64, Nat.div_add_mod']

/-- A head's inverse root mean square over its 192 lanes, given as 128 and 64. -/
theorem rowScale_eq (n p : Fin 128 → EReal) (v : Fin 192 → EReal) (hn : ∀ l : Fin 128, n l = v ⟨l, by omega⟩)
    (hp : ∀ l : Fin 128, p l = if h : (l : ℕ) < 64 then v ⟨128 + l, by omega⟩ else 0) :
    rowScale n p = Ideal.rsqrt (Ideal.div (∑ k, v k * v k) (Ideal.ofBits .f32 0x43400000#32) + eps) := by
  unfold rowScale
  rw [over192]
  have hs : (∑ k, n k * n k) + ∑ k, p k * p k = ∑ k, v k * v k := by
    rw [show (∑ k, v k * v k) = _ from Fin.sum_univ_add (a := 128) (b := 64) _]
    congr 1
    · exact Finset.sum_congr rfl fun k _ => by rw [hn]; rfl
    · refine (Finset.sum_congr rfl fun k _ => ?_).trans (sum_low fun k => p k * p k) |>.trans ?_
      · by_cases h : (k : ℕ) < 64
        · rw [if_pos h]
        · rw [if_neg h, hp, dif_neg h, mul_zero]
      · refine Finset.sum_congr rfl fun k _ => ?_
        rw [hp, dif_pos k.2]
        rfl
  rw [hs]

/-- A head's query. -/
theorem query_eq (c s : Fin 32 → EReal) (C S g g' : Fin 128 → EReal) (w : Fin 16 → Fin 128 → Fin 256 → EReal) (u : Fin 4096 → EReal)
    (h : Fin 16) (v γ : Fin 192 → EReal) (W : Fin 128 → Fin 256 → EReal)
    (hC : ∀ l, C l = if h : (l : ℕ) < 32 then c ⟨l, h⟩ else if h : (l : ℕ) - 32 < 32 then c ⟨l - 32, h⟩ else 0)
    (hS : ∀ l, S l = if h : (l : ℕ) < 32 then -s ⟨l, h⟩ else if h : (l : ℕ) - 32 < 32 then s ⟨l - 32, h⟩ else 0)
    (hg : ∀ l : Fin 128, g l = γ ⟨l, by omega⟩) (hg' : ∀ l : Fin 128, g' l = if h : (l : ℕ) < 64 then γ ⟨128 + l, by omega⟩ else 0)
    (hw : ∀ k q, w h k q = W k q) (hn : ∀ l : Fin 128, plainLanes h u l = v ⟨l, by omega⟩)
    (hp : ∀ l : Fin 128, rotaryLanes h u l = if h : (l : ℕ) < 64 then v ⟨128 + l, by omega⟩ else 0) (q : Fin 384) :
    query C S g g' w u h q = if h1 : (q : ℕ) < 256
        then (∑ k : Fin 128, W k ⟨q, h1⟩ * normed (Ideal.ofBits .f32 0x43400000#32) v γ ⟨k, by omega⟩) * root
      else if h2 : (q : ℕ) - 256 < 64
        then rotated c s (fun k => normed (Ideal.ofBits .f32 0x43400000#32) v γ ⟨128 + k, by omega⟩) ⟨q - 256, h2⟩ * root else 0 := by
  unfold query
  by_cases h1 : (q : ℕ) < 256
  · rw [dif_pos h1, dif_pos h1]
    unfold latentQuery normed
    rw [rowScale_eq _ _ v hn hp]
    refine congrArg (· * root) (Finset.sum_congr rfl fun k _ => ?_)
    rw [hn, hg, hw]
    exact mul_comm _ _
  · rw [dif_neg h1, dif_neg h1]
    unfold turnedQuery
    rw [rowScale_eq _ _ v hn hp, turn_eq c s C S _ (fun k => normed (Ideal.ofBits .f32 0x43400000#32) v γ ⟨128 + k, by omega⟩) hC hS]
    · by_cases h2 : (q : ℕ) - 256 < 64
      · rw [dif_pos h2, dif_pos h2]
      · rw [dif_neg h2, dif_neg h2, zero_mul]
    · intro l
      unfold normed
      rw [hp, hg']
      by_cases h2 : (l : ℕ) < 64
      · simp only [dif_pos h2]
      · simp only [dif_neg h2, mul_zero]

end Cert.Mixer
-- ==== Proof.MixerHost.lean ====
/- The mixers' inputs: the arrays that the host prepares for the kernel's body, at an entry. -/
module

public import proofs.«01_k».proof.Proof.MixerReference
public import proofs.«01_k».proof.Proof.Gen.Kernel9Ideal.Frame.Runs
public import Idealize.ShloMosaic.Lib.Pointwise
public import Idealize.ShloMosaic.Lib.StableHlo.RunRead

@[expose] public section

noncomputable section

namespace Cert.Mixer

open Idealize.ShloMosaic Idealize.ShloMosaic.TcCoe Idealize.SL.Sem Cert.Kernel9Ideal Cert.Kernel9Ideal.Gen

variable (m : (ℓ : Loc nD τ sig) → Buf (Elt Ideal) ℓ) (c : Dev nD)

theorem sitofp_zero : (FloatOps.sitofp .f32 (0#32) : Ideal .f32) = 0 := by
  show (((0#32 : BitVec 32).toInt : ℝ) : EReal) = 0
  simp

/-- 64 lanes filled up with zeros. -/
def filled (x : Vec Ideal S64 .f32) : Vec Ideal S128 .f32 :=
  pad S128 ![0] ![64] ![0] x (sitofp (F := Ideal) .f32 (constantI S_ 32 0#32)) pads_S64_S128_0640 h_S_

theorem filled_apply (x : Vec Ideal S64 .f32) (l : Fin 128) :
    filled x (ix1 l) = if h : (l : ℕ) < 64 then x (ix1 ⟨l, h⟩) else 0 := by
  unfold filled
  pointwise [sitofp_zero]

/-- 64 lanes, twice. -/
def twice (x : Vec Ideal S2x64 .f32) : Vec Ideal S1x128 .f32 :=
  shapeCast S1x128 (shapeCast S128 (broadcastInDim S2x64 ![0, 1] bcast_S1x64_S2x64_0_1
    (shapeCast S1x64 (shapeCast S64 (extractStridedSlice S1x64 ![0, 0] x slices_S2x64_S1x64_0_0) shapeCasts_S1x64_S64) shapeCasts_S64_S1x64))
    shapeCasts_S2x64_S128) shapeCasts_S128_S1x128

theorem twice_apply (x : Vec Ideal S2x64 .f32) (l : Fin 128) : twice x (ix2 0 l) = x (ix2 0 ⟨l % 64, Nat.mod_lt _ (by norm_num)⟩) := by
  unfold twice
  pointwise

/-- The half in which a lane lies: the lane's number divided by 64 and rounded down. -/
def half : IVec S128 32 :=
  select (andi (cmpi .ne (signi (iotaInDim S128 32 0)) (broadcastInDim S128 ![] bcast_S_S128 (signi (constantI S_ 32 64#32))))
      (cmpi .ne (Host.remsi (iotaInDim S128 32 0) (broadcastInDim S128 ![] bcast_S_S128 (constantI S_ 32 64#32)))
        (broadcastInDim S128 ![] bcast_S_S128 (constantI S_ 32 0#32))))
    (subi (Host.divsi (iotaInDim S128 32 0) (broadcastInDim S128 ![] bcast_S_S128 (constantI S_ 32 64#32)))
      (broadcastInDim S128 ![] bcast_S_S128 (constantI S_ 32 1#32)))
    (Host.divsi (iotaInDim S128 32 0) (broadcastInDim S128 ![] bcast_S_S128 (constantI S_ 32 64#32)))

/-- Where two lanes lie in one half. -/
def sameHalf : Vec Ideal S128x128 .f32 :=
  uitofp (F := Ideal) .f32 (cmpi .eq (broadcastInDim S128x128 ![0, 1] bcast_S128x1_S128x128_0_1 (broadcastInDim S128x1 ![0] bcast_S128_S128x1_0 half))
    (broadcastInDim S128x128 ![0, 1] bcast_S1x128_S128x128_0_1 (broadcastInDim S1x128 ![1] bcast_S128_S1x128_1 half)))

theorem half_apply (l : Fin 128) : half (ix1 l) = BitVec.ofNat 32 (l / 64) := by
  revert l
  decide +kernel

theorem sameHalf_apply (k l : Fin 128) : sameHalf (ix2 k l) = if (k : ℕ) / 64 = l / 64 then 1 else 0 := by
  unfold sameHalf
  pointwise [half_apply]
  have hk : (k : ℕ) / 64 = 0 ∨ (k : ℕ) / 64 = 1 := by omega
  have hl : (l : ℕ) / 64 = 0 ∨ (l : ℕ) / 64 = 1 := by omega
  rcases hk with hk | hk <;> rcases hl with hl | hl <;> rw [hk, hl] <;>
    simp [FloatOps.uitofp, IntOp.cmpi]

/-- The queries' projection, by heads. -/
def byHeads (w : Vec Ideal S2x768x3072 .f32) : Vec Ideal S768x16x192 .f32 :=
  shapeCast S768x16x192 (shapeCast S768x3072 (extractStridedSlice S1x768x3072 ![0, 0, 0] w slices_S2x768x3072_S1x768x3072_0_0_0)
    shapeCasts_S1x768x3072_S768x3072) shapeCasts_S768x3072_S768x16x192

theorem byHeads_apply (w : Vec Ideal S2x768x3072 .f32) (k : Fin 768) (h : Fin 16) (q : Fin 192) :
    byHeads w (ix3 k h q) = w (ix3 0 k ⟨h * 192 + q, by omega⟩) := by
  unfold byHeads
  pointwise

/-- Its lanes without a position. -/
def plainPart (x : Vec Ideal S768x16x192 .f32) : Vec Ideal S768x2048 .f32 :=
  shapeCast S768x2048 (extractStridedSlice S768x16x128 ![0, 0, 0] x slices_S768x16x192_S768x16x128_0_0_0) shapeCasts_S768x16x128_S768x2048

theorem plainPart_apply (x : Vec Ideal S768x16x192 .f32) (k : Fin 768) (q : Fin 2048) :
    plainPart x (ix2 k q) = x (ix3 k ⟨(q : ℕ) / 128, by omega⟩ ⟨(q : ℕ) % 128, by omega⟩) := by
  unfold plainPart
  pointwise

/-- Its lanes with a position, filled up with zeros. -/
def filledPart (x : Vec Ideal S768x16x192 .f32) : Vec Ideal S768x2048 .f32 :=
  shapeCast S768x2048 (pad S768x16x128 ![0, 0, 0] ![0, 0, 64] ![0, 0, 0]
    (extractStridedSlice S768x16x64 ![0, 0, 128] x slices_S768x16x192_S768x16x64_0_0_128)
    (sitofp (F := Ideal) .f32 (constantI S_ 32 0#32)) pads_S768x16x64_S768x16x128_000_000_0640 h_S_) shapeCasts_S768x16x128_S768x2048

theorem filledPart_apply (x : Vec Ideal S768x16x192 .f32) (k : Fin 768) (q : Fin 2048) :
    filledPart x (ix2 k q) = if h : (q : ℕ) % 128 < 64 then x (ix3 k ⟨(q : ℕ) / 128, by omega⟩ ⟨128 + (q : ℕ) % 128, by omega⟩) else 0 := by
  unfold filledPart
  pointwise [sitofp_zero]
  have hq : (q : ℕ) / 128 < 16 := by omega
  simp only [hq, true_and]

/-- Two blocks of columns, side by side. -/
def sideBySide (a b : Vec Ideal S768x2048 .f32) : Vec Ideal S768x4096 .bf16 :=
  truncf (F := Ideal) .bf16 (concatenate S768x4096 1 [⟨S768x2048, a⟩, ⟨S768x2048, b⟩] concatenates_S768x2048_S768x2048_S768x4096_d1) bitsLt_bf16_f32

theorem sideBySide_apply (a b : Vec Ideal S768x2048 .f32) (k : Fin 768) (q : Fin 4096) :
    sideBySide a b (ix2 k q) = if h : (q : ℕ) < 2048 then a (ix2 k ⟨q, h⟩) else b (ix2 k ⟨q - 2048, by omega⟩) := by
  unfold sideBySide
  pointwise

/-- A table of the rotation: two tables of 32 lanes, then zeros. -/
def table (a b : Vec Ideal S8320x32 .f32) : Vec Ideal S8320x128 .f32 :=
  concatenate S8320x128 1 [⟨S8320x32, a⟩, ⟨S8320x32, b⟩, ⟨S8320x64, broadcastInDim S8320x64 ![] bcast_S_S8320x64 (constant (F := Ideal) S_ .f32 0x00000000#32)⟩]
    concatenates_S8320x32_S8320x32_S8320x64_S8320x128_d1

theorem table_apply (a b : Vec Ideal S8320x32 .f32) (r : Fin 8320) (l : Fin 128) :
    table a b (ix2 r l) = if h : (l : ℕ) < 32 then a (ix2 r ⟨l, h⟩) else if h : (l : ℕ) - 32 < 32 then b (ix2 r ⟨l - 32, h⟩) else 0 := by
  unfold table
  pointwise

/-- The cosines, twice. -/
theorem prep5 : V m c main_v25 = table (Reference9Ideal.Read.val_main_v22 (F := Ideal)) (Reference9Ideal.Read.val_main_v22 (F := Ideal)) := by
  show StableHlo.after (List.flatten [hostOps0, hostOps0_1, hostOps0_2, hostOps0_3, hostOps0_4, hostOps0_5, hostOps0_6, hostOps0_7, hostOps0_8]) (fun b => m (c, b)) (Proc.devRef .tc main_v25) = _
  generalize hW : (fun b => m (c, b) : Valuation τ sig (Elt Ideal)) = W
  simp only [List.flatten_cons, List.flatten_nil, List.append_nil, List.cons_append, List.nil_append]
  after_reads_simp
  rfl

/-- The sines, first negated. -/
theorem prep6 : V m c main_v29 = table (Host.negf (F := Ideal) (φ := .f32) (Reference9Ideal.Read.val_main_v23 (F := Ideal))) (Reference9Ideal.Read.val_main_v23 (F := Ideal)) := by
  show StableHlo.after (List.flatten [hostOps0, hostOps0_1, hostOps0_2, hostOps0_3, hostOps0_4, hostOps0_5, hostOps0_6, hostOps0_7, hostOps0_8]) (fun b => m (c, b)) (Proc.devRef .tc main_v29) = _
  generalize hW : (fun b => m (c, b) : Valuation τ sig (Elt Ideal)) = W
  simp only [List.flatten_cons, List.flatten_nil, List.append_nil, List.cons_append, List.nil_append]
  after_reads_simp
  rfl

/-- The gains of the queries before their projection. -/
theorem prep7 : V m c main_v77 = shapeCast S1x768 (shapeCast S768 (extractStridedSlice S1x768 ![0, 0] (m ((c : Thread nD τ).loc main_arg1)) slices_S2x768_S1x768_0_0) shapeCasts_S1x768_S768) shapeCasts_S768_S1x768 := by
  show StableHlo.after (List.flatten [hostOps0, hostOps0_1, hostOps0_2, hostOps0_3, hostOps0_4, hostOps0_5, hostOps0_6, hostOps0_7, hostOps0_8]) (fun b => m (c, b)) (Proc.devRef .tc main_v77) = _
  generalize hW : (fun b => m (c, b) : Valuation τ sig (Elt Ideal)) = W
  have h1 : m ((c : Thread nD τ).loc main_arg1) = W (Proc.devRef .tc main_arg1) := by rw [← hW]
  rw [h1]
  simp only [List.flatten_cons, List.flatten_nil, List.append_nil, List.cons_append, List.nil_append]
  after_reads_simp
  rfl

/-- The queries' projection. -/
theorem prep8 : V m c main_v39 = sideBySide (plainPart (byHeads (m ((c : Thread nD τ).loc main_arg2)))) (filledPart (byHeads (m ((c : Thread nD τ).loc main_arg2)))) := by
  show StableHlo.after (List.flatten [hostOps0, hostOps0_1, hostOps0_2, hostOps0_3, hostOps0_4, hostOps0_5, hostOps0_6, hostOps0_7, hostOps0_8]) (fun b => m (c, b)) (Proc.devRef .tc main_v39) = _
  generalize hW : (fun b => m (c, b) : Valuation τ sig (Elt Ideal)) = W
  have h2 : m ((c : Thread nD τ).loc main_arg2) = W (Proc.devRef .tc main_arg2) := by rw [← hW]
  rw [h2]
  simp only [List.flatten_cons, List.flatten_nil, List.append_nil, List.cons_append, List.nil_append]
  after_reads_simp
  refine congrArg₂ sideBySide ?_ ?_
  · after_reads_simp
    rfl
  · after_reads_simp
    simp only [StableHlo.TRef.ofBuf_toBuf, StableHlo.TRef.toBuf, StableHlo.TRef.ofBuf, cast_eq, id]
    rfl

/-- The gains of the queries' lanes without a position. -/
theorem prep9 : V m c main_v44 = shapeCast S1x128 (shapeCast S128 (extractStridedSlice S1x128 ![0, 0] (m ((c : Thread nD τ).loc main_arg3)) slices_S2x192_S1x128_0_0) shapeCasts_S1x128_S128) shapeCasts_S128_S1x128 := by
  show StableHlo.after (List.flatten [hostOps0, hostOps0_1, hostOps0_2, hostOps0_3, hostOps0_4, hostOps0_5, hostOps0_6, hostOps0_7, hostOps0_8]) (fun b => m (c, b)) (Proc.devRef .tc main_v44) = _
  generalize hW : (fun b => m (c, b) : Valuation τ sig (Elt Ideal)) = W
  have h3 : m ((c : Thread nD τ).loc main_arg3) = W (Proc.devRef .tc main_arg3) := by rw [← hW]
  rw [h3]
  simp only [List.flatten_cons, List.flatten_nil, List.append_nil, List.cons_append, List.nil_append]
  after_reads_simp
  rfl

/-- The gains of the queries' lanes with a position. -/
theorem prep10 : V m c main_v48 = shapeCast S1x128 (filled (shapeCast S64 (extractStridedSlice S1x64 ![0, 128] (m ((c : Thread nD τ).loc main_arg3)) slices_S2x192_S1x64_0_128) shapeCasts_S1x64_S64)) shapeCasts_S128_S1x128 := by
  show StableHlo.after (List.flatten [hostOps0, hostOps0_1, hostOps0_2, hostOps0_3, hostOps0_4, hostOps0_5, hostOps0_6, hostOps0_7, hostOps0_8]) (fun b => m (c, b)) (Proc.devRef .tc main_v48) = _
  generalize hW : (fun b => m (c, b) : Valuation τ sig (Elt Ideal)) = W
  have h3 : m ((c : Thread nD τ).loc main_arg3) = W (Proc.devRef .tc main_arg3) := by rw [← hW]
  rw [h3]
  simp only [List.flatten_cons, List.flatten_nil, List.append_nil, List.cons_append, List.nil_append]
  after_reads_simp
  simp only [StableHlo.TRef.ofBuf_toBuf, StableHlo.TRef.toBuf, StableHlo.TRef.ofBuf, cast_eq, id]
  rfl

/-- The gains of the latent rows. -/
theorem prep11 : V m c main_v80 = shapeCast S1x256 (shapeCast S256 (extractStridedSlice S1x256 ![0, 0] (m ((c : Thread nD τ).loc main_arg4)) slices_S2x256_S1x256_0_0) shapeCasts_S1x256_S256) shapeCasts_S256_S1x256 := by
  show StableHlo.after (List.flatten [hostOps0, hostOps0_1, hostOps0_2, hostOps0_3, hostOps0_4, hostOps0_5, hostOps0_6, hostOps0_7, hostOps0_8]) (fun b => m (c, b)) (Proc.devRef .tc main_v80) = _
  generalize hW : (fun b => m (c, b) : Valuation τ sig (Elt Ideal)) = W
  have h4 : m ((c : Thread nD τ).loc main_arg4) = W (Proc.devRef .tc main_arg4) := by rw [← hW]
  rw [h4]
  simp only [List.flatten_cons, List.flatten_nil, List.append_nil, List.cons_append, List.nil_append]
  after_reads_simp
  rfl

/-- The gains of the shared key. -/
theorem prep12 : V m c main_v52 = shapeCast S1x128 (filled (shapeCast S64 (extractStridedSlice S1x64 ![0, 0] (m ((c : Thread nD τ).loc main_arg5)) slices_S2x64_S1x64_0_0) shapeCasts_S1x64_S64)) shapeCasts_S128_S1x128 := by
  show StableHlo.after (List.flatten [hostOps0, hostOps0_1, hostOps0_2, hostOps0_3, hostOps0_4, hostOps0_5, hostOps0_6, hostOps0_7, hostOps0_8]) (fun b => m (c, b)) (Proc.devRef .tc main_v52) = _
  generalize hW : (fun b => m (c, b) : Valuation τ sig (Elt Ideal)) = W
  have h5 : m ((c : Thread nD τ).loc main_arg5) = W (Proc.devRef .tc main_arg5) := by rw [← hW]
  rw [h5]
  simp only [List.flatten_cons, List.flatten_nil, List.append_nil, List.cons_append, List.nil_append]
  after_reads_simp
  simp only [StableHlo.TRef.ofBuf_toBuf, StableHlo.TRef.toBuf, StableHlo.TRef.ofBuf, cast_eq, id]
  rfl

/-- The keys' projection, heads first. -/
theorem prep13 : V m c main_v56 = truncf (F := Ideal) .bf16 (transpose S16x128x256 [1, 2, 0] (shapeCast S256x16x128 (extractStridedSlice S1x256x16x128 ![0, 0, 0, 0] (m ((c : Thread nD τ).loc main_arg6)) slices_S2x256x16x128_S1x256x16x128_0_0_0_0) shapeCasts_S1x256x16x128_S256x16x128) transposes_S256x16x128_S16x128x256_1_2_0) bitsLt_bf16_f32 := by
  show StableHlo.after (List.flatten [hostOps0, hostOps0_1, hostOps0_2, hostOps0_3, hostOps0_4, hostOps0_5, hostOps0_6, hostOps0_7, hostOps0_8]) (fun b => m (c, b)) (Proc.devRef .tc main_v56) = _
  generalize hW : (fun b => m (c, b) : Valuation τ sig (Elt Ideal)) = W
  have h6 : m ((c : Thread nD τ).loc main_arg6) = W (Proc.devRef .tc main_arg6) := by rw [← hW]
  rw [h6]
  simp only [List.flatten_cons, List.flatten_nil, List.append_nil, List.cons_append, List.nil_append]
  after_reads_simp
  rfl

/-- The gains of the query halves. -/
theorem prep14 : V m c main_v62 = twice (m ((c : Thread nD τ).loc main_arg7)) := by
  show StableHlo.after (List.flatten [hostOps0, hostOps0_1, hostOps0_2, hostOps0_3, hostOps0_4, hostOps0_5, hostOps0_6, hostOps0_7, hostOps0_8]) (fun b => m (c, b)) (Proc.devRef .tc main_v62) = _
  generalize hW : (fun b => m (c, b) : Valuation τ sig (Elt Ideal)) = W
  have h7 : m ((c : Thread nD τ).loc main_arg7) = W (Proc.devRef .tc main_arg7) := by rw [← hW]
  rw [h7]
  simp only [List.flatten_cons, List.flatten_nil, List.append_nil, List.cons_append, List.nil_append]
  after_reads_simp
  rfl

/-- The gains of the key halves. -/
theorem prep15 : V m c main_v68 = twice (m ((c : Thread nD τ).loc main_arg8)) := by
  show StableHlo.after (List.flatten [hostOps0, hostOps0_1, hostOps0_2, hostOps0_3, hostOps0_4, hostOps0_5, hostOps0_6, hostOps0_7, hostOps0_8]) (fun b => m (c, b)) (Proc.devRef .tc main_v68) = _
  generalize hW : (fun b => m (c, b) : Valuation τ sig (Elt Ideal)) = W
  have h8 : m ((c : Thread nD τ).loc main_arg8) = W (Proc.devRef .tc main_arg8) := by rw [← hW]
  rw [h8]
  simp only [List.flatten_cons, List.flatten_nil, List.append_nil, List.cons_append, List.nil_append]
  after_reads_simp
  rfl

/-- Which lanes lie in one half. -/
theorem prep16 : V m c main_v74 = sameHalf := by
  show StableHlo.after (List.flatten [hostOps0, hostOps0_1, hostOps0_2, hostOps0_3, hostOps0_4, hostOps0_5, hostOps0_6, hostOps0_7, hostOps0_8]) (fun b => m (c, b)) (Proc.devRef .tc main_v74) = _
  generalize hW : (fun b => m (c, b) : Valuation τ sig (Elt Ideal)) = W
  simp only [List.flatten_cons, List.flatten_nil, List.append_nil, List.cons_append, List.nil_append]
  after_reads_simp
  simp only [StableHlo.TRef.ofBuf_toBuf, StableHlo.TRef.toBuf, StableHlo.TRef.ofBuf, cast_eq, id]
  rfl

/-! The same arrays at an entry. -/

theorem prep5_apply (r : Fin 8320) (l : Fin 128) : V m c main_v25 (ix2 r l) = if h : (l : ℕ) < 32 then Ref.cosines r ⟨l, h⟩ else if h : (l : ℕ) - 32 < 32 then Ref.cosines r ⟨l - 32, h⟩ else 0 := by
  rw [prep5]
  exact table_apply _ _ r l

theorem prep6_apply (r : Fin 8320) (l : Fin 128) : V m c main_v29 (ix2 r l) = if h : (l : ℕ) < 32 then -Ref.sines r ⟨l, h⟩ else if h : (l : ℕ) - 32 < 32 then Ref.sines r ⟨l - 32, h⟩ else 0 := by
  rw [prep6]
  exact table_apply _ _ r l

theorem prep7_apply (l : Fin 768) : V m c main_v77 (ix2 0 l) = m ((c : Thread nD τ).loc main_arg1) (ix2 0 l) := by
  rw [prep7]
  pointwise

theorem prep8_apply (k : Fin 768) (q : Fin 4096) : V m c main_v39 (ix2 k q) = if h : (q : ℕ) < 2048 then m ((c : Thread nD τ).loc main_arg2) (ix3 0 k ⟨(q : ℕ) / 128 * 192 + (q : ℕ) % 128, by omega⟩)
      else if h : ((q : ℕ) - 2048) % 128 < 64 then m ((c : Thread nD τ).loc main_arg2) (ix3 0 k ⟨((q : ℕ) - 2048) / 128 * 192 + (128 + ((q : ℕ) - 2048) % 128), by omega⟩) else (0 : EReal) := by
  rw [prep8]
  rw [sideBySide_apply]
  simp only [plainPart_apply, filledPart_apply, byHeads_apply]

theorem prep9_apply (l : Fin 128) : V m c main_v44 (ix2 0 l) = m ((c : Thread nD τ).loc main_arg3) (ix2 0 ⟨l, by omega⟩) := by
  rw [prep9]
  pointwise

theorem prep10_apply (l : Fin 128) : V m c main_v48 (ix2 0 l) = if h : (l : ℕ) < 64 then m ((c : Thread nD τ).loc main_arg3) (ix2 0 ⟨128 + l, by omega⟩) else (0 : EReal) := by
  rw [prep10]
  pointwise [filled_apply]

theorem prep11_apply (l : Fin 256) : V m c main_v80 (ix2 0 l) = m ((c : Thread nD τ).loc main_arg4) (ix2 0 l) := by
  rw [prep11]
  pointwise

theorem prep12_apply (l : Fin 128) : V m c main_v52 (ix2 0 l) = if h : (l : ℕ) < 64 then m ((c : Thread nD τ).loc main_arg5) (ix2 0 ⟨l, h⟩) else (0 : EReal) := by
  rw [prep12]
  pointwise [filled_apply]

theorem prep13_apply (h : Fin 16) (n : Fin 128) (q : Fin 256) : V m c main_v56 (ix3 h n q) = m ((c : Thread nD τ).loc main_arg6) (ix4 0 q h n) := by
  rw [prep13]
  pointwise

theorem prep14_apply (l : Fin 128) : V m c main_v62 (ix2 0 l) = m ((c : Thread nD τ).loc main_arg7) (ix2 0 ⟨l % 64, Nat.mod_lt _ (by norm_num)⟩) := by
  rw [prep14]
  exact twice_apply _ l

theorem prep15_apply (l : Fin 128) : V m c main_v68 (ix2 0 l) = m ((c : Thread nD τ).loc main_arg8) (ix2 0 ⟨l % 64, Nat.mod_lt _ (by norm_num)⟩) := by
  rw [prep15]
  exact twice_apply _ l

theorem prep16_apply (k l : Fin 128) : V m c main_v74 (ix2 k l) = if (k : ℕ) / 64 = l / 64 then (1 : EReal) else 0 := by
  rw [prep16]
  exact sameHalf_apply k l

end Cert.Mixer
-- ==== Proof.MixerWindows.lean ====
/- The mixers' inputs, the input blocks: at an entry, from the arguments and the prepared arrays. -/
module

public import proofs.«01_k».proof.Proof.MixerHost

@[expose] public section

noncomputable section

namespace Cert.Mixer

open Idealize.ShloMosaic Idealize.ShloMosaic.TcCoe Idealize.SL.Sem Cert.Kernel9Ideal Cert.Kernel9Ideal.Gen

/-- Which block each window holds at a grid point. -/
theorem idx_in : ∀ t : Fin cfg0.N, win0_0.index t = ![t.val, 20] ∧ win0_1.index t = ![t.val, 9] ∧ win0_2.index t = ![t.val, 168]
    ∧ win0_3.index t = ![t.val, 169] ∧ win0_4.index t = ![t.val, 170] ∧ win0_5.index t = ![t.val, 0] ∧ win0_6.index t = ![t.val, 0] :=
  (by decide +kernel : ∀ t : Fin grid0.N, _)

theorem idx_whole : ∀ t : Fin cfg0.N, win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0, 0] ∧ win0_14.index t = ![0, 0]
    ∧ win0_15.index t = ![0, 0] ∧ win0_16.index t = ![0, 0] :=
  (by decide +kernel : ∀ t : Fin grid0.N, _)

/-- The array's row that stands in row `r` of grid point `t`'s blocks. -/
def rowOf (t : Fin cfg0.N) (r : Fin 320) : Fin 8320 := ⟨t.val * 320 + r.val, by have : t.val < 26 := lt_of_lt_of_eq t.isLt N_0; omega⟩

variable (m : (ℓ : Loc nD τ sig) → Buf (Elt Ideal) ℓ) (c : Dev nD) (t : Fin cfg0.N)

theorem in0 (r : Fin 320) (l : Fin 1024) : X0_0 m c t (ix2 r l) = m ((c : Thread nD τ).loc main_arg0) (ix2 (rowOf t r) ⟨20480 + l, by omega⟩) := by
  obtain ⟨e, -, -, -, -, -, -⟩ := idx_in t
  rw [← V_main_arg0 m c]
  unfold X0_0 Pipeline.Window.fill
  rw [dif_pos (moved0_0 t _)]
  unfold iblk
  generalize V m c = v
  refine congrArg (v main_arg0) (funext fun a => Fin.ext ?_)
  match a with
  | ⟨0, _⟩ => show win0_0.index t 0 * 320 + 1 * r.val = t.val * 320 + r.val; rw [e]; show t.val * 320 + 1 * r.val = t.val * 320 + r.val; omega
  | ⟨1, _⟩ => show win0_0.index t 1 * 1024 + 1 * l.val = 20480 + l.val; rw [e]; show 20 * 1024 + 1 * l.val = 20480 + l.val; omega

theorem in1 (r : Fin 320) (l : Fin 2048) : X0_1 m c t (ix2 r l) = m ((c : Thread nD τ).loc main_arg0) (ix2 (rowOf t r) ⟨18432 + l, by omega⟩) := by
  obtain ⟨-, e, -, -, -, -, -⟩ := idx_in t
  rw [← V_main_arg0 m c]
  unfold X0_1 Pipeline.Window.fill
  rw [dif_pos (moved0_1 t _)]
  unfold iblk
  generalize V m c = v
  refine congrArg (v main_arg0) (funext fun a => Fin.ext ?_)
  match a with
  | ⟨0, _⟩ => show win0_1.index t 0 * 320 + 1 * r.val = t.val * 320 + r.val; rw [e]; show t.val * 320 + 1 * r.val = t.val * 320 + r.val; omega
  | ⟨1, _⟩ => show win0_1.index t 1 * 2048 + 1 * l.val = 18432 + l.val; rw [e]; show 9 * 2048 + 1 * l.val = 18432 + l.val; omega

theorem in2 (r : Fin 320) (l : Fin 128) : iblk m c 2 t (ix2 r l) = m ((c : Thread nD τ).loc main_arg0) (ix2 (rowOf t r) ⟨21504 + l, by omega⟩) := by
  obtain ⟨-, -, e, -, -, -, -⟩ := idx_in t
  rw [← V_main_arg0 m c]
  unfold iblk
  generalize V m c = v
  refine congrArg (v main_arg0) (funext fun a => Fin.ext ?_)
  match a with
  | ⟨0, _⟩ => show win0_2.index t 0 * 320 + 1 * r.val = t.val * 320 + r.val; rw [e]; show t.val * 320 + 1 * r.val = t.val * 320 + r.val; omega
  | ⟨1, _⟩ => show win0_2.index t 1 * 128 + 1 * l.val = 21504 + l.val; rw [e]; show 168 * 128 + 1 * l.val = 21504 + l.val; omega

theorem in3 (r : Fin 320) (l : Fin 128) : iblk m c 3 t (ix2 r l) = m ((c : Thread nD τ).loc main_arg0) (ix2 (rowOf t r) ⟨21632 + l, by omega⟩) := by
  obtain ⟨-, -, -, e, -, -, -⟩ := idx_in t
  rw [← V_main_arg0 m c]
  unfold iblk
  generalize V m c = v
  refine congrArg (v main_arg0) (funext fun a => Fin.ext ?_)
  match a with
  | ⟨0, _⟩ => show win0_3.index t 0 * 320 + 1 * r.val = t.val * 320 + r.val; rw [e]; show t.val * 320 + 1 * r.val = t.val * 320 + r.val; omega
  | ⟨1, _⟩ => show win0_3.index t 1 * 128 + 1 * l.val = 21632 + l.val; rw [e]; show 169 * 128 + 1 * l.val = 21632 + l.val; omega

theorem in4 (r : Fin 320) (l : Fin 128) : iblk m c 4 t (ix2 r l) = m ((c : Thread nD τ).loc main_arg0) (ix2 (rowOf t r) ⟨21760 + l, by omega⟩) := by
  obtain ⟨-, -, -, -, e, -, -⟩ := idx_in t
  rw [← V_main_arg0 m c]
  unfold iblk
  generalize V m c = v
  refine congrArg (v main_arg0) (funext fun a => Fin.ext ?_)
  match a with
  | ⟨0, _⟩ => show win0_4.index t 0 * 320 + 1 * r.val = t.val * 320 + r.val; rw [e]; show t.val * 320 + 1 * r.val = t.val * 320 + r.val; omega
  | ⟨1, _⟩ => show win0_4.index t 1 * 128 + 1 * l.val = 21760 + l.val; rw [e]; show 170 * 128 + 1 * l.val = 21760 + l.val; omega

theorem in5 (r : Fin 320) (l : Fin 128) : iblk m c 5 t (ix2 r l) = V m c main_v25 (ix2 (rowOf t r) l) := by
  obtain ⟨-, -, -, -, -, e, -⟩ := idx_in t
  unfold iblk
  generalize V m c = v
  refine congrArg (v main_v25) (funext fun a => Fin.ext ?_)
  match a with
  | ⟨0, _⟩ => show win0_5.index t 0 * 320 + 1 * r.val = t.val * 320 + r.val; rw [e]; show t.val * 320 + 1 * r.val = t.val * 320 + r.val; omega
  | ⟨1, _⟩ => show win0_5.index t 1 * 128 + 1 * l.val = l.val; rw [e]; show 0 * 128 + 1 * l.val = l.val; omega

theorem in6 (r : Fin 320) (l : Fin 128) : iblk m c 6 t (ix2 r l) = V m c main_v29 (ix2 (rowOf t r) l) := by
  obtain ⟨-, -, -, -, -, -, e⟩ := idx_in t
  unfold iblk
  generalize V m c = v
  refine congrArg (v main_v29) (funext fun a => Fin.ext ?_)
  match a with
  | ⟨0, _⟩ => show win0_6.index t 0 * 320 + 1 * r.val = t.val * 320 + r.val; rw [e]; show t.val * 320 + 1 * r.val = t.val * 320 + r.val; omega
  | ⟨1, _⟩ => show win0_6.index t 1 * 128 + 1 * l.val = l.val; rw [e]; show 0 * 128 + 1 * l.val = l.val; omega

theorem in7 (r : Fin 1) (l : Fin 768) : iblk m c 7 t (ix2 r l) = V m c main_v77 (ix2 r l) := by
  obtain ⟨e, -, -, -, -, -, -, -, -, -⟩ := idx_whole t
  unfold iblk
  generalize V m c = v
  refine congrArg (v main_v77) (funext fun a => Fin.ext ?_)
  match a with
  | ⟨0, _⟩ => show win0_7.index t 0 * 1 + 1 * r.val = r.val; rw [e]; show 0 * 1 + 1 * r.val = r.val; omega
  | ⟨1, _⟩ => show win0_7.index t 1 * 768 + 1 * l.val = l.val; rw [e]; show 0 * 768 + 1 * l.val = l.val; omega

theorem in8 (r : Fin 768) (l : Fin 4096) : iblk m c 8 t (ix2 r l) = V m c main_v39 (ix2 r l) := by
  obtain ⟨-, e, -, -, -, -, -, -, -, -⟩ := idx_whole t
  unfold iblk
  generalize V m c = v
  refine congrArg (v main_v39) (funext fun a => Fin.ext ?_)
  match a with
  | ⟨0, _⟩ => show win0_8.index t 0 * 768 + 1 * r.val = r.val; rw [e]; show 0 * 768 + 1 * r.val = r.val; omega
  | ⟨1, _⟩ => show win0_8.index t 1 * 4096 + 1 * l.val = l.val; rw [e]; show 0 * 4096 + 1 * l.val = l.val; omega

theorem in9 (r : Fin 1) (l : Fin 128) : iblk m c 9 t (ix2 r l) = V m c main_v44 (ix2 r l) := by
  obtain ⟨-, -, e, -, -, -, -, -, -, -⟩ := idx_whole t
  unfold iblk
  generalize V m c = v
  refine congrArg (v main_v44) (funext fun a => Fin.ext ?_)
  match a with
  | ⟨0, _⟩ => show win0_9.index t 0 * 1 + 1 * r.val = r.val; rw [e]; show 0 * 1 + 1 * r.val = r.val; omega
  | ⟨1, _⟩ => show win0_9.index t 1 * 128 + 1 * l.val = l.val; rw [e]; show 0 * 128 + 1 * l.val = l.val; omega

theorem in10 (r : Fin 1) (l : Fin 128) : iblk m c 10 t (ix2 r l) = V m c main_v48 (ix2 r l) := by
  obtain ⟨-, -, -, e, -, -, -, -, -, -⟩ := idx_whole t
  unfold iblk
  generalize V m c = v
  refine congrArg (v main_v48) (funext fun a => Fin.ext ?_)
  match a with
  | ⟨0, _⟩ => show win0_10.index t 0 * 1 + 1 * r.val = r.val; rw [e]; show 0 * 1 + 1 * r.val = r.val; omega
  | ⟨1, _⟩ => show win0_10.index t 1 * 128 + 1 * l.val = l.val; rw [e]; show 0 * 128 + 1 * l.val = l.val; omega

theorem in11 (r : Fin 1) (l : Fin 256) : iblk m c 11 t (ix2 r l) = V m c main_v80 (ix2 r l) := by
  obtain ⟨-, -, -, -, e, -, -, -, -, -⟩ := idx_whole t
  unfold iblk
  generalize V m c = v
  refine congrArg (v main_v80) (funext fun a => Fin.ext ?_)
  match a with
  | ⟨0, _⟩ => show win0_11.index t 0 * 1 + 1 * r.val = r.val; rw [e]; show 0 * 1 + 1 * r.val = r.val; omega
  | ⟨1, _⟩ => show win0_11.index t 1 * 256 + 1 * l.val = l.val; rw [e]; show 0 * 256 + 1 * l.val = l.val; omega

theorem in12 (r : Fin 1) (l : Fin 128) : iblk m c 12 t (ix2 r l) = V m c main_v52 (ix2 r l) := by
  obtain ⟨-, -, -, -, -, e, -, -, -, -⟩ := idx_whole t
  unfold iblk
  generalize V m c = v
  refine congrArg (v main_v52) (funext fun a => Fin.ext ?_)
  match a with
  | ⟨0, _⟩ => show win0_12.index t 0 * 1 + 1 * r.val = r.val; rw [e]; show 0 * 1 + 1 * r.val = r.val; omega
  | ⟨1, _⟩ => show win0_12.index t 1 * 128 + 1 * l.val = l.val; rw [e]; show 0 * 128 + 1 * l.val = l.val; omega

theorem in14 (r : Fin 1) (l : Fin 128) : iblk m c 14 t (ix2 r l) = V m c main_v62 (ix2 r l) := by
  obtain ⟨-, -, -, -, -, -, -, e, -, -⟩ := idx_whole t
  unfold iblk
  generalize V m c = v
  refine congrArg (v main_v62) (funext fun a => Fin.ext ?_)
  match a with
  | ⟨0, _⟩ => show win0_14.index t 0 * 1 + 1 * r.val = r.val; rw [e]; show 0 * 1 + 1 * r.val = r.val; omega
  | ⟨1, _⟩ => show win0_14.index t 1 * 128 + 1 * l.val = l.val; rw [e]; show 0 * 128 + 1 * l.val = l.val; omega

theorem in15 (r : Fin 1) (l : Fin 128) : iblk m c 15 t (ix2 r l) = V m c main_v68 (ix2 r l) := by
  obtain ⟨-, -, -, -, -, -, -, -, e, -⟩ := idx_whole t
  unfold iblk
  generalize V m c = v
  refine congrArg (v main_v68) (funext fun a => Fin.ext ?_)
  match a with
  | ⟨0, _⟩ => show win0_15.index t 0 * 1 + 1 * r.val = r.val; rw [e]; show 0 * 1 + 1 * r.val = r.val; omega
  | ⟨1, _⟩ => show win0_15.index t 1 * 128 + 1 * l.val = l.val; rw [e]; show 0 * 128 + 1 * l.val = l.val; omega

theorem in16 (r : Fin 128) (l : Fin 128) : iblk m c 16 t (ix2 r l) = V m c main_v74 (ix2 r l) := by
  obtain ⟨-, -, -, -, -, -, -, -, -, e⟩ := idx_whole t
  unfold iblk
  generalize V m c = v
  refine congrArg (v main_v74) (funext fun a => Fin.ext ?_)
  match a with
  | ⟨0, _⟩ => show win0_16.index t 0 * 128 + 1 * r.val = r.val; rw [e]; show 0 * 128 + 1 * r.val = r.val; omega
  | ⟨1, _⟩ => show win0_16.index t 1 * 128 + 1 * l.val = l.val; rw [e]; show 0 * 128 + 1 * l.val = l.val; omega

theorem in13 (h : Fin 16) (n : Fin 128) (l : Fin 256) : iblk m c 13 t (ix3 h n l) = V m c main_v56 (ix3 h n l) := by
  obtain ⟨-, -, -, -, -, -, e, -, -, -⟩ := idx_whole t
  unfold iblk
  generalize V m c = v
  refine congrArg (v main_v56) (funext fun a => Fin.ext ?_)
  match a with
  | ⟨0, _⟩ => show win0_13.index t 0 * 16 + 1 * h.val = h.val; rw [e]; show 0 * 16 + 1 * h.val = h.val; omega
  | ⟨1, _⟩ => show win0_13.index t 1 * 128 + 1 * n.val = n.val; rw [e]; show 0 * 128 + 1 * n.val = n.val; omega
  | ⟨2, _⟩ => show win0_13.index t 2 * 256 + 1 * l.val = l.val; rw [e]; show 0 * 256 + 1 * l.val = l.val; omega

end Cert.Mixer
-- ==== Proof.MixerRun.lean ====
/- The mixers' inputs, one grid point's body run whole: from its input blocks to the list of stores that each of its eight
   output blocks is left with. Everything below about the frame and about the values starts from this run. -/
module

public import proofs.«01_k».proof.Proof.Gen.Kernel9Ideal.Frame.Runs

@[expose] public section

set_option maxRecDepth 16384

noncomputable section

namespace Cert.Mixer

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the body has some three hundred memory operations, so the run's proof is a large term
set_option maxHeartbeats 4000000 in
/-- The stores that the body leaves in each output's block, last first, with the proof that the body, run on whole blocks
    (the inputs' at their contents, the outputs' at anything), ends with the inputs' as they were and each output's block
    with its stores made. -/
noncomputable def bodyRun (c : Dev nD) (i : grid0.Coords) (a1 : Memref sig .tc .vmem S320x1024 .f32) (h1 : a1.IsWhole) (a2 : Memref sig .tc .vmem
    S320x2048 .f32) (h2 : a2.IsWhole) (a3 : Memref sig .tc .vmem S320x128 .f32) (h3 : a3.IsWhole) (a4 : Memref sig .tc .vmem S320x128 .f32) (h4 :
    a4.IsWhole) (a5 : Memref sig .tc .vmem S320x128 .f32) (h5 : a5.IsWhole) (a6 : Memref sig .tc .vmem S320x128 .f32) (h6 : a6.IsWhole) (a7 : Memref
    sig .tc .vmem S320x128 .f32) (h7 : a7.IsWhole) (a8 : Memref sig .tc .vmem S1x768 .f32) (h8 : a8.IsWhole) (a9 : Memref sig .tc .vmem S768x4096
    .bf16) (h9 : a9.IsWhole) (a10 : Memref sig .tc .vmem S1x128 .f32) (h10 : a10.IsWhole) (a11 : Memref sig .tc .vmem S1x128 .f32) (h11 : a11.IsWhole)
    (a12 : Memref sig .tc .vmem S1x256 .f32) (h12 : a12.IsWhole) (a13 : Memref sig .tc .vmem S1x128 .f32) (h13 : a13.IsWhole) (a14 : Memref sig .tc
    .vmem S16x128x256 .bf16) (h14 : a14.IsWhole) (a15 : Memref sig .tc .vmem S1x128 .f32) (h15 : a15.IsWhole) (a16 : Memref sig .tc .vmem S1x128 .f32)
    (h16 : a16.IsWhole) (a17 : Memref sig .tc .vmem S128x128 .f32) (h17 : a17.IsWhole) (a18 : Memref sig .tc .vmem S320x256 .f32) (h18 : a18.IsWhole)
    (a19 : Memref sig .tc .vmem S320x128 .f32) (h19 : a19.IsWhole) (a20 : Memref sig .tc .vmem S320x128 .f32) (h20 : a20.IsWhole) (a21 : Memref sig
    .tc .vmem S320x384 .bf16) (h21 : a21.IsWhole) (a22 : Memref sig .tc .vmem S320x128 .bf16) (h22 : a22.IsWhole) (a23 : Memref sig .tc .vmem S320x128
    .bf16) (h23 : a23.IsWhole) (a24 : Memref sig .tc .vmem S16x320x384 .bf16) (h24 : a24.IsWhole) (a25 : Memref sig .tc .vmem S16x320x128 .bf16) (h25
    : a25.IsWhole)
    (x0 : Vec F S320x1024 .f32) (x1 : Vec F S320x2048 .f32) (x2 : Vec F S320x128 .f32) (x3 : Vec F S320x128 .f32) (x4 : Vec F S320x128 .f32) (x5 : Vec
        F S320x128 .f32) (x6 : Vec F S320x128 .f32) (x7 : Vec F S1x768 .f32) (x8 : Vec F S768x4096 .bf16) (x9 : Vec F S1x128 .f32) (x10 : Vec F S1x128
        .f32) (x11 : Vec F S1x256 .f32) (x12 : Vec F S1x128 .f32) (x13 : Vec F S16x128x256 .bf16) (x14 : Vec F S1x128 .f32) (x15 : Vec F S1x128 .f32)
        (x16 : Vec F S128x128 .f32) :
    Σ' (L17 : List (View.Piece (Elt F) S320x256 .f32)), Σ' (L18 : List (View.Piece (Elt F) S320x128 .f32)), Σ' (L19 : List (View.Piece (Elt F)
        S320x128 .f32)), Σ' (L20 : List (View.Piece (Elt F) S320x384 .bf16)), Σ' (L21 : List (View.Piece (Elt F) S320x128 .bf16)), Σ' (L22 : List
        (View.Piece (Elt F) S320x128 .bf16)), Σ' (L23 : List (View.Piece (Elt F) S16x320x384 .bf16)), { L24 : List (View.Piece (Elt F) S16x320x128
        .bf16) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c :
            Thread nD τ) a4 fullShare x3 ∗ owns (c : Thread nD τ) a5 fullShare x4 ∗ owns (c : Thread nD τ) a6 fullShare x5 ∗ owns (c : Thread nD τ) a7
            fullShare x6 ∗ owns (c : Thread nD τ) a8 fullShare x7 ∗ owns (c : Thread nD τ) a9 fullShare x8 ∗ owns (c : Thread nD τ) a10 fullShare x9 ∗
            owns (c : Thread nD τ) a11 fullShare x10 ∗ owns (c : Thread nD τ) a12 fullShare x11 ∗ owns (c : Thread nD τ) a13 fullShare x12 ∗ owns (c :
            Thread nD τ) a14 fullShare x13 ∗ owns (c : Thread nD τ) a15 fullShare x14 ∗ owns (c : Thread nD τ) a16 fullShare x15 ∗ owns (c : Thread nD
            τ) a17 fullShare x16 ∗ (∃ d, owns (c : Thread nD τ) a18 fullShare d) ∗ (∃ d, owns (c : Thread nD τ) a19 fullShare d) ∗ (∃ d, owns (c :
            Thread nD τ) a20 fullShare d) ∗ (∃ d, owns (c : Thread nD τ) a21 fullShare d) ∗ (∃ d, owns (c : Thread nD τ) a22 fullShare d) ∗ (∃ d, owns
            (c : Thread nD τ) a23 fullShare d) ∗ (∃ d, owns (c : Thread nD τ) a24 fullShare d) ∗ (∃ d, owns (c : Thread nD τ) a25 fullShare d)
            ∗ (iprop(owns (c : Thread nD τ) a1 fullShare x0 ∗ owns (c : Thread nD τ) a2 fullShare x1 ∗ owns (c : Thread nD τ) a3 fullShare x2 ∗ owns
                (c : Thread nD τ) a4 fullShare x3 ∗ owns (c : Thread nD τ) a5 fullShare x4 ∗ owns (c : Thread nD τ) a6 fullShare x5 ∗ owns (c : Thread
                nD τ) a7 fullShare x6 ∗ owns (c : Thread nD τ) a8 fullShare x7 ∗ owns (c : Thread nD τ) a9 fullShare x8 ∗ owns (c : Thread nD τ) a10
                fullShare x9 ∗ owns (c : Thread nD τ) a11 fullShare x10 ∗ owns (c : Thread nD τ) a12 fullShare x11 ∗ owns (c : Thread nD τ) a13
                fullShare x12 ∗ owns (c : Thread nD τ) a14 fullShare x13 ∗ owns (c : Thread nD τ) a15 fullShare x14 ∗ owns (c : Thread nD τ) a16
                fullShare x15 ∗ owns (c : Thread nD τ) a17 fullShare x16 ∗ (∃ f, a18.view.loc (c : Thread nD τ) ↦[a18.view.set]{fullShare}
                a18.view.writes (Elt F) f L17) ∗ (∃ f, a19.view.loc (c : Thread nD τ) ↦[a19.view.set]{fullShare} a19.view.writes (Elt F) f L18) ∗ (∃
                f, a20.view.loc (c : Thread nD τ) ↦[a20.view.set]{fullShare} a20.view.writes (Elt F) f L19) ∗ (∃ f, a21.view.loc (c : Thread nD τ)
                ↦[a21.view.set]{fullShare} a21.view.writes (Elt F) f L20) ∗ (∃ f, a22.view.loc (c : Thread nD τ) ↦[a22.view.set]{fullShare}
                a22.view.writes (Elt F) f L21) ∗ (∃ f, a23.view.loc (c : Thread nD τ) ↦[a23.view.set]{fullShare} a23.view.writes (Elt F) f L22) ∗ (∃
                f, a24.view.loc (c : Thread nD τ) ↦[a24.view.set]{fullShare} a24.view.writes (Elt F) f L23) ∗ (∃ f, a25.view.loc (c : Thread nD τ)
                ↦[a25.view.set]{fullShare} a25.view.writes (Elt F) f L24)) -∗ K ⟨⟩))
          ⊢ wp frame (wpE (defs₀ (F := F)) Variants.none c none) E (cc0_mixer_prep i a1 h1 a2 h2 a3 h3 a4 h4 a5 h5 a6 h6 a7 h7 a8 h8 a9 h9 a10 h10 a11
              h11 a12 h12 a13 h13 a14 h14 a15 h15 a16 h16 a17 h17 a18 h18 a19 h19 a20 h20 a21 h21 a22 h22 a23 h23 a24 h24 a25 h25) K } := by
  refine ⟨?_, ?_, ?_, ?_, ?_, ?_, ?_, ?_, fun E K => ?run⟩
  case run =>
    simp only [cc0_mixer_prep_eq_skeleton]; unfold cc0_mixer_prep_skel
    simp only [k0_part1_eq_skeleton, k0_part2_eq_skeleton, k0_part3_eq_skeleton, k0_part4_eq_skeleton, k0_part5_eq_skeleton, k0_part6_eq_skeleton,
        k0_part7_eq_skeleton, k0_part8_eq_skeleton, k0_part9_eq_skeleton, k0_part10_eq_skeleton, k0_part11_eq_skeleton, k0_part12_eq_skeleton,
        k0_part13_eq_skeleton, k0_part14_eq_skeleton, k0_part15_eq_skeleton, k0_part16_eq_skeleton, k0_part17_eq_skeleton, k0_part18_eq_skeleton,
        k0_part19_eq_skeleton, k0_part20_eq_skeleton, k0_part21_eq_skeleton, k0_part22_eq_skeleton, k0_part23_eq_skeleton, k0_part24_eq_skeleton,
        k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
        ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15,
        %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩,
        ⟨%d22, %f22, -, H22⟩, ⟨%d23, %f23, -, H23⟩, ⟨%d24, %f24, -, H24⟩, Hk⟩
    obtain rfl := h1.eq_unread hf0; obtain rfl := h2.eq_unread hf1; obtain rfl := h3.eq_unread hf2; obtain rfl := h4.eq_unread hf3; obtain rfl :=
        h5.eq_unread hf4; obtain rfl := h6.eq_unread hf5; obtain rfl := h7.eq_unread hf6; obtain rfl := h8.eq_unread hf7; obtain rfl := h9.eq_unread
        hf8; obtain rfl := h10.eq_unread hf9; obtain rfl := h11.eq_unread hf10; obtain rfl := h12.eq_unread hf11; obtain rfl := h13.eq_unread hf12;
        obtain rfl := h14.eq_unread hf13; obtain rfl := h15.eq_unread hf14; obtain rfl := h16.eq_unread hf15; obtain rfl := h17.eq_unread hf16
    sl_exec
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]
    · iexists _; isplitr; · ipureintro; exact h5.read_unread _
      iexact H4
    isplitl [H5]
    · iexists _; isplitr; · ipureintro; exact h6.read_unread _
      iexact H5
    isplitl [H6]
    · iexists _; isplitr; · ipureintro; exact h7.read_unread _
      iexact H6
    isplitl [H7]
    · iexists _; isplitr; · ipureintro; exact h8.read_unread _
      iexact H7
    isplitl [H8]
    · iexists _; isplitr; · ipureintro; exact h9.read_unread _
      iexact H8
    isplitl [H9]
    · iexists _; isplitr; · ipureintro; exact h10.read_unread _
      iexact H9
    isplitl [H10]
    · iexists _; isplitr; · ipureintro; exact h11.read_unread _
      iexact H10
    isplitl [H11]
    · iexists _; isplitr; · ipureintro; exact h12.read_unread _
      iexact H11
    isplitl [H12]
    · iexists _; isplitr; · ipureintro; exact h13.read_unread _
      iexact H12
    isplitl [H13]
    · iexists _; isplitr; · ipureintro; exact h14.read_unread _
      iexact H13
    isplitl [H14]
    · iexists _; isplitr; · ipureintro; exact h15.read_unread _
      iexact H14
    isplitl [H15]
    · iexists _; isplitr; · ipureintro; exact h16.read_unread _
      iexact H15
    isplitl [H16]
    · iexists _; isplitr; · ipureintro; exact h17.read_unread _
      iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    iexists _; iexact H24

end Cert.Mixer

end
-- ==== Proof.MixerFrame.lean ====
/- The mixers' inputs, the launch: the blocks that each grid point reads and leaves, the body's triple at a grid point, and
   from them the whole run: it ends, its arguments are unchanged, no semaphore is left counting, and each of the eight
   results is its array after the last write-back. -/
module

public import proofs.«01_k».proof.Proof.MixerRun
public import Idealize.ShloMosaic.Lib.Claim
public import Idealize.ShloMosaic.Lib.Pipeline.Value

@[expose] public section

set_option maxRecDepth 16384

noncomputable section

namespace Cert.Mixer

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body's run at grid point `t`, on the blocks it finds there. -/
def runAt (c : Dev nD) (t : Fin cfg0.N) :=
  bodyRun c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (ms0_9 t) (hs0_9 t) (ms0_10 t) (hs0_10 t) (ms0_11 t) (hs0_11 t) (ms0_12 t) (hs0_12
    t) (ms0_13 t) (hs0_13 t) (ms0_14 t) (hs0_14 t) (ms0_15 t) (hs0_15 t) (ms0_16 t) (hs0_16 t) (ms0_17 t) (hs0_17 t) (ms0_18 t) (hs0_18 t) (ms0_19
    t) (hs0_19 t) (ms0_20 t) (hs0_20 t) (ms0_21 t) (hs0_21 t) (ms0_22 t) (hs0_22 t) (ms0_23 t) (hs0_23 t) (ms0_24 t) (hs0_24 t) (X0_0 m c t) (X0_1 m
    c t) (iblk m c 2 t) (iblk m c 3 t) (iblk m c 4 t) (iblk m c 5 t) (iblk m c 6 t) (iblk m c 7 t) (iblk m c 8 t) (iblk m c 9 t) (iblk m c 10 t)
    (iblk m c 11 t) (iblk m c 12 t) (iblk m c 13 t) (iblk m c 14 t) (iblk m c 15 t) (iblk m c 16 t)

/-- The stores into output 0's block reach every index of it. -/
theorem covered_17 (c : Dev nD) (t : Fin cfg0.N) (y : S320x256.Idx) : ∃ p ∈ (runAt m c t).1, y ∈ p.1.set :=
  View.cover_of_tiledL (runAt m c t).1 S320x256.size (by sl_kernel_rfl) y

/-- The stores into output 1's block reach every index of it. -/
theorem covered_18 (c : Dev nD) (t : Fin cfg0.N) (y : S320x128.Idx) : ∃ p ∈ (runAt m c t).2.1, y ∈ p.1.set :=
  View.cover_of_tiledL (runAt m c t).2.1 S320x128.size (by sl_kernel_rfl) y

/-- The stores into output 2's block reach every index of it. -/
theorem covered_19 (c : Dev nD) (t : Fin cfg0.N) (y : S320x128.Idx) : ∃ p ∈ (runAt m c t).2.2.1, y ∈ p.1.set :=
  View.cover_of_tiledL (runAt m c t).2.2.1 S320x128.size (by sl_kernel_rfl) y

/-- The stores into output 3's block reach every index of it. -/
theorem covered_20 (c : Dev nD) (t : Fin cfg0.N) (y : S320x384.Idx) : ∃ p ∈ (runAt m c t).2.2.2.1, y ∈ p.1.set :=
  View.cover_of_tiledBy (runAt m c t).2.2.2.1 ![320, 128] (by sl_kernel_rfl) y

/-- The stores into output 4's block reach every index of it. -/
theorem covered_21 (c : Dev nD) (t : Fin cfg0.N) (y : S320x128.Idx) : ∃ p ∈ (runAt m c t).2.2.2.2.1, y ∈ p.1.set :=
  View.cover_of_tiledL (runAt m c t).2.2.2.2.1 S320x128.size (by sl_kernel_rfl) y

/-- The stores into output 5's block reach every index of it. -/
theorem covered_22 (c : Dev nD) (t : Fin cfg0.N) (y : S320x128.Idx) : ∃ p ∈ (runAt m c t).2.2.2.2.2.1, y ∈ p.1.set :=
  View.cover_of_tiledL (runAt m c t).2.2.2.2.2.1 S320x128.size (by sl_kernel_rfl) y

/-- The stores into output 6's block reach every index of it. -/
theorem covered_23 (c : Dev nD) (t : Fin cfg0.N) (y : S16x320x384.Idx) : ∃ p ∈ (runAt m c t).2.2.2.2.2.2.1, y ∈ p.1.set :=
  View.cover_of_tiledBy (runAt m c t).2.2.2.2.2.2.1 ![1, 320, 128] (by sl_kernel_rfl) y

/-- The stores into output 7's block reach every index of it. -/
theorem covered_24 (c : Dev nD) (t : Fin cfg0.N) (y : S16x320x128.Idx) : ∃ p ∈ (runAt m c t).2.2.2.2.2.2.2.1, y ∈ p.1.set :=
  View.cover_of_tiledL (runAt m c t).2.2.2.2.2.2.2.1 S1x320x128.size (by sl_kernel_rfl) y

/-- Output 0's block after the body at point `t`. -/
def out_17 (c : Dev nD) (t : Fin cfg0.N) : Vec F S320x256 .f32 :=
  VO0_17.read (Elt F) (VO0_17.writes (Elt F) VO0_17.junk (runAt m c t).1)

/-- Output 1's block after the body at point `t`. -/
def out_18 (c : Dev nD) (t : Fin cfg0.N) : Vec F S320x128 .f32 :=
  VO0_18.read (Elt F) (VO0_18.writes (Elt F) VO0_18.junk (runAt m c t).2.1)

/-- Output 2's block after the body at point `t`. -/
def out_19 (c : Dev nD) (t : Fin cfg0.N) : Vec F S320x128 .f32 :=
  VO0_19.read (Elt F) (VO0_19.writes (Elt F) VO0_19.junk (runAt m c t).2.2.1)

/-- Output 3's block after the body at point `t`. -/
def out_20 (c : Dev nD) (t : Fin cfg0.N) : Vec F S320x384 .bf16 :=
  VO0_20.read (Elt F) (VO0_20.writes (Elt F) VO0_20.junk (runAt m c t).2.2.2.1)

/-- Output 4's block after the body at point `t`. -/
def out_21 (c : Dev nD) (t : Fin cfg0.N) : Vec F S320x128 .bf16 :=
  VO0_21.read (Elt F) (VO0_21.writes (Elt F) VO0_21.junk (runAt m c t).2.2.2.2.1)

/-- Output 5's block after the body at point `t`. -/
def out_22 (c : Dev nD) (t : Fin cfg0.N) : Vec F S320x128 .bf16 :=
  VO0_22.read (Elt F) (VO0_22.writes (Elt F) VO0_22.junk (runAt m c t).2.2.2.2.2.1)

/-- Output 6's block after the body at point `t`. -/
def out_23 (c : Dev nD) (t : Fin cfg0.N) : Vec F S16x320x384 .bf16 :=
  VO0_23.read (Elt F) (VO0_23.writes (Elt F) VO0_23.junk (runAt m c t).2.2.2.2.2.2.1)

/-- Output 7's block after the body at point `t`. -/
def out_24 (c : Dev nD) (t : Fin cfg0.N) : Vec F S16x320x128 .bf16 :=
  VO0_24.read (Elt F) (VO0_24.writes (Elt F) VO0_24.junk (runAt m c t).2.2.2.2.2.2.2.1)

/-- The pipeline's data on a core: the arrays as the region finds them, each input's block as fetched, each output's as the
    body leaves it. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => out_17 m c t
    | ⟨18, _⟩ => out_18 m c t
    | ⟨19, _⟩ => out_19 m c t
    | ⟨20, _⟩ => out_20 m c t
    | ⟨21, _⟩ => out_21 m c t
    | ⟨22, _⟩ => out_22 m c t
    | ⟨23, _⟩ => out_23 m c t
    | ⟨24, _⟩ => out_24 m c t
    | ⟨_ + 25, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = X0_0 m c t := by dsimp only [dats]
theorem after_1 (c : Dev nD) (t : Fin cfg0.N) : (dats m 0 c).after 1 t = X0_1 m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = out_17 m c t := by dsimp only [dats]
theorem after_18 (c : Dev nD) (t : Fin cfg0.N) : (dats m 0 c).after 18 t = out_18 m c t := by dsimp only [dats]
theorem after_19 (c : Dev nD) (t : Fin cfg0.N) : (dats m 0 c).after 19 t = out_19 m c t := by dsimp only [dats]
theorem after_20 (c : Dev nD) (t : Fin cfg0.N) : (dats m 0 c).after 20 t = out_20 m c t := by dsimp only [dats]
theorem after_21 (c : Dev nD) (t : Fin cfg0.N) : (dats m 0 c).after 21 t = out_21 m c t := by dsimp only [dats]
theorem after_22 (c : Dev nD) (t : Fin cfg0.N) : (dats m 0 c).after 22 t = out_22 m c t := by dsimp only [dats]
theorem after_23 (c : Dev nD) (t : Fin cfg0.N) : (dats m 0 c).after 23 t = out_23 m c t := by dsimp only [dats]
theorem after_24 (c : Dev nD) (t : Fin cfg0.N) : (dats m 0 c).after 24 t = out_24 m c t := by dsimp only [dats]

theorem before_0 (c : Dev nD) (t : Fin cfg0.N) (d) : (dats m 0 c).before 0 t d = X0_0 m c t :=
  before0_0_of m (dats m 0 c) (A_eq m c 0) (after_0 m c) t d
theorem before_1 (c : Dev nD) (t : Fin cfg0.N) (d) : (dats m 0 c).before 1 t d = X0_1 m c t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d

/-- What the body is called with at point `t`: the blocks one by one. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t))

set_option maxHeartbeats 2400000 in
/-- The body at any point, by its run there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12,
    before_13, before_14, before_15, before_16]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14,
    after_15, after_16, after_17, after_18, after_19, after_20, after_21, after_22, after_23, after_24]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11,
    H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22,
    H22⟩, ⟨%d23, H23⟩, ⟨%d24, H24⟩⟩
  iapply ((runAt m c t).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  iintro ⟨H0, H1, H2, H3, H4, H5, H6, H7, H8, H9, H10, H11, H12, H13, H14, H15, H16, ⟨%e17, H17⟩, ⟨%e18, H18⟩, ⟨%e19, H19⟩, ⟨%e20, H20⟩, ⟨%e21, H21⟩,
    ⟨%e22, H22⟩, ⟨%e23, H23⟩, ⟨%e24, H24⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]
  · unfold owns; iexists _; isplitr
    swap; · iexact H17
    ipureintro; exact View.read_writes_of_cover _ _ _ _ _ (covered_17 m c t)
  isplitl [H18]
  · unfold owns; iexists _; isplitr
    swap; · iexact H18
    ipureintro; exact View.read_writes_of_cover _ _ _ _ _ (covered_18 m c t)
  isplitl [H19]
  · unfold owns; iexists _; isplitr
    swap; · iexact H19
    ipureintro; exact View.read_writes_of_cover _ _ _ _ _ (covered_19 m c t)
  isplitl [H20]
  · unfold owns; iexists _; isplitr
    swap; · iexact H20
    ipureintro; exact View.read_writes_of_cover _ _ _ _ _ (covered_20 m c t)
  isplitl [H21]
  · unfold owns; iexists _; isplitr
    swap; · iexact H21
    ipureintro; exact View.read_writes_of_cover _ _ _ _ _ (covered_21 m c t)
  isplitl [H22]
  · unfold owns; iexists _; isplitr
    swap; · iexact H22
    ipureintro; exact View.read_writes_of_cover _ _ _ _ _ (covered_22 m c t)
  isplitl [H23]
  · unfold owns; iexists _; isplitr
    swap; · iexact H23
    ipureintro; exact View.read_writes_of_cover _ _ _ _ _ (covered_23 m c t)
  unfold owns; iexists _; isplitr
  swap; · iexact H24
  ipureintro; exact View.read_writes_of_cover _ _ _ _ _ (covered_24 m c t)

/-- The body table's row at a point's slots is the body there. -/
theorem row_eq (t : Fin cfg0.N) : defs₀ (F := F) .tc cfg0.body (cfg0.bodyArgs t (cfg0.slots t)) = bodyAt0 t := by
  unfold defs₀; rw [Defs.onTc_tc]

set_option maxHeartbeats 2000000 in
/-- The body's obligation at every point. -/
theorem obligation (c : Dev nD) : BodyObligation (dats (F := F) m 0 c) (defs₀ (F := F)) Variants.none () Set.univ := fun t => by
  rw [bigSep_W0, bigSep_W0, row_eq]
  exact triple_restated (sound_body m c t) rfl .rfl fun _ => .rfl

set_option backward.isDefEq.respectTransparency.types false in
/-- The launch: every array of the pipeline ends at what its write-backs make of it, every other buffer as the region found
    it, and every semaphore's counter at zero. -/
theorem run_quiescent : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged and every counter at zero. -/
theorem frame_kernel : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_quiescent m ρ))

set_option maxHeartbeats 2000000 in
/-- The run's results: each output array after its last write-back, and the arguments unchanged. -/
theorem run_blocks : θ_run defs (onTc (τ := τ) (main (F := F))) ⟨m, fun _ => 0, ρ⟩ fun r => ∀ c : Dev nD,
      r.2.mem ((c : Thread nD τ).loc main_v81_0) = (dats m 0 c).arrAt 17 cfg0.N
      ∧ r.2.mem ((c : Thread nD τ).loc main_v81_1) = (dats m 0 c).arrAt 18 cfg0.N
      ∧ r.2.mem ((c : Thread nD τ).loc main_v81_2) = (dats m 0 c).arrAt 19 cfg0.N
      ∧ r.2.mem ((c : Thread nD τ).loc main_v81_3) = (dats m 0 c).arrAt 20 cfg0.N
      ∧ r.2.mem ((c : Thread nD τ).loc main_v81_4) = (dats m 0 c).arrAt 21 cfg0.N
      ∧ r.2.mem ((c : Thread nD τ).loc main_v81_5) = (dats m 0 c).arrAt 22 cfg0.N
      ∧ r.2.mem ((c : Thread nD τ).loc main_v81_6) = (dats m 0 c).arrAt 23 cfg0.N
      ∧ r.2.mem ((c : Thread nD τ).loc main_v81_7) = (dats m 0 c).arrAt 24 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1 17, (h c).1 18, (h c).1 19, (h c).1 20, (h c).1 21, (h c).1 22, (h c).1 23, (h c).1 24,
      ((h c).1 4).trans (((dats m 0 c).arrAt_in 4 rfl _).trans ((A_eq m c 4).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) (run_main m ρ)

end Cert.Mixer

end
-- ==== Proof.MixerBlocks.lean ====
/- The mixers' inputs, one grid point: what the body leaves in each of its eight output blocks, at an index, as a function
   of the rows of the input blocks. -/
module

public import proofs.«01_k».proof.Proof.MixerRows
public import proofs.«01_k».proof.Proof.MixerFrame
public import Idealize.ShloMosaic.Lib.Pipeline.ReadBack

@[expose] public section

noncomputable section

namespace Cert.Mixer

open Idealize.ShloMosaic Idealize.ShloMosaic.TcCoe Idealize.SL.Sem Cert.Kernel9Ideal Cert.Kernel9Ideal.Gen

theorem hz2 : (![0, 0] : Fin 2 → Nat) = fun _ => 0 := funext fun a => by fin_cases a <;> rfl

variable (m : (ℓ : Loc nD τ sig) → Buf (Elt Ideal) ℓ) (c : Dev nD) (t : Fin cfg0.N)

/-- The latent's and the shared key's rows, on the point's blocks. -/
def latentRow (r : Fin 320) (q : Fin 256) : EReal :=
  normed (Ideal.ofBits .f32 0x43800000#32) (fun k => X0_0 m c t (ix2 r ⟨768 + k, by omega⟩)) (fun k => iblk m c 11 t (ix2 0 k)) q

def keyRow (r : Fin 320) (q : Fin 128) : EReal :=
  sharedKey (fun l => iblk m c 5 t (ix2 r l)) (fun l => iblk m c 6 t (ix2 r l)) (fun l => iblk m c 4 t (ix2 r l)) (fun l => iblk m c 12 t (ix2 0 l)) q

set_option maxHeartbeats 1000000 in
/-- The latent's block. -/
theorem block_17 (r : Fin 320) (q : Fin 256) : View.canon (runAt m c t).1 (ix2 r q) = latentRow m c t r q := by
  unfold runAt bodyRun
  dsimp only
  sl_unfold_words
  rw [View.canon_unit_zero hz2]
  simp only [View.readAt_eq_ld, (hs0_0 t).read_unread, (hs0_11 t).read_unread, View.ld_unit_zero (S := S1x256) hz2]
  exact latent_row _ _ _ (fun r k => latent_load (X0_0 m c t) r k inb_S320x1024_S320x256_0_768) r q

set_option maxHeartbeats 1000000 in
/-- The shared key's block. -/
theorem block_18 (r : Fin 320) (q : Fin 128) : View.canon (runAt m c t).2.1 (ix2 r q) = keyRow m c t r q := by
  unfold runAt bodyRun
  dsimp only
  sl_unfold_words
  rw [View.canon_unit_zero hz2]
  simp only [View.readAt_eq_ld, (hs0_4 t).read_unread, (hs0_5 t).read_unread, (hs0_6 t).read_unread, (hs0_12 t).read_unread, View.ld_unit_zero (S := S320x128) hz2, View.ld_unit_zero (S := S1x128) hz2]
  rw [pay2_eq, pay3_eq]
  exact sharedKey_apply _ _ _ _ r q

set_option maxHeartbeats 1000000 in
/-- The differential mixer's key block. -/
theorem block_19 (r : Fin 320) (q : Fin 128) : View.canon (runAt m c t).2.2.1 (ix2 r q) = halves (fun k l => iblk m c 16 t (ix2 k l)) (fun l => iblk m c 2 t (ix2 r l)) (fun l => iblk m c 15 t (ix2 0 l)) q := by
  unfold runAt bodyRun
  dsimp only
  sl_unfold_words
  rw [View.canon_unit_zero hz2]
  simp only [View.readAt_eq_ld, (hs0_2 t).read_unread, (hs0_15 t).read_unread, (hs0_16 t).read_unread, View.ld_unit_zero (S := S320x128) hz2, View.ld_unit_zero (S := S1x128) hz2, View.ld_unit_zero (S := S128x128) hz2]
  rw [halves_apply]
  rfl

set_option maxHeartbeats 1000000 in
/-- The same block in its narrower type. -/
theorem block_21 (r : Fin 320) (q : Fin 128) : View.canon (runAt m c t).2.2.2.2.1 (ix2 r q) = halves (fun k l => iblk m c 16 t (ix2 k l)) (fun l => iblk m c 2 t (ix2 r l)) (fun l => iblk m c 15 t (ix2 0 l)) q := by
  unfold runAt bodyRun
  dsimp only
  sl_unfold_words
  rw [View.canon_unit_zero hz2]
  simp only [View.readAt_eq_ld, (hs0_2 t).read_unread, (hs0_15 t).read_unread, (hs0_16 t).read_unread, View.ld_unit_zero (S := S320x128) hz2, View.ld_unit_zero (S := S1x128) hz2, View.ld_unit_zero (S := S128x128) hz2]
  exact halves_apply _ _ _ r q

set_option maxHeartbeats 1000000 in
/-- The differential mixer's value block is its input's. -/
theorem block_22 (r : Fin 320) (q : Fin 128) : View.canon (runAt m c t).2.2.2.2.2.1 (ix2 r q) = iblk m c 3 t (ix2 r q) := by
  unfold runAt bodyRun
  dsimp only
  sl_unfold_words
  rw [View.canon_unit_zero hz2]
  simp only [View.readAt_eq_ld, (hs0_3 t).read_unread, View.ld_unit_zero (S := S320x128) hz2, View.ld_unit_zero (S := S1x128) hz2]
  rfl

set_option maxHeartbeats 2000000 in
/-- The stacked keys' block: the latent, then the shared key. -/
theorem block_20 (y : S320x384.Idx) : View.canon (runAt m c t).2.2.2.1 y
    = stackedBlock (latentRow m c t) (keyRow m c t) y := by
  refine View.canon_apply_of_pieces (stackedBlock (latentRow m c t) (keyRow m c t)) _ (View.PiecesOf.mem ?_) _
    (covered_20 m c t _)
  unfold runAt bodyRun
  dsimp only
  sl_unfold_words
  simp only [View.readAt_eq_ld, (hs0_0 t).read_unread, (hs0_4 t).read_unread, (hs0_5 t).read_unread, (hs0_6 t).read_unread, (hs0_11 t).read_unread, (hs0_12 t).read_unread, View.ld_unit_zero (S := S1x256) hz2, View.ld_unit_zero (S := S320x128) hz2, View.ld_unit_zero (S := S1x128) hz2]
  refine ⟨fun x => ?_, fun x => ?_, trivial⟩
  · exact stacked_high (latentRow m c t) (keyRow m c t) (k0_pay8 (k0_pay2 (iblk m c 5 t)) (k0_pay3 (iblk m c 6 t)) (k0_pay5 (iblk m c 4 t)) (iblk m c 12 t))
      (fun r q => sharedKey_stored (iblk m c 5 t) (iblk m c 6 t) (iblk m c 4 t) (iblk m c 12 t) r q) inb_S320x384_S320x128_0_256 x
  · exact stacked_low (latentRow m c t) (keyRow m c t)
      (k0_pay7 (k0_pay4 (View.ld (X0_0 m c t) (Rect.unit (s := S320x1024) ![0, 768] ![320, 256] inb_S320x1024_S320x256_0_768)) (iblk m c 11 t)))
      (fun r q => latent_stored (X0_0 m c t) _ (iblk m c 11 t) (fun r k => latent_load (X0_0 m c t) r k inb_S320x1024_S320x256_0_768) r q) inb_S320x384_S320x256_0_0 x

set_option maxHeartbeats 4000000 in
/-- The queries' block. -/
theorem block_23_cast (y : S16x320x384.Idx) : View.canon (runAt m c t).2.2.2.2.2.2.1 y
    = queries (k0_pay2 (iblk m c 5 t)) (k0_pay3 (iblk m c 6 t)) (k0_pay37 (iblk m c 9 t)) (k0_pay38 (iblk m c 10 t)) (iblk m c 13 t)
        (upBlock (X0_0 m c t) (iblk m c 7 t) (iblk m c 8 t)) y := by
  unfold upBlock
  refine View.canon_apply_of_pieces _ _ (View.PiecesOf.mem ?_) _ (covered_23 m c t _)
  unfold runAt bodyRun
  dsimp only
  sl_unfold_words
  simp only [View.readAt_eq_ld, (hs0_0 t).read_unread, (hs0_5 t).read_unread, (hs0_6 t).read_unread, (hs0_7 t).read_unread, (hs0_8 t).read_unread, (hs0_9 t).read_unread, (hs0_10 t).read_unread, (hs0_13 t).read_unread, View.ld_unit_zero (S := S320x128) hz2, View.ld_unit_zero (S := S1x128) hz2, View.ld_unit_zero (S := S1x768) hz2, View.ld_unit_zero (S := S768x4096) hz2]
  generalize k0_pay36 (F := Ideal) _ _ _ = u
  generalize iblk m c 5 t = x5, iblk m c 6 t = x6, iblk m c 9 t = x9, iblk m c 10 t = x10, iblk m c 13 t = x13
  refine ⟨fun x => turned_piece 15 (by norm_num) (k0_pay2 x5) (k0_pay3 x6) u (k0_pay37 x9) (k0_pay38 x10) x13 slices_S320x4096_o0_1920_S320x128
      slices_S320x4096_o0_3968_S320x128 inb_S16x320x384_S1x320x128_15_0_256 x,
    fun x => latent_piece 15 (by norm_num) (k0_pay2 x5) (k0_pay3 x6) u (k0_pay37 x9) (k0_pay38 x10) x13 _ (fun k q => slab_load x13 15 (by norm_num) k q inb_S16x128x256_S1x128x256_15_0_0) slices_S320x4096_o0_1920_S320x128
      slices_S320x4096_o0_3968_S320x128 inb_S16x320x384_S1x320x256_15_0_0 x,
    fun x => turned_piece 14 (by norm_num) (k0_pay2 x5) (k0_pay3 x6) u (k0_pay37 x9) (k0_pay38 x10) x13 slices_S320x4096_o0_1792_S320x128
      slices_S320x4096_o0_3840_S320x128 inb_S16x320x384_S1x320x128_14_0_256 x,
    fun x => latent_piece 14 (by norm_num) (k0_pay2 x5) (k0_pay3 x6) u (k0_pay37 x9) (k0_pay38 x10) x13 _ (fun k q => slab_load x13 14 (by norm_num) k q inb_S16x128x256_S1x128x256_14_0_0) slices_S320x4096_o0_1792_S320x128
      slices_S320x4096_o0_3840_S320x128 inb_S16x320x384_S1x320x256_14_0_0 x,
    fun x => turned_piece 13 (by norm_num) (k0_pay2 x5) (k0_pay3 x6) u (k0_pay37 x9) (k0_pay38 x10) x13 slices_S320x4096_o0_1664_S320x128
      slices_S320x4096_o0_3712_S320x128 inb_S16x320x384_S1x320x128_13_0_256 x,
    fun x => latent_piece 13 (by norm_num) (k0_pay2 x5) (k0_pay3 x6) u (k0_pay37 x9) (k0_pay38 x10) x13 _ (fun k q => slab_load x13 13 (by norm_num) k q inb_S16x128x256_S1x128x256_13_0_0) slices_S320x4096_o0_1664_S320x128
      slices_S320x4096_o0_3712_S320x128 inb_S16x320x384_S1x320x256_13_0_0 x,
    fun x => turned_piece 12 (by norm_num) (k0_pay2 x5) (k0_pay3 x6) u (k0_pay37 x9) (k0_pay38 x10) x13 slices_S320x4096_o0_1536_S320x128
      slices_S320x4096_o0_3584_S320x128 inb_S16x320x384_S1x320x128_12_0_256 x,
    fun x => latent_piece 12 (by norm_num) (k0_pay2 x5) (k0_pay3 x6) u (k0_pay37 x9) (k0_pay38 x10) x13 _ (fun k q => slab_load x13 12 (by norm_num) k q inb_S16x128x256_S1x128x256_12_0_0) slices_S320x4096_o0_1536_S320x128
      slices_S320x4096_o0_3584_S320x128 inb_S16x320x384_S1x320x256_12_0_0 x,
    fun x => turned_piece 11 (by norm_num) (k0_pay2 x5) (k0_pay3 x6) u (k0_pay37 x9) (k0_pay38 x10) x13 slices_S320x4096_o0_1408_S320x128
      slices_S320x4096_o0_3456_S320x128 inb_S16x320x384_S1x320x128_11_0_256 x,
    fun x => latent_piece 11 (by norm_num) (k0_pay2 x5) (k0_pay3 x6) u (k0_pay37 x9) (k0_pay38 x10) x13 _ (fun k q => slab_load x13 11 (by norm_num) k q inb_S16x128x256_S1x128x256_11_0_0) slices_S320x4096_o0_1408_S320x128
      slices_S320x4096_o0_3456_S320x128 inb_S16x320x384_S1x320x256_11_0_0 x,
    fun x => turned_piece 10 (by norm_num) (k0_pay2 x5) (k0_pay3 x6) u (k0_pay37 x9) (k0_pay38 x10) x13 slices_S320x4096_o0_1280_S320x128
      slices_S320x4096_o0_3328_S320x128 inb_S16x320x384_S1x320x128_10_0_256 x,
    fun x => latent_piece 10 (by norm_num) (k0_pay2 x5) (k0_pay3 x6) u (k0_pay37 x9) (k0_pay38 x10) x13 _ (fun k q => slab_load x13 10 (by norm_num) k q inb_S16x128x256_S1x128x256_10_0_0) slices_S320x4096_o0_1280_S320x128
      slices_S320x4096_o0_3328_S320x128 inb_S16x320x384_S1x320x256_10_0_0 x,
    fun x => turned_piece 9 (by norm_num) (k0_pay2 x5) (k0_pay3 x6) u (k0_pay37 x9) (k0_pay38 x10) x13 slices_S320x4096_o0_1152_S320x128
      slices_S320x4096_o0_3200_S320x128 inb_S16x320x384_S1x320x128_9_0_256 x,
    fun x => latent_piece 9 (by norm_num) (k0_pay2 x5) (k0_pay3 x6) u (k0_pay37 x9) (k0_pay38 x10) x13 _ (fun k q => slab_load x13 9 (by norm_num) k q inb_S16x128x256_S1x128x256_9_0_0) slices_S320x4096_o0_1152_S320x128
      slices_S320x4096_o0_3200_S320x128 inb_S16x320x384_S1x320x256_9_0_0 x,
    fun x => turned_piece 8 (by norm_num) (k0_pay2 x5) (k0_pay3 x6) u (k0_pay37 x9) (k0_pay38 x10) x13 slices_S320x4096_o0_1024_S320x128
      slices_S320x4096_o0_3072_S320x128 inb_S16x320x384_S1x320x128_8_0_256 x,
    fun x => latent_piece 8 (by norm_num) (k0_pay2 x5) (k0_pay3 x6) u (k0_pay37 x9) (k0_pay38 x10) x13 _ (fun k q => slab_load x13 8 (by norm_num) k q inb_S16x128x256_S1x128x256_8_0_0) slices_S320x4096_o0_1024_S320x128
      slices_S320x4096_o0_3072_S320x128 inb_S16x320x384_S1x320x256_8_0_0 x,
    fun x => turned_piece 7 (by norm_num) (k0_pay2 x5) (k0_pay3 x6) u (k0_pay37 x9) (k0_pay38 x10) x13 slices_S320x4096_o0_896_S320x128
      slices_S320x4096_o0_2944_S320x128 inb_S16x320x384_S1x320x128_7_0_256 x,
    fun x => latent_piece 7 (by norm_num) (k0_pay2 x5) (k0_pay3 x6) u (k0_pay37 x9) (k0_pay38 x10) x13 _ (fun k q => slab_load x13 7 (by norm_num) k q inb_S16x128x256_S1x128x256_7_0_0) slices_S320x4096_o0_896_S320x128
      slices_S320x4096_o0_2944_S320x128 inb_S16x320x384_S1x320x256_7_0_0 x,
    fun x => turned_piece 6 (by norm_num) (k0_pay2 x5) (k0_pay3 x6) u (k0_pay37 x9) (k0_pay38 x10) x13 slices_S320x4096_o0_768_S320x128
      slices_S320x4096_o0_2816_S320x128 inb_S16x320x384_S1x320x128_6_0_256 x,
    fun x => latent_piece 6 (by norm_num) (k0_pay2 x5) (k0_pay3 x6) u (k0_pay37 x9) (k0_pay38 x10) x13 _ (fun k q => slab_load x13 6 (by norm_num) k q inb_S16x128x256_S1x128x256_6_0_0) slices_S320x4096_o0_768_S320x128
      slices_S320x4096_o0_2816_S320x128 inb_S16x320x384_S1x320x256_6_0_0 x,
    fun x => turned_piece 5 (by norm_num) (k0_pay2 x5) (k0_pay3 x6) u (k0_pay37 x9) (k0_pay38 x10) x13 slices_S320x4096_o0_640_S320x128
      slices_S320x4096_o0_2688_S320x128 inb_S16x320x384_S1x320x128_5_0_256 x,
    fun x => latent_piece 5 (by norm_num) (k0_pay2 x5) (k0_pay3 x6) u (k0_pay37 x9) (k0_pay38 x10) x13 _ (fun k q => slab_load x13 5 (by norm_num) k q inb_S16x128x256_S1x128x256_5_0_0) slices_S320x4096_o0_640_S320x128
      slices_S320x4096_o0_2688_S320x128 inb_S16x320x384_S1x320x256_5_0_0 x,
    fun x => turned_piece 4 (by norm_num) (k0_pay2 x5) (k0_pay3 x6) u (k0_pay37 x9) (k0_pay38 x10) x13 slices_S320x4096_o0_512_S320x128
      slices_S320x4096_o0_2560_S320x128 inb_S16x320x384_S1x320x128_4_0_256 x,
    fun x => latent_piece 4 (by norm_num) (k0_pay2 x5) (k0_pay3 x6) u (k0_pay37 x9) (k0_pay38 x10) x13 _ (fun k q => slab_load x13 4 (by norm_num) k q inb_S16x128x256_S1x128x256_4_0_0) slices_S320x4096_o0_512_S320x128
      slices_S320x4096_o0_2560_S320x128 inb_S16x320x384_S1x320x256_4_0_0 x,
    fun x => turned_piece 3 (by norm_num) (k0_pay2 x5) (k0_pay3 x6) u (k0_pay37 x9) (k0_pay38 x10) x13 slices_S320x4096_o0_384_S320x128
      slices_S320x4096_o0_2432_S320x128 inb_S16x320x384_S1x320x128_3_0_256 x,
    fun x => latent_piece 3 (by norm_num) (k0_pay2 x5) (k0_pay3 x6) u (k0_pay37 x9) (k0_pay38 x10) x13 _ (fun k q => slab_load x13 3 (by norm_num) k q inb_S16x128x256_S1x128x256_3_0_0) slices_S320x4096_o0_384_S320x128
      slices_S320x4096_o0_2432_S320x128 inb_S16x320x384_S1x320x256_3_0_0 x,
    fun x => turned_piece 2 (by norm_num) (k0_pay2 x5) (k0_pay3 x6) u (k0_pay37 x9) (k0_pay38 x10) x13 slices_S320x4096_o0_256_S320x128
      slices_S320x4096_o0_2304_S320x128 inb_S16x320x384_S1x320x128_2_0_256 x,
    fun x => latent_piece 2 (by norm_num) (k0_pay2 x5) (k0_pay3 x6) u (k0_pay37 x9) (k0_pay38 x10) x13 _ (fun k q => slab_load x13 2 (by norm_num) k q inb_S16x128x256_S1x128x256_2_0_0) slices_S320x4096_o0_256_S320x128
      slices_S320x4096_o0_2304_S320x128 inb_S16x320x384_S1x320x256_2_0_0 x,
    fun x => turned_piece 1 (by norm_num) (k0_pay2 x5) (k0_pay3 x6) u (k0_pay37 x9) (k0_pay38 x10) x13 slices_S320x4096_o0_128_S320x128
      slices_S320x4096_o0_2176_S320x128 inb_S16x320x384_S1x320x128_1_0_256 x,
    fun x => latent_piece 1 (by norm_num) (k0_pay2 x5) (k0_pay3 x6) u (k0_pay37 x9) (k0_pay38 x10) x13 _ (fun k q => slab_load x13 1 (by norm_num) k q inb_S16x128x256_S1x128x256_1_0_0) slices_S320x4096_o0_128_S320x128
      slices_S320x4096_o0_2176_S320x128 inb_S16x320x384_S1x320x256_1_0_0 x,
    fun x => turned_piece 0 (by norm_num) (k0_pay2 x5) (k0_pay3 x6) u (k0_pay37 x9) (k0_pay38 x10) x13 slices_S320x4096_o0_0_S320x128
      slices_S320x4096_o0_2048_S320x128 inb_S16x320x384_S1x320x128_0_0_256 x,
    fun x => latent_piece 0 (by norm_num) (k0_pay2 x5) (k0_pay3 x6) u (k0_pay37 x9) (k0_pay38 x10) x13 _ (fun k q => slab_load x13 0 (by norm_num) k q inb_S16x128x256_S1x128x256_0_0_0) slices_S320x4096_o0_0_S320x128
      slices_S320x4096_o0_2048_S320x128 inb_S16x320x384_S1x320x256_0_0_0 x, trivial⟩

set_option maxHeartbeats 4000000 in
/-- The differential queries' block. -/
theorem block_24_cast (y : S16x320x128.Idx) : View.canon (runAt m c t).2.2.2.2.2.2.2.1 y
    = halfQueries (k0_pay9 (iblk m c 16 t)) (iblk m c 14 t) (X0_1 m c t) y := by
  refine View.canon_apply_of_pieces _ _ (View.PiecesOf.mem ?_) _ (covered_24 m c t _)
  unfold runAt bodyRun
  dsimp only
  sl_unfold_words
  simp only [View.readAt_eq_ld, (hs0_1 t).read_unread, (hs0_14 t).read_unread, (hs0_16 t).read_unread, View.ld_unit_zero (S := S1x128) hz2, View.ld_unit_zero (S := S128x128) hz2]
  generalize iblk m c 16 t = x16, iblk m c 14 t = x14, X0_1 m c t = x1
  refine ⟨fun x => halves_piece 15 (by norm_num) (k0_pay9 x16) x14 x1 _ (fun r l => head_load x1 15 (by norm_num) r l inb_S320x2048_S320x128_0_1920) inb_S16x320x128_S1x320x128_15_0_0 x,
    fun x => halves_piece 14 (by norm_num) (k0_pay9 x16) x14 x1 _ (fun r l => head_load x1 14 (by norm_num) r l inb_S320x2048_S320x128_0_1792) inb_S16x320x128_S1x320x128_14_0_0 x,
    fun x => halves_piece 13 (by norm_num) (k0_pay9 x16) x14 x1 _ (fun r l => head_load x1 13 (by norm_num) r l inb_S320x2048_S320x128_0_1664) inb_S16x320x128_S1x320x128_13_0_0 x,
    fun x => halves_piece 12 (by norm_num) (k0_pay9 x16) x14 x1 _ (fun r l => head_load x1 12 (by norm_num) r l inb_S320x2048_S320x128_0_1536) inb_S16x320x128_S1x320x128_12_0_0 x,
    fun x => halves_piece 11 (by norm_num) (k0_pay9 x16) x14 x1 _ (fun r l => head_load x1 11 (by norm_num) r l inb_S320x2048_S320x128_0_1408) inb_S16x320x128_S1x320x128_11_0_0 x,
    fun x => halves_piece 10 (by norm_num) (k0_pay9 x16) x14 x1 _ (fun r l => head_load x1 10 (by norm_num) r l inb_S320x2048_S320x128_0_1280) inb_S16x320x128_S1x320x128_10_0_0 x,
    fun x => halves_piece 9 (by norm_num) (k0_pay9 x16) x14 x1 _ (fun r l => head_load x1 9 (by norm_num) r l inb_S320x2048_S320x128_0_1152) inb_S16x320x128_S1x320x128_9_0_0 x,
    fun x => halves_piece 8 (by norm_num) (k0_pay9 x16) x14 x1 _ (fun r l => head_load x1 8 (by norm_num) r l inb_S320x2048_S320x128_0_1024) inb_S16x320x128_S1x320x128_8_0_0 x,
    fun x => halves_piece 7 (by norm_num) (k0_pay9 x16) x14 x1 _ (fun r l => head_load x1 7 (by norm_num) r l inb_S320x2048_S320x128_0_896) inb_S16x320x128_S1x320x128_7_0_0 x,
    fun x => halves_piece 6 (by norm_num) (k0_pay9 x16) x14 x1 _ (fun r l => head_load x1 6 (by norm_num) r l inb_S320x2048_S320x128_0_768) inb_S16x320x128_S1x320x128_6_0_0 x,
    fun x => halves_piece 5 (by norm_num) (k0_pay9 x16) x14 x1 _ (fun r l => head_load x1 5 (by norm_num) r l inb_S320x2048_S320x128_0_640) inb_S16x320x128_S1x320x128_5_0_0 x,
    fun x => halves_piece 4 (by norm_num) (k0_pay9 x16) x14 x1 _ (fun r l => head_load x1 4 (by norm_num) r l inb_S320x2048_S320x128_0_512) inb_S16x320x128_S1x320x128_4_0_0 x,
    fun x => halves_piece 3 (by norm_num) (k0_pay9 x16) x14 x1 _ (fun r l => head_load x1 3 (by norm_num) r l inb_S320x2048_S320x128_0_384) inb_S16x320x128_S1x320x128_3_0_0 x,
    fun x => halves_piece 2 (by norm_num) (k0_pay9 x16) x14 x1 _ (fun r l => head_load x1 2 (by norm_num) r l inb_S320x2048_S320x128_0_256) inb_S16x320x128_S1x320x128_2_0_0 x,
    fun x => halves_piece 1 (by norm_num) (k0_pay9 x16) x14 x1 _ (fun r l => head_load x1 1 (by norm_num) r l inb_S320x2048_S320x128_0_128) inb_S16x320x128_S1x320x128_1_0_0 x,
    fun x => halves_piece 0 (by norm_num) (k0_pay9 x16) x14 x1 _ (fun r l => head_load x1 0 (by norm_num) r l inb_S320x2048_S320x128_0_0) inb_S16x320x128_S1x320x128_0_0_0 x, trivial⟩

theorem block_23 (y : S16x320x384.Idx) : View.canon (runAt m c t).2.2.2.2.2.2.1 y
    = queries (iblk m c 5 t) (iblk m c 6 t) (iblk m c 9 t) (iblk m c 10 t) (iblk m c 13 t) (upBlock (X0_0 m c t) (iblk m c 7 t) (iblk m c 8 t)) y := by
  rw [block_23_cast, pay2_eq, pay3_eq, pay37_eq, pay38_eq]

theorem block_24 (y : S16x320x128.Idx) : View.canon (runAt m c t).2.2.2.2.2.2.2.1 y
    = halfQueries (iblk m c 16 t) (iblk m c 14 t) (X0_1 m c t) y := by
  rw [block_24_cast, pay9_eq]

end Cert.Mixer
-- ==== Proof.MixerMatch.lean ====
/- The mixers' inputs, one grid point: the rows the body leaves are the reference's rows. -/
module

public import proofs.«01_k».proof.Proof.MixerAgree
public import proofs.«01_k».proof.Proof.MixerWindows
public import proofs.«01_k».proof.Proof.MixerBlocks

@[expose] public section

noncomputable section

namespace Cert.Mixer

open Idealize.ShloMosaic Idealize.ShloMosaic.TcCoe Idealize.SL.Sem Cert.Kernel9Ideal Cert.Kernel9Ideal.Gen Cert.Reference9Ideal.Read

variable (m : (ℓ : Loc nD τ sig) → Buf (Elt Ideal) ℓ) (c : Dev nD) (t : Fin cfg0.N)

/-- The arguments. -/
abbrev arg0 : Vec Ideal S8320x22016 .f32 := m ((c : Thread nD τ).loc main_arg0)
abbrev arg1 : Vec Ideal S2x768 .f32 := m ((c : Thread nD τ).loc main_arg1)
abbrev arg2 : Vec Ideal S2x768x3072 .f32 := m ((c : Thread nD τ).loc main_arg2)
abbrev arg3 : Vec Ideal S2x192 .f32 := m ((c : Thread nD τ).loc main_arg3)
abbrev arg4 : Vec Ideal S2x256 .f32 := m ((c : Thread nD τ).loc main_arg4)
abbrev arg5 : Vec Ideal S2x64 .f32 := m ((c : Thread nD τ).loc main_arg5)
abbrev arg6 : Vec Ideal S2x256x16x128 .f32 := m ((c : Thread nD τ).loc main_arg6)
abbrev arg7 : Vec Ideal S2x64 .f32 := m ((c : Thread nD τ).loc main_arg7)
abbrev arg8 : Vec Ideal S2x64 .f32 := m ((c : Thread nD τ).loc main_arg8)

theorem col_eq (x : Vec Ideal S8320x22016 .f32) (r : Fin 8320) {a b : ℕ} (ha : a < 22016) (hb : b < 22016) (h : a = b) :
    x (ix2 r ⟨a, ha⟩) = x (ix2 r ⟨b, hb⟩) := by subst h; rfl

theorem cos_row (r : Fin 320) (l : Fin 128) : iblk m c 5 t (ix2 r l) = if h : (l : ℕ) < 32 then Ref.cosines (rowOf t r) ⟨l, h⟩
    else if h : (l : ℕ) - 32 < 32 then Ref.cosines (rowOf t r) ⟨l - 32, h⟩ else 0 :=
  (in5 m c t r l).trans (prep5_apply m c (rowOf t r) l)

theorem sin_row (r : Fin 320) (l : Fin 128) : iblk m c 6 t (ix2 r l) = if h : (l : ℕ) < 32 then -Ref.sines (rowOf t r) ⟨l, h⟩
    else if h : (l : ℕ) - 32 < 32 then Ref.sines (rowOf t r) ⟨l - 32, h⟩ else 0 :=
  (in6 m c t r l).trans (prep6_apply m c (rowOf t r) l)

theorem latentRow_eq (r : Fin 320) (q : Fin 256) :
    latentRow m c t r q = val_main_v95 (F := Ideal) (arg0 m c) (arg4 m c) (ix2 (rowOf t r) q) := by
  rw [Ref.latent]
  unfold latentRow
  refine congrArg₂ (fun x g => normed _ x g q) (funext fun k => ?_) (funext fun k => ?_)
  · exact (in0 m c t r _).trans (col_eq _ _ _ _ (by simp only []; omega))
  · exact (in11 m c t 0 k).trans (prep11_apply m c k)

theorem keyRow_eq (r : Fin 320) (q : Fin 128) :
    keyRow m c t r q = val_main_v159 (F := Ideal) (arg0 m c) (arg5 m c) (ix2 (rowOf t r) q) := by
  rw [Ref.keyPadded]
  unfold keyRow
  rw [sharedKey_eq (Ref.cosines (rowOf t r)) (Ref.sines (rowOf t r)) _ _ _ _ (fun k => arg5 m c (ix2 0 k)) (cos_row m c t r) (sin_row m c t r)
    (fun l => (in12 m c t 0 l).trans (prep12_apply m c l)) q]
  simp only [Ref.keyTurned, Ref.keyNormed]
  have hx : (fun k : Fin 64 => iblk m c 4 t (ix2 r ⟨k, by omega⟩)) = fun k : Fin 64 => arg0 m c (ix2 (rowOf t r) ⟨21760 + k, by omega⟩) :=
    funext fun k => in4 m c t r _
  rw [hx]

theorem halfKey_eq (r : Fin 320) (q : Fin 128) :
    halves (fun k l => iblk m c 16 t (ix2 k l)) (fun l => iblk m c 2 t (ix2 r l)) (fun l => iblk m c 15 t (ix2 0 l)) q
      = val_main_v157 (F := Ideal) (arg0 m c) (arg8 m c) (ix2 (rowOf t r) q) := by
  rw [Ref.halfKey, halves_eq _ _ _ (fun k => arg8 m c (ix2 0 k)) (fun k l => (in16 m c t k l).trans (prep16_apply m c k l))
    (fun l => (in15 m c t 0 l).trans (prep15_apply m c l))]
  refine congrArg (fun x => normed _ x _ _) (funext fun k => ?_)
  exact in2 m c t r _

theorem value_eq (r : Fin 320) (q : Fin 128) :
    iblk m c 3 t (ix2 r q) = val_main_v171 (F := Ideal) (arg0 m c) (ix2 (rowOf t r) q) := by
  rw [Ref.value]
  exact in3 m c t r q

theorem stackedRow_eq (r : Fin 320) (q : Fin 384) : stackedBlock (latentRow m c t) (keyRow m c t) (ix2 r q)
    = val_main_v169 (F := Ideal) (arg0 m c) (arg4 m c) (arg5 m c) (ix2 (rowOf t r) q) := by
  rw [Ref.stackedKeys]
  exact congrArg₂ (fun f g => stacked f g q) (funext fun k => latentRow_eq m c t r k) (funext fun k => keyRow_eq m c t r k)

theorem halfQuery_eq (h : Fin 16) (r : Fin 320) (q : Fin 128) :
    halfQueries (iblk m c 16 t) (iblk m c 14 t) (X0_1 m c t) (ix3 h r q)
      = val_main_v177 (F := Ideal) (arg0 m c) (arg7 m c) (ix3 h (rowOf t r) q) := by
  rw [Ref.halfQuery]
  show halves (fun k l => iblk m c 16 t (ix2 k l)) (headLanes h (fun l => X0_1 m c t (ix2 r l))) (fun l => iblk m c 14 t (ix2 0 l)) q * _ = _
  rw [halves_eq _ _ _ (fun k => arg7 m c (ix2 0 k)) (fun k l => (in16 m c t k l).trans (prep16_apply m c k l))
    (fun l => (in14 m c t 0 l).trans (prep14_apply m c l))]
  refine congrArg (fun x => normed _ x _ _ * _) (funext fun k => ?_)
  exact (in1 m c t r _).trans (col_eq _ _ _ _ (by simp only []; omega))

/-- The row of the latent queries before their projection. -/
theorem upRow_normed (r : Fin 320) (k : Fin 768) :
    normed (Ideal.ofBits .f32 0x44400000#32) (fun k : Fin 768 => X0_0 m c t (ix2 r ⟨k, by omega⟩)) (fun k => iblk m c 7 t (ix2 0 k)) k
      = val_main_v44 (F := Ideal) (arg0 m c) (arg1 m c) (ix2 (rowOf t r) k) := by
  rw [Ref.queryRow]
  exact congrArg₂ (fun x g => normed _ x g k) (funext fun k => in0 m c t r _) (funext fun k => (in7 m c t 0 k).trans (prep7_apply m c k))

theorem weight_eq (k : Fin 768) (h : Fin 16) (a : Fin 192) (q : Fin 4096) (l : Fin 128)
    (hq : q.val = 128 * h.val + l.val ∧ a.val = l.val ∨ q.val = 2048 + 128 * h.val + l.val ∧ l.val < 64 ∧ a.val = 128 + l.val) :
    iblk m c 8 t (ix2 k q) = arg2 m c (ix3 0 k ⟨h * 192 + a, by omega⟩) := by
  rw [in8 m c t k q, prep8_apply]
  rcases hq with ⟨h1, h2⟩ | ⟨h1, h2, h3⟩
  · rw [dif_pos (by omega)]
    exact congrArg (fun j => arg2 m c (ix3 0 k j)) (Fin.ext (by simp only []; omega))
  · rw [dif_neg (by omega), dif_pos (by omega)]
    exact congrArg (fun j => arg2 m c (ix3 0 k j)) (Fin.ext (by simp only []; omega))

theorem weight_zero (k : Fin 768) (h : Fin 16) (q : Fin 4096) (l : Fin 128) (hq : q.val = 2048 + 128 * h.val + l.val) (hl : ¬ l.val < 64) :
    iblk m c 8 t (ix2 k q) = (0 : EReal) := by
  rw [in8 m c t k q, prep8_apply, dif_neg (by omega), dif_neg (by omega)]

/-- A head's lanes in the projected row. -/
theorem lanes_eq (r : Fin 320) (h : Fin 16) (a : Fin 192) (q : Fin 4096) (l : Fin 128)
    (hq : q.val = 128 * h.val + l.val ∧ a.val = l.val ∨ q.val = 2048 + 128 * h.val + l.val ∧ l.val < 64 ∧ a.val = 128 + l.val) :
    upBlock (X0_0 m c t) (iblk m c 7 t) (iblk m c 8 t) (ix2 r q)
      = val_main_v48 (F := Ideal) (arg0 m c) (arg1 m c) (arg2 m c) (ix3 (rowOf t r) h a) := by
  rw [upBlock_apply, Ref.up]
  exact Finset.sum_congr rfl fun k _ => congrArg₂ (· * ·) (upRow_normed m c t r k) (weight_eq m c t k h a q l hq)

theorem lanes_zero (r : Fin 320) (h : Fin 16) (q : Fin 4096) (l : Fin 128) (hq : q.val = 2048 + 128 * h.val + l.val) (hl : ¬ l.val < 64) :
    upBlock (X0_0 m c t) (iblk m c 7 t) (iblk m c 8 t) (ix2 r q) = (0 : EReal) := by
  rw [upBlock_apply]
  exact Finset.sum_eq_zero fun k _ => (congrArg (_ * ·) (weight_zero m c t k h q l hq hl)).trans (mul_zero _)

/-- The keys' projection on the point's block. -/
def keyWeight (h : Fin 16) (k : Fin 128) (q : Fin 256) : EReal := iblk m c 13 t (ix3 h k q)

theorem keyWeight_eq (h : Fin 16) (k : Fin 128) (q : Fin 256) : keyWeight m c t h k q = arg6 m c (ix4 0 q h k) := by
  unfold keyWeight
  rw [in13 m c t h k q, prep13_apply]

/-- The projected row, and a head's lanes in it. -/
def projected (r : Fin 320) (q : Fin 4096) : EReal := upBlock (X0_0 m c t) (iblk m c 7 t) (iblk m c 8 t) (ix2 r q)

theorem plainLanes_eq (r : Fin 320) (h : Fin 16) (l : Fin 128) : plainLanes h (projected m c t r) l
    = val_main_v48 (F := Ideal) (arg0 m c) (arg1 m c) (arg2 m c) (ix3 (rowOf t r) h ⟨l, by omega⟩) :=
  lanes_eq m c t r h ⟨l, by omega⟩ ⟨128 * h + l, by omega⟩ l (.inl ⟨rfl, rfl⟩)

theorem rotaryLanes_eq (r : Fin 320) (h : Fin 16) (l : Fin 128) : rotaryLanes h (projected m c t r) l
    = if hl : (l : ℕ) < 64 then val_main_v48 (F := Ideal) (arg0 m c) (arg1 m c) (arg2 m c) (ix3 (rowOf t r) h ⟨128 + l, by omega⟩) else 0 := by
  by_cases hl : (l : ℕ) < 64
  · rw [dif_pos hl]
    exact lanes_eq m c t r h ⟨128 + l, by omega⟩ ⟨2048 + 128 * h + l, by omega⟩ l (.inr ⟨rfl, hl, rfl⟩)
  · rw [dif_neg hl]
    exact lanes_zero m c t r h ⟨2048 + 128 * h + l, by omega⟩ l rfl hl

theorem query_row_eq (h : Fin 16) (r : Fin 320) (q : Fin 384) :
    queries (iblk m c 5 t) (iblk m c 6 t) (iblk m c 9 t) (iblk m c 10 t) (iblk m c 13 t) (upBlock (X0_0 m c t) (iblk m c 7 t) (iblk m c 8 t)) (ix3 h r q)
      = val_main_v173 (F := Ideal) (arg0 m c) (arg1 m c) (arg2 m c) (arg3 m c) (arg6 m c) (ix3 h (rowOf t r) q) := by
  rw [Ref.queries]
  show query (fun l => iblk m c 5 t (ix2 r l)) (fun l => iblk m c 6 t (ix2 r l)) (fun l => iblk m c 9 t (ix2 0 l)) (fun l => iblk m c 10 t (ix2 0 l))
    (keyWeight m c t) (projected m c t r) h q = _
  rw [query_eq (Ref.cosines (rowOf t r)) (Ref.sines (rowOf t r)) _ _ _ _ _ _ h
    (fun l => val_main_v48 (F := Ideal) (arg0 m c) (arg1 m c) (arg2 m c) (ix3 (rowOf t r) h l)) (fun k => arg3 m c (ix2 0 k))
    (fun k q => arg6 m c (ix4 0 q h k)) (cos_row m c t r) (sin_row m c t r)
    (fun l => (in9 m c t 0 l).trans (prep9_apply m c l)) (fun l => (in10 m c t 0 l).trans (prep10_apply m c l))
    (keyWeight_eq m c t h)
    (plainLanes_eq m c t r h) (rotaryLanes_eq m c t r h)]
  simp only [Ref.queryLatent, Ref.queryTurned, Ref.full, scale_eq]

end Cert.Mixer
-- ==== Proof.MixerArrays.lean ====
/- The mixers' inputs: the arrays after the run. -/
module

public import proofs.«01_k».proof.Proof.MixerMatch

@[expose] public section

noncomputable section

namespace Cert.Mixer

open Idealize.ShloMosaic Idealize.ShloMosaic.TcCoe Idealize.SL.Sem Cert.Kernel9Ideal Cert.Kernel9Ideal.Gen Cert.Reference9Ideal.Read

/-- Which block each output window holds at a grid point; every point writes its block back. -/
theorem idx_out : ∀ t : Fin cfg0.N, (win0_17.index t = ![t.val, 0] ∧ win0_17.flush t = true) ∧ (win0_18.index t = ![t.val, 0] ∧ win0_18.flush t = true)
    ∧ (win0_19.index t = ![t.val, 0] ∧ win0_19.flush t = true) ∧ (win0_20.index t = ![t.val, 0] ∧ win0_20.flush t = true)
    ∧ (win0_21.index t = ![t.val, 0] ∧ win0_21.flush t = true) ∧ (win0_22.index t = ![t.val, 0] ∧ win0_22.flush t = true)
    ∧ (win0_23.index t = ![0, t.val, 0] ∧ win0_23.flush t = true) ∧ (win0_24.index t = ![0, t.val, 0] ∧ win0_24.flush t = true) :=
  (by decide +kernel : ∀ t : Fin grid0.N, _)

/-- A row's grid point. -/
theorem point_of (r : Fin 8320) : ∃ t : Fin cfg0.N, t.val = r.val / 320 :=
  ⟨⟨r.val / 320, by have : cfg0.N = 26 := N_0; omega⟩, rfl⟩

variable (m : (ℓ : Loc nD τ sig) → Buf (Elt Ideal) ℓ) (c : Dev nD)

/-- Output window 17: where an index of its block lies in the array. -/
theorem address_17 (t : Fin cfg0.N) (r : Fin 320) (q : Fin 256) : ((cfg0.win 17).blk t).view.emb (ix2 r q) = ix2 (rowOf t r) q := by
  obtain ⟨⟨e, -⟩, -, -, -, -, -, -, -⟩ := idx_out t
  funext a; apply Fin.ext
  match a with
  | ⟨0, _⟩ => show win0_17.index t 0 * 320 + 1 * r.val = t.val * 320 + r.val; rw [e]; show t.val * 320 + 1 * r.val = t.val * 320 + r.val; omega
  | ⟨1, _⟩ => show win0_17.index t 1 * 256 + 1 * q.val = q.val; rw [e]; show 0 * 256 + 1 * q.val = q.val; omega

/-- Its blocks reach every index of the array. -/
theorem reached_17 (i : S8320x256.Idx) : ∃ t : Fin cfg0.N, (cfg0.win 17).flush t = true ∧ i ∈ ((cfg0.win 17).blk t).view.set := by
  obtain ⟨t, ht⟩ := point_of (i 0)
  obtain ⟨⟨e, hf⟩, -, -, -, -, -, -, -⟩ := idx_out t
  refine ⟨t, hf, ?_⟩
  show i ∈ ((View.whole main_v81_0).slice (win0_17.rect t)).set
  rw [View.set_slice_whole, Rect.mem_set_unit]
  show ∀ a : Fin 2, win0_17.index t a * S320x256.size a ≤ (i a).val ∧ (i a).val < win0_17.index t a * S320x256.size a + S320x256.size a
  have h0 : (i 0).val < 8320 := (i 0).isLt
  have h1 : (i 1).val < 256 := (i 1).isLt
  intro a
  rw [e]
  match a with
  | ⟨0, _⟩ => show t.val * 320 ≤ (i 0).val ∧ (i 0).val < t.val * 320 + 320; omega
  | ⟨1, _⟩ => show 0 * 256 ≤ (i 1).val ∧ (i 1).val < 0 * 256 + 256; omega

/-- What the body leaves in it. -/
theorem left_17 (t : Fin cfg0.N) (r : Fin 320) (q : Fin 256) : out_17 m c t (ix2 r q) = val_main_v95 (F := Ideal) (arg0 m c) (arg4 m c) (ix2 (rowOf t r) q) := by
  unfold out_17
  rw [View.read_writes_eq_canon _ _ _ (covered_17 m c t)]
  exact (block_17 m c t r q).trans (latentRow_eq m c t r q)

/-- What is written back of it. -/
theorem flushed_17 (t : Fin cfg0.N) (r : Fin 320) (q : Fin 256) : (dats m 0 c).flushed 17 t (ix2 r q) = val_main_v95 (F := Ideal) (arg0 m c) (arg4 m c) (ix2 (rowOf t r) q) := by
  have e : (cfg0.win 17).cut (grid0.coords t) ((dats m 0 c).after 17 t) = (cfg0.win 17).cut (grid0.coords t) (out_17 m c t) :=
    congrArg _ (after_17 m c t)
  exact (congrFun e (ix2 r q)).trans (left_17 m c t r q)

/-- The latents. -/
theorem final_17 : (dats m 0 c).arrAt 17 cfg0.N = val_main_v95 (F := Ideal) (arg0 m c) (arg4 m c) := by
  refine (dats m 0 c).arrAt_eq_of_cover 17 _ (fun t _ => ?_) reached_17
  funext y
  obtain ⟨r, q, rfl⟩ : ∃ (r : Fin 320) (q : Fin 256), y = ix2 r q := ⟨y 0, y 1, eq_ix2 y⟩
  refine (flushed_17 m c t r q).trans ?_
  exact congrArg (val_main_v95 (F := Ideal) (arg0 m c) (arg4 m c)) (address_17 t r q).symm

/-- Output window 18: where an index of its block lies in the array. -/
theorem address_18 (t : Fin cfg0.N) (r : Fin 320) (q : Fin 128) : ((cfg0.win 18).blk t).view.emb (ix2 r q) = ix2 (rowOf t r) q := by
  obtain ⟨-, ⟨e, -⟩, -, -, -, -, -, -⟩ := idx_out t
  funext a; apply Fin.ext
  match a with
  | ⟨0, _⟩ => show win0_18.index t 0 * 320 + 1 * r.val = t.val * 320 + r.val; rw [e]; show t.val * 320 + 1 * r.val = t.val * 320 + r.val; omega
  | ⟨1, _⟩ => show win0_18.index t 1 * 128 + 1 * q.val = q.val; rw [e]; show 0 * 128 + 1 * q.val = q.val; omega

/-- Its blocks reach every index of the array. -/
theorem reached_18 (i : S8320x128.Idx) : ∃ t : Fin cfg0.N, (cfg0.win 18).flush t = true ∧ i ∈ ((cfg0.win 18).blk t).view.set := by
  obtain ⟨t, ht⟩ := point_of (i 0)
  obtain ⟨-, ⟨e, hf⟩, -, -, -, -, -, -⟩ := idx_out t
  refine ⟨t, hf, ?_⟩
  show i ∈ ((View.whole main_v81_1).slice (win0_18.rect t)).set
  rw [View.set_slice_whole, Rect.mem_set_unit]
  show ∀ a : Fin 2, win0_18.index t a * S320x128.size a ≤ (i a).val ∧ (i a).val < win0_18.index t a * S320x128.size a + S320x128.size a
  have h0 : (i 0).val < 8320 := (i 0).isLt
  have h1 : (i 1).val < 128 := (i 1).isLt
  intro a
  rw [e]
  match a with
  | ⟨0, _⟩ => show t.val * 320 ≤ (i 0).val ∧ (i 0).val < t.val * 320 + 320; omega
  | ⟨1, _⟩ => show 0 * 128 ≤ (i 1).val ∧ (i 1).val < 0 * 128 + 128; omega

/-- What the body leaves in it. -/
theorem left_18 (t : Fin cfg0.N) (r : Fin 320) (q : Fin 128) : out_18 m c t (ix2 r q) = val_main_v159 (F := Ideal) (arg0 m c) (arg5 m c) (ix2 (rowOf t r) q) := by
  unfold out_18
  rw [View.read_writes_eq_canon _ _ _ (covered_18 m c t)]
  exact (block_18 m c t r q).trans (keyRow_eq m c t r q)

/-- What is written back of it. -/
theorem flushed_18 (t : Fin cfg0.N) (r : Fin 320) (q : Fin 128) : (dats m 0 c).flushed 18 t (ix2 r q) = val_main_v159 (F := Ideal) (arg0 m c) (arg5 m c) (ix2 (rowOf t r) q) := by
  have e : (cfg0.win 18).cut (grid0.coords t) ((dats m 0 c).after 18 t) = (cfg0.win 18).cut (grid0.coords t) (out_18 m c t) :=
    congrArg _ (after_18 m c t)
  exact (congrFun e (ix2 r q)).trans (left_18 m c t r q)

/-- The shared keys, filled up with zeros. -/
theorem final_18 : (dats m 0 c).arrAt 18 cfg0.N = val_main_v159 (F := Ideal) (arg0 m c) (arg5 m c) := by
  refine (dats m 0 c).arrAt_eq_of_cover 18 _ (fun t _ => ?_) reached_18
  funext y
  obtain ⟨r, q, rfl⟩ : ∃ (r : Fin 320) (q : Fin 128), y = ix2 r q := ⟨y 0, y 1, eq_ix2 y⟩
  refine (flushed_18 m c t r q).trans ?_
  exact congrArg (val_main_v159 (F := Ideal) (arg0 m c) (arg5 m c)) (address_18 t r q).symm

/-- Output window 19: where an index of its block lies in the array. -/
theorem address_19 (t : Fin cfg0.N) (r : Fin 320) (q : Fin 128) : ((cfg0.win 19).blk t).view.emb (ix2 r q) = ix2 (rowOf t r) q := by
  obtain ⟨-, -, ⟨e, -⟩, -, -, -, -, -⟩ := idx_out t
  funext a; apply Fin.ext
  match a with
  | ⟨0, _⟩ => show win0_19.index t 0 * 320 + 1 * r.val = t.val * 320 + r.val; rw [e]; show t.val * 320 + 1 * r.val = t.val * 320 + r.val; omega
  | ⟨1, _⟩ => show win0_19.index t 1 * 128 + 1 * q.val = q.val; rw [e]; show 0 * 128 + 1 * q.val = q.val; omega

/-- Its blocks reach every index of the array. -/
theorem reached_19 (i : S8320x128.Idx) : ∃ t : Fin cfg0.N, (cfg0.win 19).flush t = true ∧ i ∈ ((cfg0.win 19).blk t).view.set := by
  obtain ⟨t, ht⟩ := point_of (i 0)
  obtain ⟨-, -, ⟨e, hf⟩, -, -, -, -, -⟩ := idx_out t
  refine ⟨t, hf, ?_⟩
  show i ∈ ((View.whole main_v81_2).slice (win0_19.rect t)).set
  rw [View.set_slice_whole, Rect.mem_set_unit]
  show ∀ a : Fin 2, win0_19.index t a * S320x128.size a ≤ (i a).val ∧ (i a).val < win0_19.index t a * S320x128.size a + S320x128.size a
  have h0 : (i 0).val < 8320 := (i 0).isLt
  have h1 : (i 1).val < 128 := (i 1).isLt
  intro a
  rw [e]
  match a with
  | ⟨0, _⟩ => show t.val * 320 ≤ (i 0).val ∧ (i 0).val < t.val * 320 + 320; omega
  | ⟨1, _⟩ => show 0 * 128 ≤ (i 1).val ∧ (i 1).val < 0 * 128 + 128; omega

/-- What the body leaves in it. -/
theorem left_19 (t : Fin cfg0.N) (r : Fin 320) (q : Fin 128) : out_19 m c t (ix2 r q) = val_main_v157 (F := Ideal) (arg0 m c) (arg8 m c) (ix2 (rowOf t r) q) := by
  unfold out_19
  rw [View.read_writes_eq_canon _ _ _ (covered_19 m c t)]
  exact (block_19 m c t r q).trans (halfKey_eq m c t r q)

/-- What is written back of it. -/
theorem flushed_19 (t : Fin cfg0.N) (r : Fin 320) (q : Fin 128) : (dats m 0 c).flushed 19 t (ix2 r q) = val_main_v157 (F := Ideal) (arg0 m c) (arg8 m c) (ix2 (rowOf t r) q) := by
  have e : (cfg0.win 19).cut (grid0.coords t) ((dats m 0 c).after 19 t) = (cfg0.win 19).cut (grid0.coords t) (out_19 m c t) :=
    congrArg _ (after_19 m c t)
  exact (congrFun e (ix2 r q)).trans (left_19 m c t r q)

/-- The key halves. -/
theorem final_19 : (dats m 0 c).arrAt 19 cfg0.N = val_main_v157 (F := Ideal) (arg0 m c) (arg8 m c) := by
  refine (dats m 0 c).arrAt_eq_of_cover 19 _ (fun t _ => ?_) reached_19
  funext y
  obtain ⟨r, q, rfl⟩ : ∃ (r : Fin 320) (q : Fin 128), y = ix2 r q := ⟨y 0, y 1, eq_ix2 y⟩
  refine (flushed_19 m c t r q).trans ?_
  exact congrArg (val_main_v157 (F := Ideal) (arg0 m c) (arg8 m c)) (address_19 t r q).symm

/-- Output window 20: where an index of its block lies in the array. -/
theorem address_20 (t : Fin cfg0.N) (r : Fin 320) (q : Fin 384) : ((cfg0.win 20).blk t).view.emb (ix2 r q) = ix2 (rowOf t r) q := by
  obtain ⟨-, -, -, ⟨e, -⟩, -, -, -, -⟩ := idx_out t
  funext a; apply Fin.ext
  match a with
  | ⟨0, _⟩ => show win0_20.index t 0 * 320 + 1 * r.val = t.val * 320 + r.val; rw [e]; show t.val * 320 + 1 * r.val = t.val * 320 + r.val; omega
  | ⟨1, _⟩ => show win0_20.index t 1 * 384 + 1 * q.val = q.val; rw [e]; show 0 * 384 + 1 * q.val = q.val; omega

/-- Its blocks reach every index of the array. -/
theorem reached_20 (i : S8320x384.Idx) : ∃ t : Fin cfg0.N, (cfg0.win 20).flush t = true ∧ i ∈ ((cfg0.win 20).blk t).view.set := by
  obtain ⟨t, ht⟩ := point_of (i 0)
  obtain ⟨-, -, -, ⟨e, hf⟩, -, -, -, -⟩ := idx_out t
  refine ⟨t, hf, ?_⟩
  show i ∈ ((View.whole main_v81_3).slice (win0_20.rect t)).set
  rw [View.set_slice_whole, Rect.mem_set_unit]
  show ∀ a : Fin 2, win0_20.index t a * S320x384.size a ≤ (i a).val ∧ (i a).val < win0_20.index t a * S320x384.size a + S320x384.size a
  have h0 : (i 0).val < 8320 := (i 0).isLt
  have h1 : (i 1).val < 384 := (i 1).isLt
  intro a
  rw [e]
  match a with
  | ⟨0, _⟩ => show t.val * 320 ≤ (i 0).val ∧ (i 0).val < t.val * 320 + 320; omega
  | ⟨1, _⟩ => show 0 * 384 ≤ (i 1).val ∧ (i 1).val < 0 * 384 + 384; omega

/-- What the body leaves in it. -/
theorem left_20 (t : Fin cfg0.N) (r : Fin 320) (q : Fin 384) : out_20 m c t (ix2 r q) = val_main_v169 (F := Ideal) (arg0 m c) (arg4 m c) (arg5 m c) (ix2 (rowOf t r) q) := by
  unfold out_20
  rw [View.read_writes_eq_canon _ _ _ (covered_20 m c t)]
  exact (block_20 m c t (ix2 r q)).trans (stackedRow_eq m c t r q)

/-- What is written back of it. -/
theorem flushed_20 (t : Fin cfg0.N) (r : Fin 320) (q : Fin 384) : (dats m 0 c).flushed 20 t (ix2 r q) = val_main_v169 (F := Ideal) (arg0 m c) (arg4 m c) (arg5 m c) (ix2 (rowOf t r) q) := by
  have e : (cfg0.win 20).cut (grid0.coords t) ((dats m 0 c).after 20 t) = (cfg0.win 20).cut (grid0.coords t) (out_20 m c t) :=
    congrArg _ (after_20 m c t)
  exact (congrFun e (ix2 r q)).trans (left_20 m c t r q)

/-- The latents and the shared keys, side by side. -/
theorem final_20 : (dats m 0 c).arrAt 20 cfg0.N = val_main_v169 (F := Ideal) (arg0 m c) (arg4 m c) (arg5 m c) := by
  refine (dats m 0 c).arrAt_eq_of_cover 20 _ (fun t _ => ?_) reached_20
  funext y
  obtain ⟨r, q, rfl⟩ : ∃ (r : Fin 320) (q : Fin 384), y = ix2 r q := ⟨y 0, y 1, eq_ix2 y⟩
  refine (flushed_20 m c t r q).trans ?_
  exact congrArg (val_main_v169 (F := Ideal) (arg0 m c) (arg4 m c) (arg5 m c)) (address_20 t r q).symm

/-- Output window 21: where an index of its block lies in the array. -/
theorem address_21 (t : Fin cfg0.N) (r : Fin 320) (q : Fin 128) : ((cfg0.win 21).blk t).view.emb (ix2 r q) = ix2 (rowOf t r) q := by
  obtain ⟨-, -, -, -, ⟨e, -⟩, -, -, -⟩ := idx_out t
  funext a; apply Fin.ext
  match a with
  | ⟨0, _⟩ => show win0_21.index t 0 * 320 + 1 * r.val = t.val * 320 + r.val; rw [e]; show t.val * 320 + 1 * r.val = t.val * 320 + r.val; omega
  | ⟨1, _⟩ => show win0_21.index t 1 * 128 + 1 * q.val = q.val; rw [e]; show 0 * 128 + 1 * q.val = q.val; omega

/-- Its blocks reach every index of the array. -/
theorem reached_21 (i : S8320x128.Idx) : ∃ t : Fin cfg0.N, (cfg0.win 21).flush t = true ∧ i ∈ ((cfg0.win 21).blk t).view.set := by
  obtain ⟨t, ht⟩ := point_of (i 0)
  obtain ⟨-, -, -, -, ⟨e, hf⟩, -, -, -⟩ := idx_out t
  refine ⟨t, hf, ?_⟩
  show i ∈ ((View.whole main_v81_4).slice (win0_21.rect t)).set
  rw [View.set_slice_whole, Rect.mem_set_unit]
  show ∀ a : Fin 2, win0_21.index t a * S320x128.size a ≤ (i a).val ∧ (i a).val < win0_21.index t a * S320x128.size a + S320x128.size a
  have h0 : (i 0).val < 8320 := (i 0).isLt
  have h1 : (i 1).val < 128 := (i 1).isLt
  intro a
  rw [e]
  match a with
  | ⟨0, _⟩ => show t.val * 320 ≤ (i 0).val ∧ (i 0).val < t.val * 320 + 320; omega
  | ⟨1, _⟩ => show 0 * 128 ≤ (i 1).val ∧ (i 1).val < 0 * 128 + 128; omega

/-- What the body leaves in it. -/
theorem left_21 (t : Fin cfg0.N) (r : Fin 320) (q : Fin 128) : out_21 m c t (ix2 r q) = val_main_v170 (F := Ideal) (arg0 m c) (arg8 m c) (ix2 (rowOf t r) q) := by
  unfold out_21
  rw [View.read_writes_eq_canon _ _ _ (covered_21 m c t)]
  exact (block_21 m c t r q).trans (halfKey_eq m c t r q)

/-- What is written back of it. -/
theorem flushed_21 (t : Fin cfg0.N) (r : Fin 320) (q : Fin 128) : (dats m 0 c).flushed 21 t (ix2 r q) = val_main_v170 (F := Ideal) (arg0 m c) (arg8 m c) (ix2 (rowOf t r) q) := by
  have e : (cfg0.win 21).cut (grid0.coords t) ((dats m 0 c).after 21 t) = (cfg0.win 21).cut (grid0.coords t) (out_21 m c t) :=
    congrArg _ (after_21 m c t)
  exact (congrFun e (ix2 r q)).trans (left_21 m c t r q)

/-- The key halves once more, at the lower precision. -/
theorem final_21 : (dats m 0 c).arrAt 21 cfg0.N = val_main_v170 (F := Ideal) (arg0 m c) (arg8 m c) := by
  refine (dats m 0 c).arrAt_eq_of_cover 21 _ (fun t _ => ?_) reached_21
  funext y
  obtain ⟨r, q, rfl⟩ : ∃ (r : Fin 320) (q : Fin 128), y = ix2 r q := ⟨y 0, y 1, eq_ix2 y⟩
  refine (flushed_21 m c t r q).trans ?_
  exact congrArg (val_main_v170 (F := Ideal) (arg0 m c) (arg8 m c)) (address_21 t r q).symm

/-- Output window 22: where an index of its block lies in the array. -/
theorem address_22 (t : Fin cfg0.N) (r : Fin 320) (q : Fin 128) : ((cfg0.win 22).blk t).view.emb (ix2 r q) = ix2 (rowOf t r) q := by
  obtain ⟨-, -, -, -, -, ⟨e, -⟩, -, -⟩ := idx_out t
  funext a; apply Fin.ext
  match a with
  | ⟨0, _⟩ => show win0_22.index t 0 * 320 + 1 * r.val = t.val * 320 + r.val; rw [e]; show t.val * 320 + 1 * r.val = t.val * 320 + r.val; omega
  | ⟨1, _⟩ => show win0_22.index t 1 * 128 + 1 * q.val = q.val; rw [e]; show 0 * 128 + 1 * q.val = q.val; omega

/-- Its blocks reach every index of the array. -/
theorem reached_22 (i : S8320x128.Idx) : ∃ t : Fin cfg0.N, (cfg0.win 22).flush t = true ∧ i ∈ ((cfg0.win 22).blk t).view.set := by
  obtain ⟨t, ht⟩ := point_of (i 0)
  obtain ⟨-, -, -, -, -, ⟨e, hf⟩, -, -⟩ := idx_out t
  refine ⟨t, hf, ?_⟩
  show i ∈ ((View.whole main_v81_5).slice (win0_22.rect t)).set
  rw [View.set_slice_whole, Rect.mem_set_unit]
  show ∀ a : Fin 2, win0_22.index t a * S320x128.size a ≤ (i a).val ∧ (i a).val < win0_22.index t a * S320x128.size a + S320x128.size a
  have h0 : (i 0).val < 8320 := (i 0).isLt
  have h1 : (i 1).val < 128 := (i 1).isLt
  intro a
  rw [e]
  match a with
  | ⟨0, _⟩ => show t.val * 320 ≤ (i 0).val ∧ (i 0).val < t.val * 320 + 320; omega
  | ⟨1, _⟩ => show 0 * 128 ≤ (i 1).val ∧ (i 1).val < 0 * 128 + 128; omega

/-- What the body leaves in it. -/
theorem left_22 (t : Fin cfg0.N) (r : Fin 320) (q : Fin 128) : out_22 m c t (ix2 r q) = val_main_v171 (F := Ideal) (arg0 m c) (ix2 (rowOf t r) q) := by
  unfold out_22
  rw [View.read_writes_eq_canon _ _ _ (covered_22 m c t)]
  exact (block_22 m c t r q).trans (value_eq m c t r q)

/-- What is written back of it. -/
theorem flushed_22 (t : Fin cfg0.N) (r : Fin 320) (q : Fin 128) : (dats m 0 c).flushed 22 t (ix2 r q) = val_main_v171 (F := Ideal) (arg0 m c) (ix2 (rowOf t r) q) := by
  have e : (cfg0.win 22).cut (grid0.coords t) ((dats m 0 c).after 22 t) = (cfg0.win 22).cut (grid0.coords t) (out_22 m c t) :=
    congrArg _ (after_22 m c t)
  exact (congrFun e (ix2 r q)).trans (left_22 m c t r q)

/-- The values. -/
theorem final_22 : (dats m 0 c).arrAt 22 cfg0.N = val_main_v171 (F := Ideal) (arg0 m c) := by
  refine (dats m 0 c).arrAt_eq_of_cover 22 _ (fun t _ => ?_) reached_22
  funext y
  obtain ⟨r, q, rfl⟩ : ∃ (r : Fin 320) (q : Fin 128), y = ix2 r q := ⟨y 0, y 1, eq_ix2 y⟩
  refine (flushed_22 m c t r q).trans ?_
  exact congrArg (val_main_v171 (F := Ideal) (arg0 m c)) (address_22 t r q).symm

/-- Output window 23: where an index of its block lies in the array. -/
theorem address_23 (t : Fin cfg0.N) (h : Fin 16) (r : Fin 320) (q : Fin 384) : ((cfg0.win 23).blk t).view.emb (ix3 h r q) = ix3 h (rowOf t r) q := by
  obtain ⟨-, -, -, -, -, -, ⟨e, -⟩, -⟩ := idx_out t
  funext a; apply Fin.ext
  match a with
  | ⟨0, _⟩ => show win0_23.index t 0 * 16 + 1 * h.val = h.val; rw [e]; show 0 * 16 + 1 * h.val = h.val; omega
  | ⟨1, _⟩ => show win0_23.index t 1 * 320 + 1 * r.val = t.val * 320 + r.val; rw [e]; show t.val * 320 + 1 * r.val = t.val * 320 + r.val; omega
  | ⟨2, _⟩ => show win0_23.index t 2 * 384 + 1 * q.val = q.val; rw [e]; show 0 * 384 + 1 * q.val = q.val; omega

/-- Its blocks reach every index of the array. -/
theorem reached_23 (i : S16x8320x384.Idx) : ∃ t : Fin cfg0.N, (cfg0.win 23).flush t = true ∧ i ∈ ((cfg0.win 23).blk t).view.set := by
  obtain ⟨t, ht⟩ := point_of (i 1)
  obtain ⟨-, -, -, -, -, -, ⟨e, hf⟩, -⟩ := idx_out t
  refine ⟨t, hf, ?_⟩
  show i ∈ ((View.whole main_v81_6).slice (win0_23.rect t)).set
  rw [View.set_slice_whole, Rect.mem_set_unit]
  show ∀ a : Fin 3, win0_23.index t a * S16x320x384.size a ≤ (i a).val ∧ (i a).val < win0_23.index t a * S16x320x384.size a + S16x320x384.size a
  have h0 : (i 0).val < 16 := (i 0).isLt
  have h1 : (i 1).val < 8320 := (i 1).isLt
  have h2 : (i 2).val < 384 := (i 2).isLt
  intro a
  rw [e]
  match a with
  | ⟨0, _⟩ => show 0 * 16 ≤ (i 0).val ∧ (i 0).val < 0 * 16 + 16; omega
  | ⟨1, _⟩ => show t.val * 320 ≤ (i 1).val ∧ (i 1).val < t.val * 320 + 320; omega
  | ⟨2, _⟩ => show 0 * 384 ≤ (i 2).val ∧ (i 2).val < 0 * 384 + 384; omega

/-- What the body leaves in it. -/
theorem left_23 (t : Fin cfg0.N) (h : Fin 16) (r : Fin 320) (q : Fin 384) : out_23 m c t (ix3 h r q) = val_main_v173 (F := Ideal) (arg0 m c) (arg1 m c) (arg2 m c) (arg3 m c) (arg6 m c) (ix3 h (rowOf t r) q) := by
  unfold out_23
  rw [View.read_writes_eq_canon _ _ _ (covered_23 m c t)]
  exact (block_23 m c t (ix3 h r q)).trans (query_row_eq m c t h r q)

/-- What is written back of it. -/
theorem flushed_23 (t : Fin cfg0.N) (h : Fin 16) (r : Fin 320) (q : Fin 384) : (dats m 0 c).flushed 23 t (ix3 h r q) = val_main_v173 (F := Ideal) (arg0 m c) (arg1 m c) (arg2 m c) (arg3 m c) (arg6 m c) (ix3 h (rowOf t r) q) := by
  have e : (cfg0.win 23).cut (grid0.coords t) ((dats m 0 c).after 23 t) = (cfg0.win 23).cut (grid0.coords t) (out_23 m c t) :=
    congrArg _ (after_23 m c t)
  exact (congrFun e (ix3 h r q)).trans (left_23 m c t h r q)

/-- The queries of the latent attention, heads first. -/
theorem final_23 : (dats m 0 c).arrAt 23 cfg0.N = val_main_v173 (F := Ideal) (arg0 m c) (arg1 m c) (arg2 m c) (arg3 m c) (arg6 m c) := by
  refine (dats m 0 c).arrAt_eq_of_cover 23 _ (fun t _ => ?_) reached_23
  funext y
  obtain ⟨h, r, q, rfl⟩ : ∃ (h : Fin 16) (r : Fin 320) (q : Fin 384), y = ix3 h r q := ⟨y 0, y 1, y 2, eq_ix3 y⟩
  refine (flushed_23 m c t h r q).trans ?_
  exact congrArg (val_main_v173 (F := Ideal) (arg0 m c) (arg1 m c) (arg2 m c) (arg3 m c) (arg6 m c)) (address_23 t h r q).symm

/-- Output window 24: where an index of its block lies in the array. -/
theorem address_24 (t : Fin cfg0.N) (h : Fin 16) (r : Fin 320) (q : Fin 128) : ((cfg0.win 24).blk t).view.emb (ix3 h r q) = ix3 h (rowOf t r) q := by
  obtain ⟨-, -, -, -, -, -, -, ⟨e, -⟩⟩ := idx_out t
  funext a; apply Fin.ext
  match a with
  | ⟨0, _⟩ => show win0_24.index t 0 * 16 + 1 * h.val = h.val; rw [e]; show 0 * 16 + 1 * h.val = h.val; omega
  | ⟨1, _⟩ => show win0_24.index t 1 * 320 + 1 * r.val = t.val * 320 + r.val; rw [e]; show t.val * 320 + 1 * r.val = t.val * 320 + r.val; omega
  | ⟨2, _⟩ => show win0_24.index t 2 * 128 + 1 * q.val = q.val; rw [e]; show 0 * 128 + 1 * q.val = q.val; omega

/-- Its blocks reach every index of the array. -/
theorem reached_24 (i : S16x8320x128.Idx) : ∃ t : Fin cfg0.N, (cfg0.win 24).flush t = true ∧ i ∈ ((cfg0.win 24).blk t).view.set := by
  obtain ⟨t, ht⟩ := point_of (i 1)
  obtain ⟨-, -, -, -, -, -, -, ⟨e, hf⟩⟩ := idx_out t
  refine ⟨t, hf, ?_⟩
  show i ∈ ((View.whole main_v81_7).slice (win0_24.rect t)).set
  rw [View.set_slice_whole, Rect.mem_set_unit]
  show ∀ a : Fin 3, win0_24.index t a * S16x320x128.size a ≤ (i a).val ∧ (i a).val < win0_24.index t a * S16x320x128.size a + S16x320x128.size a
  have h0 : (i 0).val < 16 := (i 0).isLt
  have h1 : (i 1).val < 8320 := (i 1).isLt
  have h2 : (i 2).val < 128 := (i 2).isLt
  intro a
  rw [e]
  match a with
  | ⟨0, _⟩ => show 0 * 16 ≤ (i 0).val ∧ (i 0).val < 0 * 16 + 16; omega
  | ⟨1, _⟩ => show t.val * 320 ≤ (i 1).val ∧ (i 1).val < t.val * 320 + 320; omega
  | ⟨2, _⟩ => show 0 * 128 ≤ (i 2).val ∧ (i 2).val < 0 * 128 + 128; omega

/-- What the body leaves in it. -/
theorem left_24 (t : Fin cfg0.N) (h : Fin 16) (r : Fin 320) (q : Fin 128) : out_24 m c t (ix3 h r q) = val_main_v177 (F := Ideal) (arg0 m c) (arg7 m c) (ix3 h (rowOf t r) q) := by
  unfold out_24
  rw [View.read_writes_eq_canon _ _ _ (covered_24 m c t)]
  exact (block_24 m c t (ix3 h r q)).trans (halfQuery_eq m c t h r q)

/-- What is written back of it. -/
theorem flushed_24 (t : Fin cfg0.N) (h : Fin 16) (r : Fin 320) (q : Fin 128) : (dats m 0 c).flushed 24 t (ix3 h r q) = val_main_v177 (F := Ideal) (arg0 m c) (arg7 m c) (ix3 h (rowOf t r) q) := by
  have e : (cfg0.win 24).cut (grid0.coords t) ((dats m 0 c).after 24 t) = (cfg0.win 24).cut (grid0.coords t) (out_24 m c t) :=
    congrArg _ (after_24 m c t)
  exact (congrFun e (ix3 h r q)).trans (left_24 m c t h r q)

/-- The query halves, heads first. -/
theorem final_24 : (dats m 0 c).arrAt 24 cfg0.N = val_main_v177 (F := Ideal) (arg0 m c) (arg7 m c) := by
  refine (dats m 0 c).arrAt_eq_of_cover 24 _ (fun t _ => ?_) reached_24
  funext y
  obtain ⟨h, r, q, rfl⟩ : ∃ (h : Fin 16) (r : Fin 320) (q : Fin 128), y = ix3 h r q := ⟨y 0, y 1, y 2, eq_ix3 y⟩
  refine (flushed_24 m c t h r q).trans ?_
  exact congrArg (val_main_v177 (F := Ideal) (arg0 m c) (arg7 m c)) (address_24 t h r q).symm

end Cert.Mixer
-- ==== Proof.MixerInputs.lean ====
/- The mixers' inputs: the claims. -/
module

public import proofs.«01_k».proof.Proof.MixerArrays
public import proofs.«01_k».proof.Proof.Gen.Reference9Ideal.Run
public import proofs.«01_k».proof.Defs

@[expose] public section

noncomputable section

namespace Cert.MixerInputs

open Idealize.ShloMosaic Idealize.ShloMosaic.TcCoe Idealize.SL.Sem Cert.Mixer

/-- The two named constants are the numbers they name. -/
theorem preserves : Cert.preserves_Kernel9_Kernel9Ideal :=
  ⟨IdealRules.named_const.statement Cert.Kernel9Ideal.κ "width" .f32 0x3BAAAAAB#32 ((1 / 192 : ℝ) : EReal) rfl,
    IdealRules.named_const.statement Cert.Kernel9Ideal.κ "root" .f32 0x3D93CD3A#32 (((Real.sqrt 192)⁻¹ : ℝ) : EReal) rfl⟩

/-- The kernel run ends with the arguments unchanged. -/
theorem frame_pi : Cert.quiescent_Kernel9Ideal := fun m ρ _ => frame_kernel m ρ

set_option maxHeartbeats 4000000 in
open Cert.Reference9Ideal.Read in
/-- Kernel and reference agree on all eight results. -/
theorem algebraic : Cert.algebraic_Kernel9Ideal_Reference9Ideal := by
  intro m g m' g' _ hm
  refine ⟨fun c => val_main_v95 (F := Ideal) (arg0 m c) (arg4 m c), fun c => val_main_v159 (F := Ideal) (arg0 m c) (arg5 m c),
    fun c => val_main_v157 (F := Ideal) (arg0 m c) (arg8 m c), fun c => val_main_v169 (F := Ideal) (arg0 m c) (arg4 m c) (arg5 m c),
    fun c => val_main_v170 (F := Ideal) (arg0 m c) (arg8 m c), fun c => val_main_v171 (F := Ideal) (arg0 m c),
    fun c => val_main_v173 (F := Ideal) (arg0 m c) (arg1 m c) (arg2 m c) (arg3 m c) (arg6 m c),
    fun c => val_main_v177 (F := Ideal) (arg0 m c) (arg7 m c), ?_, ?_⟩
  · refine (θ_run _ _ _).mono (fun r h c => ?_) (run_blocks m g)
    obtain ⟨h0, h1, h2, h3, h4, h5, h6, h7, args⟩ := h c
    exact ⟨h0.trans (final_17 m c), h1.trans (final_18 m c), h2.trans (final_19 m c), h3.trans (final_20 m c),
      h4.trans (final_21 m c), h5.trans (final_22 m c), h6.trans (final_23 m c), h7.trans (final_24 m c), args⟩
  · refine (θ_run _ _ _).mono (fun r h c => ?_) (Cert.Reference9Ideal.Value.run m' g')
    obtain ⟨h0, h1, h2, h3, h4, h5, h6, h7, args⟩ := h c
    obtain ⟨e0, e1, e2, e3, e4, e5, e6, e7, e8⟩ := hm c
    refine ⟨(h0.trans (val_main_v95_eq _)).trans ?_, (h1.trans (val_main_v159_eq _)).trans ?_, (h2.trans (val_main_v157_eq _)).trans ?_,
      (h3.trans (val_main_v169_eq _)).trans ?_, (h4.trans (val_main_v170_eq _)).trans ?_, (h5.trans (val_main_v171_eq _)).trans ?_,
      (h6.trans (val_main_v173_eq _)).trans ?_, (h7.trans (val_main_v177_eq _)).trans ?_, args⟩
    · exact congr (congrArg (val_main_v95 (F := Ideal)) e0) e4
    · exact congr (congrArg (val_main_v159 (F := Ideal)) e0) e5
    · exact congr (congrArg (val_main_v157 (F := Ideal)) e0) e8
    · exact congr (congr (congrArg (val_main_v169 (F := Ideal)) e0) e4) e5
    · exact congr (congrArg (val_main_v170 (F := Ideal)) e0) e8
    · exact congrArg (val_main_v171 (F := Ideal)) e0
    · exact congr (congr (congr (congr (congrArg (val_main_v173 (F := Ideal)) e0) e1) e2) e3) e6
    · exact congr (congrArg (val_main_v177 (F := Ideal)) e0) e7

end Cert.MixerInputs
-- ==== Proof.RowNorm.lean ====
/-
  The row norm before the mixers: the prompt and the new tokens in one array, each row divided by its root mean square and
  scaled by the layer's weights, 320 rows at a grid point; and that the reference, which norms the two inputs apart, agrees.
-/
module

public import proofs.«01_k».proof.Proof.Gen.Kernel10Ideal.Value
public import proofs.«01_k».proof.Proof.Gen.Reference10Ideal.Run
public import proofs.«01_k».proof.Proof.Gen.Reference10Ideal.Read
public import proofs.«01_k».proof.Defs
public import Idealize.ShloMosaic.Lib.Pointwise

@[expose] public section

noncomputable section

namespace Cert.RowNorm

open Cert.Kernel10Ideal Cert.Kernel10Ideal.Gen Idealize.ShloMosaic Idealize.ShloMosaic.TcCoe Idealize.SL.Sem
open Idealize.ShloMosaic.Pipeline (Dat)

/-- One over the root mean square of a row of 4096 numbers, the program's two constants left as their words. -/
def invRms (x : Fin 4096 → EReal) : EReal :=
  Ideal.rsqrt (Ideal.div (∑ k, x k * x k) (Ideal.ofBits .f32 0x45800000#32) + Ideal.ofBits .f32 0x358637BD#32)

/-- The prompt's rows, then the new tokens' rows. -/
def tokens (xp : S4x2048x4096.Idx → EReal) (xs : S128x1x4096.Idx → EReal) : S8320x4096.Idx → EReal :=
  concatenate S8320x4096 0 [⟨S8192x4096, shapeCast S8192x4096 xp shapeCasts_S4x2048x4096_S8192x4096⟩,
    ⟨S128x4096, shapeCast S128x4096 xs shapeCasts_S128x1x4096_S128x4096⟩] concatenates_S8192x4096_S128x4096_S8320x4096_d0

/-- What the call computes: every token's row normed, with the first layer's weights. -/
def spec (xp : S4x2048x4096.Idx → EReal) (xs : S128x1x4096.Idx → EReal) (nrm : S2x4096.Idx → EReal) : S8320x4096.Idx → EReal :=
  fun i => tokens xp xs i * invRms (fun k => tokens xp xs (ix2 (i 0) k)) * nrm (ix2 0 (i 1))

section concatenation
variable {α : Type} (y : S8192x4096.Idx → α) (z : S128x4096.Idx → α) (row : Fin 8320) (k : Fin 4096)

/-- A row before the 8192nd is a row of the first array. -/
theorem rows_left (h) (r : Fin 8192) (hr : r.val = row.val) :
    concatenate S8320x4096 0 [⟨S8192x4096, y⟩, ⟨S128x4096, z⟩] h (ix2 row k) = y (ix2 r k) :=
  concatenate_pair_apply_left 0 y z h _ rfl _ fun b => match b with
    | ⟨0, _⟩ => hr
    | ⟨1, _⟩ => rfl

/-- A row from the 8192nd on is a row of the second. -/
theorem rows_right (h) (r : Fin 128) (hr : r.val + 8192 = row.val) :
    concatenate S8320x4096 0 [⟨S8192x4096, y⟩, ⟨S128x4096, z⟩] h (ix2 row k) = z (ix2 r k) :=
  concatenate_pair_apply_right 0 y z h _ rfl rfl _ (fun b hb => match b, hb with
    | ⟨0, _⟩, hb => absurd rfl hb
    | ⟨1, _⟩, _ => rfl) hr
end concatenation

/-- Row `2048 a + b` of the prompt's rows is token `b` of prompt `a`. -/
theorem prompt_rows {α : Type} (x : S4x2048x4096.Idx → α) (h) (r : Fin 8192) (k : Fin 4096) (a : Fin 4) (b : Fin 2048)
    (hr : r.val = a.val * 2048 + b.val) : shapeCast S8192x4096 x h (ix2 r k) = x (ix3 a b k) := by
  refine shapeCast_apply _ h (ix2 r k) (ix3 a b k) ?_
  rw [Shape.rowMajor_val_two, Shape.rowMajor_val_three]
  show (a.val * 2048 + b.val) * 4096 + k.val = r.val * 4096 + k.val
  rw [hr]

/-- Row `r` of the new tokens' rows. -/
theorem sample_rows {α : Type} (x : S128x1x4096.Idx → α) (h) (r : Fin 128) (k : Fin 4096) :
    shapeCast S128x4096 x h (ix2 r k) = x (ix3 r 0 k) := by
  refine shapeCast_apply _ h (ix2 r k) (ix3 r 0 k) ?_
  rw [Shape.rowMajor_val_two, Shape.rowMajor_val_three]
  show (r.val * 1 + 0) * 4096 + k.val = r.val * 4096 + k.val
  omega

/-- The block the kernel stores, at one row and column. -/
theorem payload_apply (x : Vec Ideal S320x4096 .f32) (nrm : Vec Ideal S1x4096 .f32) (r : Fin 320) (q : Fin 4096) :
    k0_pay1 x nrm (ix2 r q) = x (ix2 r q) * invRms (fun k => x (ix2 r k)) * nrm (ix2 0 q) := by
  unfold k0_pay1 invRms
  pointwise

/-- The blocks each point reads and writes: row tile `t` of the tokens, the weights' row. -/
theorem idx_facts : ∀ t : Fin cfg0.N, win0_0.index t = ![t.val, 0] ∧ win0_1.index t = ![0, 0]
    ∧ win0_2.index t = ![t.val, 0] ∧ win0_2.flush t = true :=
  (by decide +kernel : ∀ t : Fin grid0.N, _)

variable (m : (ℓ : Loc nD τ sig) → Buf (Elt Ideal) ℓ)

theorem hz2 : (![0, 0] : Fin 2 → Nat) = fun _ => 0 := funext fun a => by fin_cases a <;> rfl

/-- The tokens as the call sees them. -/
theorem tokens_eq (c : Dev nD) : V m c main_v2
    = tokens (m ((c : Thread nD τ).loc main_arg0)) (m ((c : Thread nD τ).loc main_arg1)) := by
  show StableHlo.after _ (fun b => m (c, b)) (Proc.devRef .tc main_v2) = _
  after_results
  rfl

/-- The norm's weights as the call sees them: the first layer's row. -/
theorem norm_eq (c : Dev nD) : V m c main_v5 = shapeCast S1x4096 (shapeCast S4096
      (extractStridedSlice S1x4096 ![0, 0] (m ((c : Thread nD τ).loc main_arg2)) slices_S2x4096_S1x4096_0_0)
      shapeCasts_S1x4096_S4096) shapeCasts_S4096_S1x4096 := by
  show StableHlo.after _ (fun b => m (c, b)) (Proc.devRef .tc main_v5) = _
  after_results
  rfl

/-- The token block of a point: rows `320 · t …` of the tokens. -/
theorem rows_apply (c : Dev nD) (t : Fin cfg0.N) (r : Fin 320) (k : Fin 4096) (row : Fin 8320) (hr : row.val = t.val * 320 + r.val) :
    iblk m c 0 t (ix2 r k) = tokens (m ((c : Thread nD τ).loc main_arg0)) (m ((c : Thread nD τ).loc main_arg1)) (ix2 row k) := by
  obtain ⟨e0, -⟩ := idx_facts t
  rw [← tokens_eq m c]
  refine congrArg (V m c main_v2) (funext fun a => Fin.ext ?_)
  match a with
  | ⟨0, _⟩ => show win0_0.index t 0 * 320 + 1 * r.val = row.val; rw [e0, hr]; simp
  | ⟨1, _⟩ => show win0_0.index t 1 * 4096 + 1 * k.val = k.val; rw [e0]; simp

/-- The weight block of a point. -/
theorem norm_apply (c : Dev nD) (t : Fin cfg0.N) (k : Fin 4096) :
    iblk m c 1 t (ix2 0 k) = m ((c : Thread nD τ).loc main_arg2) (ix2 0 k) := by
  obtain ⟨-, e1, -⟩ := idx_facts t
  have h : iblk m c 1 t (ix2 0 k) = V m c main_v5 (ix2 0 k) := by
    refine congrArg (V m c main_v5) (funext fun a => Fin.ext ?_)
    match a with
    | ⟨0, _⟩ => show win0_1.index t 0 * 1 + 1 * 0 = 0; rw [e1]; simp
    | ⟨1, _⟩ => show win0_1.index t 1 * 4096 + 1 * k.val = k.val; rw [e1]; simp
  rw [h, norm_eq]
  generalize m ((c : Thread nD τ).loc main_arg2) = w
  pointwise

/-- What point `t` writes back is its block of `spec`. -/
theorem flushed_eq (c : Dev nD) (t : Fin cfg0.N) :
    (dats m 0 c).flushed 2 t = ((cfg0.win 2).blk t).view.read (Elt Ideal)
      (spec (m ((c : Thread nD τ).loc main_arg0)) (m ((c : Thread nD τ).loc main_arg1)) (m ((c : Thread nD τ).loc main_arg2))) := by
  rw [Value.flushed2]
  obtain ⟨-, -, e2, -⟩ := idx_facts t
  have ht : t.val < 26 := lt_of_lt_of_eq t.isLt N_0
  funext y
  obtain ⟨r, q, rfl⟩ : ∃ (r : Fin 320) (q : Fin 4096), y = ix2 r q := ⟨y 0, y 1, eq_ix2 y⟩
  show out0_2 _ _ (ix2 r q) = _
  unfold out0_2
  rw [View.canon_unit_zero hz2]
  rw [View.ld_unit_zero (S := S320x4096) hz2, View.ld_unit_zero (S := S1x4096) hz2]
  rw [payload_apply, norm_apply m c t q, funext fun k => rows_apply m c t r k ⟨t.val * 320 + r.val, by omega⟩ rfl,
    rows_apply m c t r q ⟨t.val * 320 + r.val, by omega⟩ rfl]
  have hi : ((cfg0.win 2).blk t).view.emb (ix2 r q) = ix2 (⟨t.val * 320 + r.val, by omega⟩ : Fin 8320) q := by
    funext a; apply Fin.ext
    match a with
    | ⟨0, _⟩ => show win0_2.index t 0 * 320 + 1 * r.val = _; rw [e2]; simp
    | ⟨1, _⟩ => show win0_2.index t 1 * 4096 + 1 * q.val = _; rw [e2]; simp
  show _ = spec _ _ _ (((cfg0.win 2).blk t).view.emb (ix2 r q))
  rw [hi]
  rfl

/-- An entry lies in a point's block when each coordinate is in the block's range. -/
theorem mem_block (t : Fin cfg0.N) (i : S8320x4096.Idx) :
    i ∈ ((cfg0.win 2).blk t).view.set ↔ ∀ a : Fin 2, win0_2.index t a * S320x4096.size a ≤ (i a).val
      ∧ (i a).val < win0_2.index t a * S320x4096.size a + S320x4096.size a := by
  show i ∈ ((View.whole main_v6).slice (win0_2.rect t)).set ↔ _
  rw [View.set_slice_whole, Rect.mem_set_unit]
  exact Iff.rfl

/-- Every entry lies in the block of some point. -/
theorem covered (i : S8320x4096.Idx) : ∃ t : Fin cfg0.N, (cfg0.win 2).flush t = true ∧ i ∈ ((cfg0.win 2).blk t).view.set := by
  have h0 : (i 0).val < 8320 := (i 0).isLt
  have h1 : (i 1).val < 4096 := (i 1).isLt
  have hN : cfg0.N = 26 := N_0
  obtain ⟨t, ht⟩ : ∃ t : Fin cfg0.N, t.val = (i 0).val / 320 := ⟨⟨(i 0).val / 320, by omega⟩, rfl⟩
  obtain ⟨-, -, e2, hf⟩ := idx_facts t
  refine ⟨t, hf, (mem_block t i).2 fun a => ?_⟩
  rw [e2]
  match a with
  | ⟨0, _⟩ => show t.val * 320 ≤ (i 0).val ∧ (i 0).val < t.val * 320 + 320; omega
  | ⟨1, _⟩ => show 0 * 4096 ≤ (i 1).val ∧ (i 1).val < 0 * 4096 + 4096; omega

/-- The result array after the run. -/
theorem final (c : Dev nD) : (dats m 0 c).arrAt 2 cfg0.N
    = spec (m ((c : Thread nD τ).loc main_arg0)) (m ((c : Thread nD τ).loc main_arg1)) (m ((c : Thread nD τ).loc main_arg2)) :=
  (dats m 0 c).arrAt_eq_of_cover 2 _ (fun t _ => flushed_eq m c t) covered

section reference
open Cert.Reference10Ideal.Read

variable (xp : S4x2048x4096.Idx → EReal) (xs : S128x1x4096.Idx → EReal) (nrm : S2x4096.Idx → EReal)

/-- The reference's normed prompt, at one entry. -/
theorem ref_prompt (a : Fin 4) (b : Fin 2048) (q : Fin 4096) : val_main_v14 (F := Ideal) xp nrm (ix3 a b q)
    = xp (ix3 a b q) * invRms (fun k => xp (ix3 a b k)) * nrm (ix2 0 q) := by
  unfold val_main_v14 val_main_v13 val_main_v12 val_main_v11 val_main_v10 val_main_v9 val_main_v8 val_main_v7 val_main_v6
    val_main_v5 val_main_v4 val_main_v3 val_main_v2 val_main_v1 val_main_v0 val_main_cst val_main_cst_0 val_main_cst_1 invRms
  pointwise

/-- The reference's normed new tokens, at one entry. -/
theorem ref_sample (a : Fin 128) (q : Fin 4096) : val_main_v29 (F := Ideal) xs nrm (ix3 a 0 q)
    = xs (ix3 a 0 q) * invRms (fun k => xs (ix3 a 0 k)) * nrm (ix2 0 q) := by
  unfold val_main_v29 val_main_v28 val_main_v27 val_main_v26 val_main_v25 val_main_v24 val_main_v23 val_main_v22 val_main_v21
    val_main_v20 val_main_v19 val_main_v18 val_main_v17 val_main_v16 val_main_v15 val_main_cst_2 val_main_cst_3 val_main_cst_4 invRms
  pointwise

/-- The reference's result is `spec`. -/
theorem ref_eq : val_main_v33 (F := Ideal) xp xs nrm = spec xp xs nrm := by
  funext i
  obtain ⟨row, q, rfl⟩ : ∃ (row : Fin 8320) (q : Fin 4096), i = ix2 row q := ⟨i 0, i 1, eq_ix2 i⟩
  show val_main_v32 (F := Ideal) xp xs nrm (ix2 row q)
    = tokens xp xs (ix2 row q) * invRms (fun k => tokens xp xs (ix2 row k)) * nrm (ix2 0 q)
  unfold val_main_v32 val_main_v31 val_main_v30 tokens
  by_cases h : row.val < 8192
  · have hr : (⟨row.val, h⟩ : Fin 8192).val = (⟨row.val / 2048, by omega⟩ : Fin 4).val * 2048
        + (⟨row.val % 2048, by omega⟩ : Fin 2048).val := by show row.val = row.val / 2048 * 2048 + row.val % 2048; omega
    rw [rows_left _ _ row q _ ⟨row.val, h⟩ rfl, rows_left _ _ row q _ ⟨row.val, h⟩ rfl,
      funext fun k => rows_left _ _ row k _ ⟨row.val, h⟩ rfl, prompt_rows _ _ _ q _ _ hr, prompt_rows _ _ _ q _ _ hr,
      funext fun k => prompt_rows _ _ _ k _ _ hr]
    exact ref_prompt xp nrm _ _ q
  · have hr : (⟨row.val - 8192, by omega⟩ : Fin 128).val + 8192 = row.val := by show row.val - 8192 + 8192 = row.val; omega
    rw [rows_right _ _ row q _ _ hr, rows_right _ _ row q _ _ hr, funext fun k => rows_right _ _ row k _ _ hr,
      sample_rows _ _ _ q, sample_rows _ _ _ q, funext fun k => sample_rows _ _ _ k]
    exact ref_sample xs nrm _ q

end reference

/-- The kernel and the reference leave the same array. -/
theorem algebraic : Cert.algebraic_Kernel10Ideal_Reference10Ideal := by
  intro m g m' g' _ hm
  refine ⟨fun c => spec (m ((c.tc : Thread nD τ).loc main_arg0)) (m ((c.tc : Thread nD τ).loc main_arg1))
    (m ((c.tc : Thread nD τ).loc main_arg2)), ?_, ?_⟩
  · refine (θ_run _ _ _).mono (fun r h c => ?_) (Value.run_blocks m g)
    exact ⟨(h c).1.trans (final m c), (h c).2⟩
  · refine (θ_run _ _ _).mono (fun r h c => ?_) (Cert.Reference10Ideal.Value.run m' g')
    refine ⟨(h c).1.trans ?_, (h c).2⟩
    obtain ⟨e0, e1, e2⟩ := hm c
    refine (Cert.Reference10Ideal.Read.val_main_v33_eq _ _ _).trans ?_
    rw [e0, e1, e2]
    exact ref_eq _ _ _

end Cert.RowNorm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Reference9Ideal.Run
public import proofs.«01_k».proof.Proof.Gen.Reference9Ideal.Read
public import proofs.«01_k».proof.Proof.Gen.Kernel10Ideal.Value
public import proofs.«01_k».proof.Proof.Gen.Reference10Ideal.Run
public import proofs.«01_k».proof.Proof.Gen.Reference10Ideal.Read
public import proofs.«01_k».proof.Proof.References
public import proofs.«01_k».proof.Proof.Routing
public import proofs.«01_k».proof.Proof.ExpertUp
public import proofs.«01_k».proof.Proof.ExpertDown
public import proofs.«01_k».proof.Proof.InputProjection
public import proofs.«01_k».proof.Proof.DenseUp
public import proofs.«01_k».proof.Proof.DenseDown
public import proofs.«01_k».proof.Proof.Merge
public import proofs.«01_k».proof.Proof.OutputProjection
public import proofs.«01_k».proof.Proof.MixerInputs
public import proofs.«01_k».proof.Proof.MixerPrintedFrame
public import proofs.«01_k».proof.Proof.RowNorm
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts,
  Cert.Kernel3Ideal.Gen.facts, Cert.Reference3Ideal.Gen.facts, Cert.Kernel4.Gen.facts,
  Cert.Kernel4Ideal.Gen.facts, Cert.Reference4Ideal.Gen.facts, Cert.Kernel5.Gen.facts,
  Cert.Kernel5Ideal.Gen.facts, Cert.Reference5Ideal.Gen.facts, Cert.Kernel6.Gen.facts,
  Cert.Kernel6Ideal.Gen.facts, Cert.Reference6Ideal.Gen.facts, Cert.Kernel7.Gen.facts,
  Cert.Kernel7Ideal.Gen.facts, Cert.Reference7Ideal.Gen.facts, Cert.Kernel8.Gen.facts,
  Cert.Kernel8Ideal.Gen.facts, Cert.Reference8Ideal.Gen.facts, Cert.Kernel9.Gen.facts,
  Cert.Kernel9Ideal.Gen.facts, Cert.Reference9Ideal.Gen.facts, Cert.Kernel10.Gen.facts,
  Cert.Kernel10Ideal.Gen.facts, Cert.Reference10Ideal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  fun m ρ _ => Cert.References.frame_ReferenceIdeal m ρ trivial,
  fun m ρ _ => Cert.References.frame_ReferenceIdeal m ρ trivial,
  fun m ρ _ => Cert.Kernel2.Gen.frame m ρ,
  fun m ρ _ => Cert.Kernel2Ideal.Gen.frame m ρ,
  fun m ρ _ => Cert.References.frame_Reference2Ideal m ρ trivial,
  fun m ρ _ => Cert.Kernel3.Gen.frame m ρ,
  fun m ρ _ => Cert.Kernel3Ideal.Gen.frame m ρ,
  fun m ρ _ => Cert.References.frame_Reference3Ideal m ρ trivial,
  fun m ρ _ => Cert.Kernel4.Gen.frame m ρ,
  fun m ρ _ => Cert.Kernel4Ideal.Gen.frame m ρ,
  fun m ρ _ => Cert.References.frame_Reference4Ideal m ρ trivial,
  fun m ρ _ => Cert.Kernel5.Gen.frame m ρ,
  fun m ρ _ => Cert.Kernel5Ideal.Gen.frame m ρ,
  fun m ρ _ => Cert.References.frame_Reference5Ideal m ρ trivial,
  fun m ρ _ => Cert.Kernel6.Gen.frame m ρ,
  fun m ρ _ => Cert.Kernel6Ideal.Gen.frame m ρ,
  fun m ρ _ => Cert.References.frame_Reference6Ideal m ρ trivial,
  fun m ρ _ => Cert.Kernel7.Gen.frame m ρ,
  fun m ρ _ => Cert.Kernel7Ideal.Gen.frame m ρ,
  fun m ρ _ => Cert.References.frame_Reference7Ideal m ρ trivial,
  fun m ρ _ => Cert.Kernel8.Gen.frame m ρ,
  fun m ρ _ => Cert.Kernel8Ideal.Gen.frame m ρ,
  fun m ρ _ => Cert.References.frame_Reference8Ideal m ρ trivial,
  fun m ρ _ => Cert.MixerPrinted.frame_kernel m ρ,
  Cert.MixerInputs.frame_pi,
  fun m ρ _ => Cert.References.frame_Reference9Ideal m ρ trivial,
  fun m ρ _ => Cert.Kernel10.Gen.frame m ρ,
  fun m ρ _ => Cert.Kernel10Ideal.Gen.frame m ρ,
  fun m ρ _ => Cert.References.frame_Reference10Ideal m ρ trivial,
  trivial, Cert.Routing.algebraic,
  trivial, Cert.ExpertUp.algebraic,
  trivial, Cert.ExpertDown.algebraic,
  trivial, Cert.InputProjection.algebraic,
  trivial, Cert.DenseUp.algebraic,
  trivial, Cert.DenseDown.algebraic,
  trivial, Cert.Merge.algebraic,
  trivial, Cert.OutputProjection.algebraic,
  Cert.MixerInputs.preserves, Cert.MixerInputs.algebraic,
  trivial, Cert.RowNorm.algebraic⟩

end Cert.Proof

end
